-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_idx_in_range : Cert.Pre_idx_in_range.Facts] (m : (ℓ : Loc Cert.Kernel2.nD Cert.Kernel2.τ Cert.Kernel2.sig) → Buf (Elt Bits) ℓ) : Prop :=
  ∀ c : Dev Cert.Kernel2.nD,
    (Cert.Pre_idx_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_idx_in_range : Cert.Pre_idx_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_idx_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal [hPre_idx_in_range : Cert.Pre_idx_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_idx_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_idx_in_range : Cert.Pre_idx_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_idx_in_range : Cert.Pre_idx_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] [hPre_idx_in_range : Cert.Pre_idx_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_idx_in_range : Cert.Pre_idx_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)) (v4 : (c : Dev Cert.Kernel4Ideal.nD) → Buf (Elt Ideal) ((c.tc : Thread Cert.Kernel4Ideal.nD Cert.Kernel4Ideal.τ).loc Cert.Kernel4Ideal.main_v9_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_v9_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_v46) = v2 c
          ∧ r.2.mem ((c.tc : Thread Cert.Reference4Ideal.nD Cert.Reference4Ideal.τ).loc Cert.Reference4Ideal.main_v47) = v3 c
          ∧ r.2.mem ((c.tc : Thread Cert.Reference4Ideal.nD Cert.Reference4Ideal.τ).loc Cert.Reference4Ideal.main_v48) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v18_0)) (v1 : (c : Dev Cert.Kernel5Ideal.nD) → Buf (Elt Ideal) ((c.tc : Thread Cert.Kernel5Ideal.nD Cert.Kernel5Ideal.τ).loc Cert.Kernel5Ideal.main_v18_1)) (v2 : (c : Dev Cert.Kernel5Ideal.nD) → Buf (Elt Ideal) ((c.tc : Thread Cert.Kernel5Ideal.nD Cert.Kernel5Ideal.τ).loc Cert.Kernel5Ideal.main_v18_2)) (v3 : (c : Dev Cert.Kernel5Ideal.nD) → Buf (Elt Ideal) ((c.tc : Thread Cert.Kernel5Ideal.nD Cert.Kernel5Ideal.τ).loc Cert.Kernel5Ideal.main_v18_3)) (v4 : (c : Dev Cert.Kernel5Ideal.nD) → Buf (Elt Ideal) ((c.tc : Thread Cert.Kernel5Ideal.nD Cert.Kernel5Ideal.τ).loc Cert.Kernel5Ideal.main_v18_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_0) = v0 c
          ∧ r.2.mem ((c.tc : Thread Cert.Kernel5Ideal.nD Cert.Kernel5Ideal.τ).loc Cert.Kernel5Ideal.main_v18_1) = v1 c
          ∧ r.2.mem ((c.tc : Thread Cert.Kernel5Ideal.nD Cert.Kernel5Ideal.τ).loc Cert.Kernel5Ideal.main_v18_2) = v2 c
          ∧ r.2.mem ((c.tc : Thread Cert.Kernel5Ideal.nD Cert.Kernel5Ideal.τ).loc Cert.Kernel5Ideal.main_v18_3) = v3 c
          ∧ r.2.mem ((c.tc : Thread Cert.Kernel5Ideal.nD Cert.Kernel5Ideal.τ).loc Cert.Kernel5Ideal.main_v18_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_v21) = v2 c
          ∧ r.2.mem ((c.tc : Thread Cert.Reference5Ideal.nD Cert.Reference5Ideal.τ).loc Cert.Reference5Ideal.main_v22) = v3 c
          ∧ r.2.mem ((c.tc : Thread Cert.Reference5Ideal.nD Cert.Reference5Ideal.τ).loc Cert.Reference5Ideal.main_v23) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_idx_in_range : Cert.Pre_idx_in_range.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_idx_in_range := hPre_idx_in_range)
    ∧ quiescent_Kernel2Ideal (hKernel2Ideal := hKernel2Ideal) (hPre_idx_in_range := hPre_idx_in_range)
    ∧ quiescent_Reference2Ideal (hReference2Ideal := hReference2Ideal) (hPre_idx_in_range := hPre_idx_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_idx_in_range := hPre_idx_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S4096x2048 : Shape := ⟨2, ![4096, 2048]⟩
abbrev S4096x128 : Shape := ⟨2, ![4096, 128]⟩
abbrev S1024x2048 : Shape := ⟨2, ![1024, 2048]⟩
abbrev S1024x128 : Shape := ⟨2, ![1024, 128]⟩
abbrev S_ : Shape := ⟨0, ![]⟩
abbrev S4096x8x256 : Shape := ⟨3, ![4096, 8, 256]⟩
abbrev S4096x8x128 : Shape := ⟨3, ![4096, 8, 128]⟩
abbrev S1024x8x256 : Shape := ⟨3, ![1024, 8, 256]⟩
abbrev S1024x8x128 : Shape := ⟨3, ![1024, 8, 128]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S1024x128 : S_.BroadcastsInDim S1024x128 (![] : Fin 0 → Fin S1024x128.rank)
  reducesTo_S1024x128_S_d0_1 : S1024x128.ReducesTo [0, 1] S_
  shapeCasts_S4096x2048_S4096x8x256 : S4096x2048.ShapeCasts S4096x8x256
  slices_S4096x8x256_S4096x8x128_0_0_0 : S4096x8x256.Slices ![0, 0, 0] S4096x8x128
  bcast_S_S4096x8x128 : S_.BroadcastsInDim S4096x8x128 (![] : Fin 0 → Fin S4096x8x128.rank)
  reducesTo_S4096x8x128_S_d0_1_2 : S4096x8x128.ReducesTo [0, 1, 2] S_
  shapeCasts_S1024x2048_S1024x8x256 : S1024x2048.ShapeCasts S1024x8x256
  slices_S1024x8x256_S1024x8x128_0_0_0 : S1024x8x256.Slices ![0, 0, 0] S1024x8x128
  bcast_S_S1024x8x128 : S_.BroadcastsInDim S1024x8x128 (![] : Fin 0 → Fin S1024x8x128.rank)
  reducesTo_S1024x8x128_S_d0_1_2 : S1024x8x128.ReducesTo [0, 1, 2] S_

variable [Facts]

def fn_part1 {F : FTy → Type} [FloatOps F] (main_arg3 : FVec F S1024x2048 .bf16) (main_v16 : IVec S_ 1) (main_v17 : FVec F S4096x8x256 .bf16) : IVec S_ 1 :=
  let main_v18 : FVec F S4096x8x128 .bf16 := (extractStridedSlice S4096x8x128 ![0, 0, 0] · slices_S4096x8x256_S4096x8x128_0_0_0) main_v17
  let main_v19 : FVec F S4096x8x128 .f32 := (extf .f32 · bitsLt_bf16_f32) main_v18
  let main_v20 : FVec F S4096x8x128 .f32 := Host.absf main_v19
  let main_cst_4 : FVec F S_ .f32 := constant S_ .f32 0x7F800000#32
  let main_v21 : FVec F S4096x8x128 .f32 := broadcastInDim S4096x8x128 ![] bcast_S_S4096x8x128 main_cst_4
  let main_v22 : IVec S4096x8x128 1 := cmpf .olt main_v20 main_v21
  let main_c_5 : IVec S_ 1 := constantI S_ 1 1#1
  let main_v23 : IVec S_ 1 := (fun x v => Host.reduce IntOp.andi x v reducesTo_S4096x8x128_S_d0_1_2 h_S_) main_v22 main_c_5
  let main_v24 : IVec S_ 1 := andi main_v16 main_v23
  let main_v25 : FVec F S1024x8x256 .bf16 := shapeCast S1024x8x256 main_arg3 shapeCasts_S1024x2048_S1024x8x256
  let main_v26 : FVec F S1024x8x128 .bf16 := (extractStridedSlice S1024x8x128 ![0, 0, 0] · slices_S1024x8x256_S1024x8x128_0_0_0) main_v25
  let main_v27 : FVec F S1024x8x128 .f32 := (extf .f32 · bitsLt_bf16_f32) main_v26
  let main_v28 : FVec F S1024x8x128 .f32 := Host.absf main_v27
  let main_cst_6 : FVec F S_ .f32 := constant S_ .f32 0x7F800000#32
  let main_v29 : FVec F S1024x8x128 .f32 := broadcastInDim S1024x8x128 ![] bcast_S_S1024x8x128 main_cst_6
  let main_v30 : IVec S1024x8x128 1 := cmpf .olt main_v28 main_v29
  let main_c_7 : IVec S_ 1 := constantI S_ 1 1#1
  let main_v31 : IVec S_ 1 := (fun x v => Host.reduce IntOp.andi x v reducesTo_S1024x8x128_S_d0_1_2 h_S_) main_v30 main_c_7
  let main_v32 : IVec S_ 1 := andi main_v24 main_v31
  main_v32

def fn {F : FTy → Type} [FloatOps F] (main_arg0 : FVec F S4096x2048 .bf16) (main_arg1 : FVec F S4096x2048 .bf16) (main_arg2 : FVec F S4096x128 .bf16) (main_arg3 : FVec F S1024x2048 .bf16) (main_arg4 : FVec F S1024x128 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x128 .f32 := (extf .f32 · bitsLt_bf16_f32) main_arg2
  let main_v6 : FVec F S4096x128 .f32 := Host.absf main_v5
  let main_cst_0 : FVec F S_ .f32 := constant S_ .f32 0x7F800000#32
  let main_v7 : FVec F S4096x128 .f32 := broadcastInDim S4096x128 ![] bcast_S_S4096x128 main_cst_0
  let main_v8 : IVec S4096x128 1 := cmpf .olt main_v6 main_v7
  let main_c_1 : IVec S_ 1 := constantI S_ 1 1#1
  let main_v9 : IVec S_ 1 := (fun x v => Host.reduce IntOp.andi x v reducesTo_S4096x128_S_d0_1 h_S_) main_v8 main_c_1
  let main_v10 : IVec S_ 1 := andi main_v4 main_v9
  let main_v11 : FVec F S1024x128 .f32 := (extf .f32 · bitsLt_bf16_f32) main_arg4
  let main_v12 : FVec F S1024x128 .f32 := Host.absf main_v11
  let main_cst_2 : FVec F S_ .f32 := constant S_ .f32 0x7F800000#32
  let main_v13 : FVec F S1024x128 .f32 := broadcastInDim S1024x128 ![] bcast_S_S1024x128 main_cst_2
  let main_v14 : IVec S1024x128 1 := cmpf .olt main_v12 main_v13
  let main_c_3 : IVec S_ 1 := constantI S_ 1 1#1
  let main_v15 : IVec S_ 1 := (fun x v => Host.reduce IntOp.andi x v reducesTo_S1024x128_S_d0_1 h_S_) main_v14 main_c_3
  let main_v16 : IVec S_ 1 := andi main_v10 main_v15
  let main_v17 : FVec F S4096x8x256 .bf16 := shapeCast S4096x8x256 main_arg1 shapeCasts_S4096x2048_S4096x8x256
  fn_part1 (F := F) main_arg3 main_v16 main_v17
-- ==== Pre_idx_in_range.lean ====
abbrev S16384 : Shape := ⟨1, ![16384]⟩
abbrev S32768x128 : Shape := ⟨2, ![32768, 128]⟩
abbrev S16x512x128 : Shape := ⟨3, ![16, 512, 128]⟩
abbrev S64x1024x2048 : Shape := ⟨3, ![64, 1024, 2048]⟩
abbrev S64x2048x1024 : Shape := ⟨3, ![64, 2048, 1024]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S32768x128 .f32) (main_arg2 : FVec F S32768x128 .f32) (main_arg3 : FVec F S16x512x128 .f32) (main_arg4 : FVec F S16x512x128 .f32) (main_arg5 : FVec F S64x1024x2048 .f32) (main_arg6 : FVec F S64x1024x2048 .f32) (main_arg7 : FVec F S64x2048x1024 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 4096#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S4096x2048 : Shape := ⟨2, ![4096, 2048]⟩
abbrev S4096x128 : Shape := ⟨2, ![4096, 128]⟩
abbrev S1024x2048 : Shape := ⟨2, ![1024, 2048]⟩
abbrev S1024x128 : Shape := ⟨2, ![1024, 128]⟩
abbrev S4096x1024 : Shape := ⟨2, ![4096, 1024]⟩
abbrev S512x2048 : Shape := ⟨2, ![512, 2048]⟩
abbrev S256x2048 : Shape := ⟨2, ![256, 2048]⟩
abbrev S256x128 : Shape := ⟨2, ![256, 128]⟩
abbrev S512x1024 : Shape := ⟨2, ![512, 1024]⟩
abbrev S512x256 : Shape := ⟨2, ![512, 256]⟩
abbrev S256x256 : Shape := ⟨2, ![256, 256]⟩
abbrev S1024x256 : Shape := ⟨2, ![1024, 256]⟩
abbrev S512 : Shape := ⟨1, ![512]⟩
abbrev S512x1 : Shape := ⟨2, ![512, 1]⟩
abbrev S512x128 : Shape := ⟨2, ![512, 128]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x128, .bf16⟩
  | .hbm, ⟨3, _⟩ => ⟨S1024x2048, .bf16⟩
  | .hbm, ⟨4, _⟩ => ⟨S1024x128, .bf16⟩
  | .hbm, ⟨5, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x128, .bf16⟩
  | .local _ .vmem, ⟨5, _⟩ => ⟨S1024x128, .bf16⟩
  | .local _ .vmem, ⟨6, _⟩ => ⟨S256x2048, .bf16⟩
  | .local _ .vmem, ⟨7, _⟩ => ⟨S256x2048, .bf16⟩
  | .local _ .vmem, ⟨8, _⟩ => ⟨S256x128, .bf16⟩
  | .local _ .vmem, ⟨9, _⟩ => ⟨S256x128, .bf16⟩
  | .local _ .vmem, ⟨10, _⟩ => ⟨S512x1024, .bf16⟩
  | .local _ .vmem, ⟨11, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4096x2048 : Shape := ⟨2, ![4096, 2048]⟩
abbrev S4096x128 : Shape := ⟨2, ![4096, 128]⟩
abbrev S1024x2048 : Shape := ⟨2, ![1024, 2048]⟩
abbrev S1024x128 : Shape := ⟨2, ![1024, 128]⟩
abbrev S4x1024x8x256 : Shape := ⟨4, ![4, 1024, 8, 256]⟩
abbrev S4x1024x1x128 : Shape := ⟨4, ![4, 1024, 1, 128]⟩
abbrev S4x1024x8x128 : Shape := ⟨4, ![4, 1024, 8, 128]⟩
abbrev S4x256x8x256 : Shape := ⟨4, ![4, 256, 8, 256]⟩
abbrev S4x256x1x128 : Shape := ⟨4, ![4, 256, 1, 128]⟩
abbrev S4x256x8x128 : Shape := ⟨4, ![4, 256, 8, 128]⟩
abbrev S4x1280x8x256 : Shape := ⟨4, ![4, 1280, 8, 256]⟩
abbrev S4x1280x8x128 : Shape := ⟨4, ![4, 1280, 8, 128]⟩
abbrev S4x8x1024x1280 : Shape := ⟨4, ![4, 8, 1024, 1280]⟩
abbrev S_ : Shape := ⟨0, ![]⟩
abbrev S4x8x1024 : Shape := ⟨3, ![4, 8, 1024]⟩
abbrev S4x8x1024x1 : Shape := ⟨4, ![4, 8, 1024, 1]⟩
abbrev S4x8x128x1024 : Shape := ⟨4, ![4, 8, 128, 1024]⟩
abbrev S4096x1024 : Shape := ⟨2, ![4096, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x128, .bf16⟩
  | .hbm, ⟨3, _⟩ => ⟨S1024x2048, .bf16⟩
  | .hbm, ⟨4, _⟩ => ⟨S1024x128, .bf16⟩
  | .hbm, ⟨5, _⟩ => ⟨S4096x2048, .f32⟩
  | .hbm, ⟨6, _⟩ => ⟨S4x1024x8x256, .f32⟩
  | .hbm, ⟨7, _⟩ => ⟨S4096x2048, .f32⟩
  | .hbm, ⟨8, _⟩ => ⟨S4x1024x8x256, .f32⟩
  | .hbm, ⟨9, _⟩ => ⟨S4096x128, .f32⟩
  | .hbm, ⟨10, _⟩ => ⟨S4x1024x1x128, .f32⟩
  | .hbm, ⟨11, _⟩ => ⟨S4x1024x8x128, .f32⟩
  | .hbm, ⟨12, _⟩ => ⟨S4x1024x8x128, .f32⟩
  | .hbm, ⟨13, _⟩ => ⟨S4x1024x8x256, .f32⟩
  | .hbm, ⟨14, _⟩ => ⟨S4x1024x8x128, .f32⟩
  | .hbm, ⟨15, _⟩ => ⟨S1024x2048, .f32⟩
  | .hbm, ⟨16, _⟩ => ⟨S4x256x8x256, .f32⟩
  | .hbm, ⟨17, _⟩ => ⟨S1024x128, .f32⟩
  | .hbm, ⟨18, _⟩ => ⟨S4x256x1x128, .f32⟩
  | .hbm, ⟨19, _⟩ => ⟨S4x256x8x128, .f32⟩
  | .hbm, ⟨20, _⟩ => ⟨S4x256x8x128, .f32⟩
  | .hbm, ⟨21, _⟩ => ⟨S4x256x8x256, .f32⟩
  | .hbm, ⟨22, _⟩ => ⟨S4x256x8x128, .f32⟩
  | .hbm, ⟨23, _⟩ => ⟨S4x1280x8x256, .f32⟩
  | .hbm, ⟨24, _⟩ => ⟨S4x1280x8x128, .f32⟩
  | .hbm, ⟨25, _⟩ => ⟨S4x8x1024x1280, .f32⟩
  | .hbm, ⟨26, _⟩ => ⟨S_, .f32⟩
  | .hbm, ⟨27, _⟩ => ⟨S4x8x1024x1280, .f32⟩
  | .hbm, ⟨28, _⟩ => ⟨S4x8x1024x1280, .f32⟩
  | .hbm, ⟨29, _⟩ => ⟨S_, .f32⟩
  | .hbm, ⟨30, _⟩ => ⟨S4x8x1024, .f32⟩
  | .hbm, ⟨31, _⟩ => ⟨S_, .f32⟩
  | .hbm, ⟨32, _⟩ => ⟨S4x8x1024, .f32⟩
  | .hbm, ⟨33, _⟩ => ⟨S4x8x1024, .f32⟩
  | .hbm, ⟨34, _⟩ => ⟨S4x8x1024x1, .f32⟩
  | .hbm, ⟨35, _⟩ => ⟨S4x8x1024x1280, .f32⟩
  | .hbm, ⟨36, _⟩ => ⟨S4x8x1024x1280, .f32⟩
  | .hbm, ⟨37, _⟩ => ⟨S4x8x1024x1280, .f32⟩
  | .hbm, ⟨38, _⟩ => ⟨S_, .f32⟩
  | .hbm, ⟨39, _⟩ => ⟨S4x8x1024, .f32⟩
  | .hbm, ⟨40, _⟩ => ⟨S4x8x1024x1, .f32⟩
  | .hbm, ⟨41, _⟩ => ⟨S4x8x1024x1280, .f32⟩
  | .hbm, ⟨42, _⟩ => ⟨S4x8x1024x1280, .f32⟩
  | .hbm, ⟨43, _⟩ => ⟨S4x8x128x1024, .f32⟩
  | .hbm, ⟨44, _⟩ => ⟨S4x1024x8x128, .f32⟩
  | .hbm, ⟨45, _⟩ => ⟨S4096x1024, .f32⟩
  | .hbm, ⟨46, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Kernel2.lean ====
abbrev S16384 : Shape := ⟨1, ![16384]⟩
abbrev S32768x128 : Shape := ⟨2, ![32768, 128]⟩
abbrev S16x512x128 : Shape := ⟨3, ![16, 512, 128]⟩
abbrev S64x1024x2048 : Shape := ⟨3, ![64, 1024, 2048]⟩
abbrev S64x2048x1024 : Shape := ⟨3, ![64, 2048, 1024]⟩
abbrev S16x1024x1024 : Shape := ⟨3, ![16, 1024, 1024]⟩
abbrev S1x512x128 : Shape := ⟨3, ![1, 512, 128]⟩
abbrev S1x1024x1024 : Shape := ⟨3, ![1, 1024, 1024]⟩
abbrev S8192x128 : Shape := ⟨2, ![8192, 128]⟩
abbrev S1024x1024 : Shape := ⟨2, ![1024, 1024]⟩
abbrev S1 : Shape := ⟨1, ![1]⟩
abbrev S_ : Shape := ⟨0, ![]⟩
abbrev S8x128 : Shape := ⟨2, ![8, 128]⟩
abbrev S1024x128 : Shape := ⟨2, ![1024, 128]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S512x128 : Shape := ⟨2, ![512, 128]⟩
abbrev S512 : Shape := ⟨1, ![512]⟩
abbrev S512x1 : Shape := ⟨2, ![512, 1]⟩
abbrev S1024x1 : Shape := ⟨2, ![1024, 1]⟩

abbrev nBuf : Space → Nat
  | .hbm => 8
  | .vmem => 15
  | .smem => 1
  | _ => 0

abbrev bufTy : (tb : Table) → Fin (tcTables nBuf tb) → BufTy
  | .hbm, ⟨0, _⟩ => ⟨S32768x128, .f32⟩
  | .hbm, ⟨1, _⟩ => ⟨S32768x128, .f32⟩
  | .hbm, ⟨2, _⟩ => ⟨S16x512x128, .f32⟩
  | .hbm, ⟨3, _⟩ => ⟨S16x512x128, .f32⟩
  | .hbm, ⟨4, _⟩ => ⟨S64x1024x2048, .f32⟩
  | .hbm, ⟨5, _⟩ => ⟨S64x1024x2048, .f32⟩
  | .hbm, ⟨6, _⟩ => ⟨S64x2048x1024, .f32⟩
  | .hbm, ⟨7, _⟩ => ⟨S16x1024x1024, .bf16⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S8192x128, .f32⟩
  | .local _ .vmem, ⟨13, _⟩ => ⟨S1024x1024, .bf16⟩
  | .local _ .vmem, ⟨14, _⟩ => ⟨S1024x1024, .f32⟩
  | .local _ .smem, ⟨0, _⟩ => ⟨S16384, .i32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_75 : BitVec 32 := 0#32
  let v115 : BitVec 1 := Scalar.cmpi .eq arg0 c0_i32_75
  let v116 : BitVec 32 := Scalar.extui v115
  let c0_i32_76 : BitVec 32 := 0#32
  let v117 : BitVec 1 := Scalar.cmpi .ne v116 c0_i32_76
  v117

@[reducible] def k0_t1_loop : Scf.Loop 32 :=
  let c0_i32_104 : BitVec 32 := 0#32
  let c512_i32 : BitVec 32 := 512#32
  let v168 : BitVec 32 := Scalar.addi c0_i32_104 c512_i32
  let c1_i32_105 : BitVec 32 := 1#32
  ⟨c0_i32_104, v168, c1_i32_105⟩
def k0_off1 (k0_t1 : Fin k0_t1_loop.trips) : Fin 1 → Nat :=
  let c0_i32_107 : BitVec 32 := 0#32
  let c0_i32_104 : BitVec 32 := 0#32
  let c1_i32_105 : BitVec 32 := 1#32
  let arg15 : BitVec 32 := Scf.iv c0_i32_104 c1_i32_105 k0_t1
  let v169 : BitVec 32 := Scalar.addi c0_i32_107 arg15
  let v170 : Index := Scalar.indexCast v169
  ![v170.toNat]
def k0_mult1 (v171 : BitVec 32) : BitVec 32 :=
  let c8_i32 : BitVec 32 := 8#32
  let v172 : BitVec 32 := Scalar.muli v171 c8_i32
  v172

def k0_mult2 (k0_t1 : Fin k0_t1_loop.trips) : BitVec 32 :=
  let c0_i32_104 : BitVec 32 := 0#32
  let c1_i32_105 : BitVec 32 := 1#32
  let arg15 : BitVec 32 := Scf.iv c0_i32_104 c1_i32_105 k0_t1
  let c8_i32_108 : BitVec 32 := 8#32
  let v174 : BitVec 32 := Scalar.muli arg15 c8_i32_108
  v174
def k0_off2 (k0_t1 : Fin k0_t1_loop.trips) : Fin 2 → Nat :=
  let c0_i32_104 : BitVec 32 := 0#32
  let c1_i32_105 : BitVec 32 := 1#32
  let arg15 : BitVec 32 := Scf.iv c0_i32_104 c1_i32_105 k0_t1
  let c8_i32_108 : BitVec 32 := 8#32
  let v174 : BitVec 32 := Scalar.muli arg15 c8_i32_108
  let v175 : BitVec 32 := v174
  let c0_i32_110 : BitVec 32 := 0#32
  ![v175.toNat, 0]
def k0_off3 (v171 : BitVec 32) : Fin 2 → Nat :=
  let c8_i32 : BitVec 32 := 8#32
  let v172 : BitVec 32 := Scalar.muli v171 c8_i32
  let v173 : BitVec 32 := v172
  let c0_i32_111 : BitVec 32 := 0#32
  ![v173.toNat, 0]

def k0_chk1 (i : grid0.Coords) (v171 : BitVec 32) : Prop :=
  (∀ (k0_h1 : k0_cond1 i = 1#1), ∀ (k0_h2 : k0_cond2 i = 1#1), 8 ∣ (k0_mult1 v171).toNat) ∧
  (∀ (k0_h1 : k0_cond1 i = 1#1), ∀ (k0_h2 : k0_cond2 i = 1#1), ∀ a, (k0_off3 v171) a + S8x128.size a ≤ S32768x128.size a)
theorem k0_mult1_dvd : ∀ (i : grid0.Coords) (v171 : BitVec 32) (k0_hw1 : k0_chk1 i v171), ∀ (k0_h1 : k0_cond1 i = 1#1), ∀ (k0_h2 : k0_cond2 i = 1#1), 8 ∣ (k0_mult1 v171).toNat := fun i v171 k0_hw1 k0_h1 k0_h2 => k0_hw1.1 k0_h1 k0_h2
theorem k0_off3_inb : ∀ (i : grid0.Coords) (v171 : BitVec 32) (k0_hw1 : k0_chk1 i v171), ∀ (k0_h1 : k0_cond1 i = 1#1), ∀ (k0_h2 : k0_cond2 i = 1#1), ∀ a, (k0_off3 v171) a + S8x128.size a ≤ S32768x128.size a := fun i v171 k0_hw1 k0_h1 k0_h2 => k0_hw1.2 k0_h1 k0_h2

def k0_off4 (k0_t1 : Fin k0_t1_loop.trips) : Fin 1 → Nat :=
  let c512_i32_112 : BitVec 32 := 512#32
  let c0_i32_104 : BitVec 32 := 0#32
  let c1_i32_105 : BitVec 32 := 1#32
  let arg15 : BitVec 32 := Scf.iv c0_i32_104 c1_i32_105 k0_t1
  let v180 : BitVec 32 := Scalar.addi c512_i32_112 arg15
  let v181 : Index := Scalar.indexCast v180
  ![v181.toNat]
def k0_mult3 (v182 : BitVec 32) : BitVec 32 :=
  let c8_i32_113 : BitVec 32 := 8#32
  let v183 : BitVec 32 := Scalar.muli v182 c8_i32_113
  v183

def k0_mult4 (k0_t1 : Fin k0_t1_loop.trips) : BitVec 32 :=
  let c512_i32_114 : BitVec 32 := 512#32
  let c0_i32_104 : BitVec 32 := 0#32
  let c1_i32_105 : BitVec 32 := 1#32
  let arg15 : BitVec 32 := Scf.iv c0_i32_104 c1_i32_105 k0_t1
  let v185 : BitVec 32 := Scalar.addi c512_i32_114 arg15
  let c8_i32_115 : BitVec 32 := 8#32
  let v186 : BitVec 32 := Scalar.muli v185 c8_i32_115
  v186
def k0_off5 (k0_t1 : Fin k0_t1_loop.trips) : Fin 2 → Nat :=
  let c512_i32_114 : BitVec 32 := 512#32
  let c0_i32_104 : BitVec 32 := 0#32
  let c1_i32_105 : BitVec 32 := 1#32
  let arg15 : BitVec 32 := Scf.iv c0_i32_104 c1_i32_105 k0_t1
  let v185 : BitVec 32 := Scalar.addi c512_i32_114 arg15
  let c8_i32_115 : BitVec 32 := 8#32
  let v186 : BitVec 32 := Scalar.muli v185 c8_i32_115
  let v187 : BitVec 32 := v186
  let c0_i32_117 : BitVec 32 := 0#32
  ![v187.toNat, 0]
def k0_off6 (v182 : BitVec 32) : Fin 2 → Nat :=
  let c8_i32_113 : BitVec 32 := 8#32
  let v183 : BitVec 32 := Scalar.muli v182 c8_i32_113
  let v184 : BitVec 32 := v183
  let c0_i32_118 : BitVec 32 := 0#32
  ![v184.toNat, 0]

def k0_chk2 (i : grid0.Coords) (v182 : BitVec 32) : Prop :=
  (∀ (k0_h1 : k0_cond1 i = 1#1), ∀ (k0_h2 : k0_cond2 i = 1#1), 8 ∣ (k0_mult3 v182).toNat) ∧
  (∀ (k0_h1 : k0_cond1 i = 1#1), ∀ (k0_h2 : k0_cond2 i = 1#1), ∀ a, (k0_off6 v182) a + S8x128.size a ≤ S32768x128.size a)
theorem k0_mult3_dvd : ∀ (i : grid0.Coords) (v182 : BitVec 32) (k0_hw2 : k0_chk2 i v182), ∀ (k0_h1 : k0_cond1 i = 1#1), ∀ (k0_h2 : k0_cond2 i = 1#1), 8 ∣ (k0_mult3 v182).toNat := fun i v182 k0_hw2 k0_h1 k0_h2 => k0_hw2.1 k0_h1 k0_h2
theorem k0_off6_inb : ∀ (i : grid0.Coords) (v182 : BitVec 32) (k0_hw2 : k0_chk2 i v182), ∀ (k0_h1 : k0_cond1 i = 1#1), ∀ (k0_h2 : k0_cond2 i = 1#1), ∀ a, (k0_off6 v182) a + S8x128.size a ≤ S32768x128.size a := fun i v182 k0_hw2 k0_h1 k0_h2 => k0_hw2.2 k0_h1 k0_h2

def k0_cond3 (i : grid0.Coords) : BitVec 1 :=
  let arg0 : BitVec 32 := BitVec.ofNat 32 (i 0).val
  let c1_i32_99 : BitVec 32 := 1#32
  let v160 : BitVec 32 := Scalar.addi arg0 c1_i32_99
  let c16_i32 : BitVec 32 := 16#32
  let v161 : BitVec 1 := Scalar.cmpi .slt v160 c16_i32
  let v162 : BitVec 32 := Scalar.extui v161
  let c0_i32_100 : BitVec 32 := 0#32
  let v163 : BitVec 1 := Scalar.cmpi .ne v162 c0_i32_100
  v163

@[reducible] def k0_t2_loop : Scf.Loop 32 :=
  let c0_i32_105 : BitVec 32 := 0#32
  let c512_i32 : BitVec 32 := 512#32
  let v170 : BitVec 32 := Scalar.addi c0_i32_105 c512_i32
  let c1_i32_106 : BitVec 32 := 1#32
  ⟨c0_i32_105, v170, c1_i32_106⟩
def k0_off7 (i : grid0.Coords) (k0_t2 : Fin k0_t2_loop.trips) : Fin 1 → Nat :=
  let arg0 : BitVec 32 := BitVec.ofNat 32 (i 0).val
  let c1_i32_104 : BitVec 32 := 1#32
  let v168 : BitVec 32 := Scalar.addi arg0 c1_i32_104
  let c1024_i32 : BitVec 32 := 1024#32
  let v169 : BitVec 32 := Scalar.muli v168 c1024_i32
  let c0_i32_105 : BitVec 32 := 0#32
  let c1_i32_106 : BitVec 32 := 1#32
  let arg15 : BitVec 32 := Scf.iv c0_i32_105 c1_i32_106 k0_t2
  let v171 : BitVec 32 := Scalar.addi v169 arg15
  let v172 : Index := Scalar.indexCast v171
  ![v172.toNat]
def k0_mult5 (v173 : BitVec 32) : BitVec 32 :=
  let c8_i32 : BitVec 32 := 8#32
  let v174 : BitVec 32 := Scalar.muli v173 c8_i32
  v174

def k0_mult6 (k0_t2 : Fin k0_t2_loop.trips) : BitVec 32 :=
  let c0_i32_105 : BitVec 32 := 0#32
  let c1_i32_106 : BitVec 32 := 1#32
  let arg15 : BitVec 32 := Scf.iv c0_i32_105 c1_i32_106 k0_t2
  let c8_i32_108 : BitVec 32 := 8#32
  let v176 : BitVec 32 := Scalar.muli arg15 c8_i32_108
  v176
def k0_off8 (k0_t2 : Fin k0_t2_loop.trips) : Fin 2 → Nat :=
  let c0_i32_105 : BitVec 32 := 0#32
  let c1_i32_106 : BitVec 32 := 1#32
  let arg15 : BitVec 32 := Scf.iv c0_i32_105 c1_i32_106 k0_t2
  let c8_i32_108 : BitVec 32 := 8#32
  let v176 : BitVec 32 := Scalar.muli arg15 c8_i32_108
  let v177 : BitVec 32 := v176
  let c0_i32_110 : BitVec 32 := 0#32
  ![v177.toNat, 0]
def k0_off9 (v173 : BitVec 32) : Fin 2 → Nat :=
  let c8_i32 : BitVec 32 := 8#32
  let v174 : BitVec 32 := Scalar.muli v173 c8_i32
  let v175 : BitVec 32 := v174
  let c0_i32_111 : BitVec 32 := 0#32
  ![v175.toNat, 0]

def k0_chk3 (i : grid0.Coords) (v173 : BitVec 32) : Prop :=
  (∀ (k0_h1 : k0_cond1 i = 1#1), ∀ (k0_h3 : k0_cond3 i = 1#1), 8 ∣ (k0_mult5 v173).toNat) ∧
  (∀ (k0_h1 : k0_cond1 i = 1#1), ∀ (k0_h3 : k0_cond3 i = 1#1), ∀ a, (k0_off9 v173) a + S8x128.size a ≤ S32768x128.size a)
theorem k0_mult5_dvd : ∀ (i : grid0.Coords) (v173 : BitVec 32) (k0_hw3 : k0_chk3 i v173), ∀ (k0_h1 : k0_cond1 i = 1#1), ∀ (k0_h3 : k0_cond3 i = 1#1), 8 ∣ (k0_mult5 v173).toNat := fun i v173 k0_hw3 k0_h1 k0_h3 => k0_hw3.1 k0_h1 k0_h3
theorem k0_off9_inb : ∀ (i : grid0.Coords) (v173 : BitVec 32) (k0_hw3 : k0_chk3 i v173), ∀ (k0_h1 : k0_cond1 i = 1#1), ∀ (k0_h3 : k0_cond3 i = 1#1), ∀ a, (k0_off9 v173) a + S8x128.size a ≤ S32768x128.size a := fun i v173 k0_hw3 k0_h1 k0_h3 => k0_hw3.2 k0_h1 k0_h3

def k0_off10 (i : grid0.Coords) (k0_t2 : Fin k0_t2_loop.trips) : Fin 1 → Nat :=
  let arg0 : BitVec 32 := BitVec.ofNat 32 (i 0).val
  let c1_i32_104 : BitVec 32 := 1#32
  let v168 : BitVec 32 := Scalar.addi arg0 c1_i32_104
  let c1024_i32 : BitVec 32 := 1024#32
  let v169 : BitVec 32 := Scalar.muli v168 c1024_i32
  let c512_i32_112 : BitVec 32 := 512#32
  let v182 : BitVec 32 := Scalar.addi v169 c512_i32_112
  let c0_i32_105 : BitVec 32 := 0#32
  let c1_i32_106 : BitVec 32 := 1#32
  let arg15 : BitVec 32 := Scf.iv c0_i32_105 c1_i32_106 k0_t2
  let v183 : BitVec 32 := Scalar.addi v182 arg15
  let v184 : Index := Scalar.indexCast v183
  ![v184.toNat]
def k0_mult7 (v185 : BitVec 32) : BitVec 32 :=
  let c8_i32_113 : BitVec 32 := 8#32
  let v186 : BitVec 32 := Scalar.muli v185 c8_i32_113
  v186

def k0_mult8 (k0_t2 : Fin k0_t2_loop.trips) : BitVec 32 :=
  let c512_i32_114 : BitVec 32 := 512#32
  let c0_i32_105 : BitVec 32 := 0#32
  let c1_i32_106 : BitVec 32 := 1#32
  let arg15 : BitVec 32 := Scf.iv c0_i32_105 c1_i32_106 k0_t2
  let v188 : BitVec 32 := Scalar.addi c512_i32_114 arg15
  let c8_i32_115 : BitVec 32 := 8#32
  let v189 : BitVec 32 := Scalar.muli v188 c8_i32_115
  v189
def k0_off11 (k0_t2 : Fin k0_t2_loop.trips) : Fin 2 → Nat :=
  let c512_i32_114 : BitVec 32 := 512#32
  let c0_i32_105 : BitVec 32 := 0#32
  let c1_i32_106 : BitVec 32 := 1#32
  let arg15 : BitVec 32 := Scf.iv c0_i32_105 c1_i32_106 k0_t2
  let v188 : BitVec 32 := Scalar.addi c512_i32_114 arg15
  let c8_i32_115 : BitVec 32 := 8#32
  let v189 : BitVec 32 := Scalar.muli v188 c8_i32_115
  let v190 : BitVec 32 := v189
  let c0_i32_117 : BitVec 32 := 0#32
  ![v190.toNat, 0]
def k0_off12 (v185 : BitVec 32) : Fin 2 → Nat :=
  let c8_i32_113 : BitVec 32 := 8#32
  let v186 : BitVec 32 := Scalar.muli v185 c8_i32_113
  let v187 : BitVec 32 := v186
  let c0_i32_118 : BitVec 32 := 0#32
  ![v187.toNat, 0]

def k0_chk4 (i : grid0.Coords) (v185 : BitVec 32) : Prop :=
  (∀ (k0_h1 : k0_cond1 i = 1#1), ∀ (k0_h3 : k0_cond3 i = 1#1), 8 ∣ (k0_mult7 v185).toNat) ∧
  (∀ (k0_h1 : k0_cond1 i = 1#1), ∀ (k0_h3 : k0_cond3 i = 1#1), ∀ a, (k0_off12 v185) a + S8x128.size a ≤ S32768x128.size a)
theorem k0_mult7_dvd : ∀ (i : grid0.Coords) (v185 : BitVec 32) (k0_hw4 : k0_chk4 i v185), ∀ (k0_h1 : k0_cond1 i = 1#1), ∀ (k0_h3 : k0_cond3 i = 1#1), 8 ∣ (k0_mult7 v185).toNat := fun i v185 k0_hw4 k0_h1 k0_h3 => k0_hw4.1 k0_h1 k0_h3
theorem k0_off12_inb : ∀ (i : grid0.Coords) (v185 : BitVec 32) (k0_hw4 : k0_chk4 i v185), ∀ (k0_h1 : k0_cond1 i = 1#1), ∀ (k0_h3 : k0_cond3 i = 1#1), ∀ a, (k0_off12 v185) a + S8x128.size a ≤ S32768x128.size a := fun i v185 k0_hw4 k0_h1 k0_h3 => k0_hw4.2 k0_h1 k0_h3

def k0_cond4 (i : grid0.Coords) : BitVec 1 :=
  let arg1 : BitVec 32 := BitVec.ofNat 32 (i 1).val
  let c1_i32 : BitVec 32 := 1#32
  let v112 : BitVec 1 := Scalar.cmpi .eq arg1 c1_i32
  let v113 : BitVec 32 := Scalar.extui v112
  let c0_i32_74 : BitVec 32 := 0#32
  let v114 : BitVec 1 := Scalar.cmpi .ne v113 c0_i32_74
  v114

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384 : Shape := ⟨1, ![16384]⟩
abbrev S32768x128 : Shape := ⟨2, ![32768, 128]⟩
abbrev S16x512x128 : Shape := ⟨3, ![16, 512, 128]⟩
abbrev S64x1024x2048 : Shape := ⟨3, ![64, 1024, 2048]⟩
abbrev S64x2048x1024 : Shape := ⟨3, ![64, 2048, 1024]⟩
abbrev S16x2x512 : Shape := ⟨3, ![16, 2, 512]⟩
abbrev S16x16 : Shape := ⟨2, ![16, 16]⟩
abbrev S_ : Shape := ⟨0, ![]⟩
abbrev S16x1x16 : Shape := ⟨3, ![16, 1, 16]⟩
abbrev S16x1x512 : Shape := ⟨3, ![16, 1, 512]⟩
abbrev S16x512 : Shape := ⟨2, ![16, 512]⟩
abbrev S16x512x16 : Shape := ⟨3, ![16, 512, 16]⟩
abbrev S4096x1024 : Shape := ⟨2, ![4096, 1024]⟩
abbrev S16x512x1 : Shape := ⟨3, ![16, 512, 1]⟩
abbrev S16x512x1024 : Shape := ⟨3, ![16, 512, 1024]⟩
abbrev S16x1024x2048 : Shape := ⟨3, ![16, 1024, 2048]⟩
abbrev S16x512x2048 : Shape := ⟨3, ![16, 512, 2048]⟩
abbrev S16x2048x1024 : Shape := ⟨3, ![16, 2048, 1024]⟩
abbrev S16x1024x1024 : Shape := ⟨3, ![16, 1024, 1024]⟩

abbrev nBuf : Space → Nat
  | .hbm => 143
  | .vmem => 0
  | .smem => 0
  | _ => 0

abbrev hbmTy0_0 (i : Nat) : BufTy := match i % 128 with
  | 0 => ⟨S16384, .i32⟩
  | 1 => ⟨S32768x128, .f32⟩
  | 2 => ⟨S32768x128, .f32⟩
  | 3 => ⟨S16x512x128, .f32⟩
  | 4 => ⟨S16x512x128, .f32⟩
  | 5 => ⟨S64x1024x2048, .f32⟩
  | 6 => ⟨S64x1024x2048, .f32⟩
  | 7 => ⟨S64x2048x1024, .f32⟩
  | 8 => ⟨S16x2x512, .i32⟩
  | 9 => ⟨S16x16, .i32⟩
  | 10 => ⟨S16x16, .i32⟩
  | 11 => ⟨S_, .i32⟩
  | 12 => ⟨S16x16, .i32⟩
  | 13 => ⟨S16x16, .i32⟩
  | 14 => ⟨S16x16, .i1⟩
  | 15 => ⟨S16x16, .f32⟩
  | 16 => ⟨S16x1x16, .f32⟩
  | 17 => ⟨S16x1x512, .i32⟩
  | 18 => ⟨S16x512, .i32⟩
  | 19 => ⟨S16x512x16, .f32⟩
  | 20 => ⟨S16x512x16, .f32⟩
  | 21 => ⟨S16x512x16, .f32⟩
  | 22 => ⟨S_, .f32⟩
  | 23 => ⟨S16x1x16, .f32⟩
  | 24 => ⟨S16x1x16, .i1⟩
  | 25 => ⟨S_, .f32⟩
  | 26 => ⟨S_, .f32⟩
  | 27 => ⟨S16x512x16, .i1⟩
  | 28 => ⟨S16x512x16, .f32⟩
  | 29 => ⟨S16x512x16, .f32⟩
  | 30 => ⟨S_, .f32⟩
  | 31 => ⟨S16x512, .f32⟩
  | 32 => ⟨S_, .f32⟩
  | 33 => ⟨S16x512, .f32⟩
  | 34 => ⟨S16x512, .f32⟩
  | 35 => ⟨S_, .f32⟩
  | 36 => ⟨S16x1x16, .f32⟩
  | 37 => ⟨S16x1x16, .i1⟩
  | 38 => ⟨S_, .f32⟩
  | 39 => ⟨S_, .f32⟩
  | 40 => ⟨S16x512x16, .i1⟩
  | 41 => ⟨S16x512x16, .f32⟩
  | 42 => ⟨S16x512x16, .f32⟩
  | 43 => ⟨S_, .f32⟩
  | 44 => ⟨S16x512, .f32⟩
  | 45 => ⟨S16x512, .f32⟩
  | 46 => ⟨S_, .f32⟩
  | 47 => ⟨S16x1x16, .f32⟩
  | 48 => ⟨S16x1x16, .i1⟩
  | 49 => ⟨S_, .f32⟩
  | 50 => ⟨S_, .f32⟩
  | 51 => ⟨S16x512x16, .i1⟩
  | 52 => ⟨S16x512x16, .f32⟩
  | 53 => ⟨S16x512x16, .f32⟩
  | 54 => ⟨S_, .f32⟩
  | 55 => ⟨S16x512, .f32⟩
  | 56 => ⟨S16x512, .f32⟩
  | 57 => ⟨S4096x1024, .f32⟩
  | 58 => ⟨S16x512x1, .i32⟩
  | 59 => ⟨S16x512x1024, .f32⟩
  | 60 => ⟨S16x1024x2048, .f32⟩
  | 61 => ⟨S16x512x2048, .f32⟩
  | 62 => ⟨S16x512x2048, .f32⟩
  | 63 => ⟨S16x512x2048, .f32⟩
  | 64 => ⟨S_, .f32⟩
  | 65 => ⟨S16x512x2048, .f32⟩
  | 66 => ⟨S16x512x2048, .f32⟩
  | 67 => ⟨S_, .f32⟩
  | 68 => ⟨S16x512x2048, .f32⟩
  | 69 => ⟨S16x512x2048, .f32⟩
  | 70 => ⟨S16x512x2048, .f32⟩
  | 71 => ⟨S16x1024x2048, .f32⟩
  | 72 => ⟨S16x512x2048, .f32⟩
  | 73 => ⟨S16x512x2048, .f32⟩
  | 74 => ⟨S16x2048x1024, .f32⟩
  | 75 => ⟨S16x512x1024, .f32⟩
  | 76 => ⟨S16x512x1, .f32⟩
  | 77 => ⟨S16x512x1024, .f32⟩
  | 78 => ⟨S16x512x1024, .f32⟩
  | 79 => ⟨S16x1x512, .i32⟩
  | 80 => ⟨S16x512, .i32⟩
  | 81 => ⟨S16x512x16, .f32⟩
  | 82 => ⟨S16x512x16, .f32⟩
  | 83 => ⟨S16x512x16, .f32⟩
  | 84 => ⟨S_, .f32⟩
  | 85 => ⟨S16x1x16, .f32⟩
  | 86 => ⟨S16x1x16, .i1⟩
  | 87 => ⟨S_, .f32⟩
  | 88 => ⟨S_, .f32⟩
  | 89 => ⟨S16x512x16, .i1⟩
  | 90 => ⟨S16x512x16, .f32⟩
  | 91 => ⟨S16x512x16, .f32⟩
  | 92 => ⟨S_, .f32⟩
  | 93 => ⟨S16x512, .f32⟩
  | 94 => ⟨S_, .f32⟩
  | 95 => ⟨S16x512, .f32⟩
  | 96 => ⟨S16x512, .f32⟩
  | 97 => ⟨S_, .f32⟩
  | 98 => ⟨S16x1x16, .f32⟩
  | 99 => ⟨S16x1x16, .i1⟩
  | 100 => ⟨S_, .f32⟩
  | 101 => ⟨S_, .f32⟩
  | 102 => ⟨S16x512x16, .i1⟩
  | 103 => ⟨S16x512x16, .f32⟩
  | 104 => ⟨S16x512x16, .f32⟩
  | 105 => ⟨S_, .f32⟩
  | 106 => ⟨S16x512, .f32⟩
  | 107 => ⟨S16x512, .f32⟩
  | 108 => ⟨S_, .f32⟩
  | 109 => ⟨S16x1x16, .f32⟩
  | 110 => ⟨S16x1x16, .i1⟩
  | 111 => ⟨S_, .f32⟩
  | 112 => ⟨S_, .f32⟩
  | 113 => ⟨S16x512x16, .i1⟩
  | 114 => ⟨S16x512x16, .f32⟩
  | 115 => ⟨S16x512x16, .f32⟩
  | 116 => ⟨S_, .f32⟩
  | 117 => ⟨S16x512, .f32⟩
  | 118 => ⟨S16x512, .f32⟩
  | 119 => ⟨S4096x1024, .f32⟩
  | 120 => ⟨S16x512x1, .i32⟩
  | 121 => ⟨S16x512x1024, .f32⟩
  | 122 => ⟨S16x1024x2048, .f32⟩
  | 123 => ⟨S16x512x2048, .f32⟩
  | 124 => ⟨S16x512x2048, .f32⟩
  | 125 => ⟨S16x512x2048, .f32⟩
  | 126 => ⟨S_, .f32⟩
  | 127 => ⟨S16x512x2048, .f32⟩
  | _ => ⟨S16384, .i32⟩

abbrev hbmTy0_1 (i : Nat) : BufTy := match i % 128 with
  | 0 => ⟨S16x512x2048, .f32⟩
  | 1 => ⟨S_, .f32⟩
  | 2 => ⟨S16x512x2048, .f32⟩
  | 3 => ⟨S16x512x2048, .f32⟩
  | 4 => ⟨S16x512x2048, .f32⟩
  | 5 => ⟨S16x1024x2048, .f32⟩
  | 6 => ⟨S16x512x2048, .f32⟩
  | 7 => ⟨S16x512x2048, .f32⟩
  | 8 => ⟨S16x2048x1024, .f32⟩
  | 9 => ⟨S16x512x1024, .f32⟩
  | 10 => ⟨S16x512x1, .f32⟩
  | 11 => ⟨S16x512x1024, .f32⟩
  | 12 => ⟨S16x512x1024, .f32⟩
  | 13 => ⟨S16x1024x1024, .f32⟩
  | 14 => ⟨S16x1024x1024, .bf16⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_v23 : Ref sig .tc := ⟨.hbm, 45, rfl⟩
abbrev main_cst_6 : Ref sig .tc := ⟨.hbm, 46, rfl⟩
abbrev main_v24 : Ref sig .tc := ⟨.hbm, 47, rfl⟩
abbrev main_v25 : Ref sig .tc := ⟨.hbm, 48, rfl⟩
abbrev main_cst_7 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v26 : Ref sig .tc := ⟨.hbm, 53, rfl⟩
abbrev main_cst_8 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call3_v0 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_call4_v0 : Ref sig .tc := ⟨.hbm, 62, rfl⟩
abbrev main_call4_v1 : Ref sig .tc := ⟨.hbm, 63, rfl⟩
abbrev main_call4_cst : Ref sig .tc := ⟨.hbm, 64, rfl⟩
abbrev main_call4_v2 : Ref sig .tc := ⟨.hbm, 65, rfl⟩
abbrev main_call4_v3 : Ref sig .tc := ⟨.hbm, 66, rfl⟩
abbrev main_call4_cst_0 : Ref sig .tc := ⟨.hbm, 67, rfl⟩
abbrev main_call4_v4 : Ref sig .tc := ⟨.hbm, 68, rfl⟩
abbrev main_call4_v5 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_9 : Ref sig .tc := ⟨.hbm, 84, rfl⟩
abbrev main_v47 : Ref sig .tc := ⟨.hbm, 85, rfl⟩
abbrev main_v48 : Ref sig .tc := ⟨.hbm, 86, rfl⟩
abbrev main_cst_10 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_v49 : Ref sig .tc := ⟨.hbm, 91, rfl⟩
abbrev main_cst_11 : Ref sig .tc := ⟨.hbm, 92, rfl⟩
abbrev main_v50 : Ref sig .tc := ⟨.hbm, 93, rfl⟩
abbrev main_cst_12 : Ref sig .tc := ⟨.hbm, 94, rfl⟩
abbrev main_v51 : Ref sig .tc := ⟨.hbm, 95, rfl⟩
abbrev main_v52 : Ref sig .tc := ⟨.hbm, 96, rfl⟩
abbrev main_cst_13 : Ref sig .tc := ⟨.hbm, 97, rfl⟩
abbrev main_v53 : Ref sig .tc := ⟨.hbm, 98, rfl⟩
abbrev main_v54 : Ref sig .tc := ⟨.hbm, 99, rfl⟩
abbrev main_cst_14 : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_v55 : Ref sig .tc := ⟨.hbm, 104, rfl⟩
abbrev main_cst_15 : Ref sig .tc := ⟨.hbm, 105, rfl⟩
abbrev main_v56 : Ref sig .tc := ⟨.hbm, 106, rfl⟩
abbrev main_v57 : Ref sig .tc := ⟨.hbm, 107, rfl⟩
abbrev main_cst_16 : Ref sig .tc := ⟨.hbm, 108, rfl⟩
abbrev main_v58 : Ref sig .tc := ⟨.hbm, 109, rfl⟩
abbrev main_v59 : Ref sig .tc := ⟨.hbm, 110, rfl⟩
abbrev main_cst_17 : Ref sig .tc := ⟨.hbm, 111, rfl⟩
abbrev main_call7_v0 : Ref sig .tc := ⟨.hbm, 112, rfl⟩
abbrev main_call7_v1 : Ref sig .tc := ⟨.hbm, 113, rfl⟩
abbrev main_call7_v2 : Ref sig .tc := ⟨.hbm, 114, rfl⟩
abbrev main_v60 : Ref sig .tc := ⟨.hbm, 115, rfl⟩
abbrev main_cst_18 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_call8_v0 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_call9_v0 : Ref sig .tc := ⟨.hbm, 124, rfl⟩
abbrev main_call9_v1 : Ref sig .tc := ⟨.hbm, 125, rfl⟩
abbrev main_call9_cst : Ref sig .tc := ⟨.hbm, 126, rfl⟩
abbrev main_call9_v2 : Ref sig .tc := ⟨.hbm, 127, rfl⟩
abbrev main_call9_v3 : Ref sig .tc := ⟨.hbm, 128, rfl⟩
abbrev main_call9_cst_0 : Ref sig .tc := ⟨.hbm, 129, rfl⟩
abbrev main_call9_v4 : Ref sig .tc := ⟨.hbm, 130, rfl⟩
abbrev main_call9_v5 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩

abbrev nD : Nat := 1
abbrev τ : Topo := Topo.v7x

variable {F : FTy → Type} [FloatOps F]
-- ==== Kernel3.lean ====
abbrev S4096x1024 : Shape := ⟨2, ![4096, 1024]⟩
abbrev S4x1x1024 : Shape := ⟨3, ![4, 1, 1024]⟩
abbrev S1024x6144 : Shape := ⟨2, ![1024, 6144]⟩
abbrev S1x3072 : Shape := ⟨2, ![1, 3072]⟩
abbrev S8x128x128 : Shape := ⟨3, ![8, 128, 128]⟩
abbrev S8x128x1 : Shape := ⟨3, ![8, 128, 1]⟩
abbrev S4096x3072 : Shape := ⟨2, ![4096, 3072]⟩
abbrev S256x1024 : Shape := ⟨2, ![256, 1024]⟩
abbrev S1x1x1024 : Shape := ⟨3, ![1, 1, 1024]⟩
abbrev S256x3072 : Shape := ⟨2, ![256, 3072]⟩
abbrev S1x1024 : Shape := ⟨2, ![1, 1024]⟩
abbrev S1024x3072 : Shape := ⟨2, ![1024, 3072]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S256x384 : Shape := ⟨2, ![256, 384]⟩
abbrev S1x128x128 : Shape := ⟨3, ![1, 128, 128]⟩
abbrev S128x128 : Shape := ⟨2, ![128, 128]⟩
abbrev S128x384 : Shape := ⟨2, ![128, 384]⟩
abbrev S1x128x1 : Shape := ⟨3, ![1, 128, 1]⟩
abbrev S128x1 : Shape := ⟨2, ![128, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4x1x1024, .f32⟩
  | .hbm, ⟨2, _⟩ => ⟨S4x1x1024, .f32⟩
  | .hbm, ⟨3, _⟩ => ⟨S1024x6144, .bf16⟩
  | .hbm, ⟨4, _⟩ => ⟨S1x3072, .f32⟩
  | .hbm, ⟨5, _⟩ => ⟨S8x128x128, .bf16⟩
  | .hbm, ⟨6, _⟩ => ⟨S8x128x1, .f32⟩
  | .hbm, ⟨7, _⟩ => ⟨S4096x3072, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x6144, .bf16⟩
  | .local _ .vmem, ⟨7, _⟩ => ⟨S1x3072, .f32⟩
  | .local _ .vmem, ⟨8, _⟩ => ⟨S8x128x128, .bf16⟩
  | .local _ .vmem, ⟨9, _⟩ => ⟨S8x128x1, .f32⟩
  | .local _ .vmem, ⟨10, _⟩ => ⟨S256x3072, .bf16⟩
  | .local _ .vmem, ⟨11, _⟩ => ⟨S256x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4096x1024 : Shape := ⟨2, ![4096, 1024]⟩
abbrev S4x1x1024 : Shape := ⟨3, ![4, 1, 1024]⟩
abbrev S1024x6144 : Shape := ⟨2, ![1024, 6144]⟩
abbrev S1x3072 : Shape := ⟨2, ![1, 3072]⟩
abbrev S8x128x128 : Shape := ⟨3, ![8, 128, 128]⟩
abbrev S8x128x1 : Shape := ⟨3, ![8, 128, 1]⟩
abbrev S4x1024x1024 : Shape := ⟨3, ![4, 1024, 1024]⟩
abbrev S_ : Shape := ⟨0, ![]⟩
abbrev S4x1024x6144 : Shape := ⟨3, ![4, 1024, 6144]⟩
abbrev S4x1024x3072 : Shape := ⟨3, ![4, 1024, 3072]⟩
abbrev S4x1024 : Shape := ⟨2, ![4, 1024]⟩
abbrev S4x1024x1 : Shape := ⟨3, ![4, 1024, 1]⟩
abbrev S3072 : Shape := ⟨1, ![3072]⟩
abbrev S1x1x3072 : Shape := ⟨3, ![1, 1, 3072]⟩
abbrev S4x8x128x8x384 : Shape := ⟨5, ![4, 8, 128, 8, 384]⟩
abbrev S8x4x8x384x128 : Shape := ⟨5, ![8, 4, 8, 384, 128]⟩
abbrev S8x128 : Shape := ⟨2, ![8, 128]⟩
abbrev S128x8 : Shape := ⟨2, ![128, 8]⟩
abbrev S1x1x128x8x1 : Shape := ⟨5, ![1, 1, 128, 8, 1]⟩
abbrev S4096x3072 : Shape := ⟨2, ![4096, 3072]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1x1024, .f32⟩
  | .hbm, ⟨2, _⟩ => ⟨S4x1x1024, .f32⟩
  | .hbm, ⟨3, _⟩ => ⟨S1024x6144, .bf16⟩
  | .hbm, ⟨4, _⟩ => ⟨S1x3072, .f32⟩
  | .hbm, ⟨5, _⟩ => ⟨S8x128x128, .bf16⟩
  | .hbm, ⟨6, _⟩ => ⟨S8x128x1, .f32⟩
  | .hbm, ⟨7, _⟩ => ⟨S4x1024x1024, .f32⟩
  | .hbm, ⟨8, _⟩ => ⟨S_, .f32⟩
  | .hbm, ⟨9, _⟩ => ⟨S4x1x1024, .f32⟩
  | .hbm, ⟨10, _⟩ => ⟨S4x1x1024, .f32⟩
  | .hbm, ⟨11, _⟩ => ⟨S4x1024x1024, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S1024x6144, .f32⟩
  | .hbm, ⟨16, _⟩ => ⟨S4x1024x6144, .f32⟩
  | .hbm, ⟨17, _⟩ => ⟨S4x1024x6144, .f32⟩
  | .hbm, ⟨18, _⟩ => ⟨S4x1024x6144, .f32⟩
  | .hbm, ⟨19, _⟩ => ⟨S_, .f32⟩
  | .hbm, ⟨20, _⟩ => ⟨S4x1024x6144, .f32⟩
  | .hbm, ⟨21, _⟩ => ⟨S4x1024x6144, .f32⟩
  | .hbm, ⟨22, _⟩ => ⟨S4x1024x6144, .f32⟩
  | .hbm, ⟨23, _⟩ => ⟨S_, .f32⟩
  | .hbm, ⟨24, _⟩ => ⟨S4x1024x6144, .f32⟩
  | .hbm, ⟨25, _⟩ => ⟨S4x1024x6144, .f32⟩
  | .hbm, ⟨26, _⟩ => ⟨S4x1024x6144, .f32⟩
  | .hbm, ⟨27, _⟩ => ⟨S_, .f32⟩
  | .hbm, ⟨28, _⟩ => ⟨S4x1024x6144, .f32⟩
  | .hbm, ⟨29, _⟩ => ⟨S4x1024x6144, .f32⟩
  | .hbm, ⟨30, _⟩ => ⟨S_, .f32⟩
  | .hbm, ⟨31, _⟩ => ⟨S4x1024x6144, .f32⟩
  | .hbm, ⟨32, _⟩ => ⟨S4x1024x6144, .f32⟩
  | .hbm, ⟨33, _⟩ => ⟨S4x1024x6144, .f32⟩
  | .hbm, ⟨34, _⟩ => ⟨S4x1024x3072, .f32⟩
  | .hbm, ⟨35, _⟩ => ⟨S4x1024x3072, .f32⟩
  | .hbm, ⟨36, _⟩ => ⟨S_, .f32⟩
  | .hbm, ⟨37, _⟩ => ⟨S4x1024, .f32⟩
  | .hbm, ⟨38, _⟩ => ⟨S4x1024x1, .f32⟩
  | .hbm, ⟨39, _⟩ => ⟨S_, .f32⟩
  | .hbm, ⟨40, _⟩ => ⟨S4x1024x1, .f32⟩
  | .hbm, ⟨41, _⟩ => ⟨S4x1024x1, .f32⟩
  | .hbm, ⟨42, _⟩ => ⟨S4x1024x3072, .f32⟩
  | .hbm, ⟨43, _⟩ => ⟨S4x1024x3072, .f32⟩
  | .hbm, ⟨44, _⟩ => ⟨S4x1024x3072, .f32⟩
  | .hbm, ⟨45, _⟩ => ⟨S_, .f32⟩
  | .hbm, ⟨46, _⟩ => ⟨S4x1024, .f32⟩
  | .hbm, ⟨47, _⟩ => ⟨S4x1024x1, .f32⟩
  | .hbm, ⟨48, _⟩ => ⟨S_, .f32⟩
  | .hbm, ⟨49, _⟩ => ⟨S4x1024x1, .f32⟩
  | .hbm, ⟨50, _⟩ => ⟨S4x1024x1, .f32⟩
  | .hbm, ⟨51, _⟩ => ⟨S4x1024x3072, .f32⟩
  | .hbm, ⟨52, _⟩ => ⟨S4x1024x3072, .f32⟩
  | .hbm, ⟨53, _⟩ => ⟨S_, .f32⟩
  | .hbm, ⟨54, _⟩ => ⟨S4x1024x1, .f32⟩
  | .hbm, ⟨55, _⟩ => ⟨S4x1024x1, .f32⟩
  | .hbm, ⟨56, _⟩ => ⟨S4x1024x1, .f32⟩
  | .hbm, ⟨57, _⟩ => ⟨S4x1024x3072, .f32⟩
  | .hbm, ⟨58, _⟩ => ⟨S4x1024x3072, .f32⟩
  | .hbm, ⟨59, _⟩ => ⟨S3072, .f32⟩
  | .hbm, ⟨60, _⟩ => ⟨S1x1x3072, .f32⟩
  | .hbm, ⟨61, _⟩ => ⟨S4x1024x3072, .f32⟩
  | .hbm, ⟨62, _⟩ => ⟨S4x1024x3072, .f32⟩
  | .hbm, ⟨63, _⟩ => ⟨S4x8x128x8x384, .f32⟩
  | .hbm, ⟨64, _⟩ => ⟨S8x128x128, .f32⟩
  | .hbm, ⟨65, _⟩ => ⟨S8x4x8x384x128, .f32⟩
  | .hbm, ⟨66, _⟩ => ⟨S4x8x128x8x384, .f32⟩
  | .hbm, ⟨67, _⟩ => ⟨S8x128, .f32⟩
  | .hbm, ⟨68, _⟩ => ⟨S128x8, .f32⟩
  | .hbm, ⟨69, _⟩ => ⟨S1x1x128x8x1, .f32⟩
  | .hbm, ⟨70, _⟩ => ⟨S4x8x128x8x384, .f32⟩
  | .hbm, ⟨71, _⟩ => ⟨S4x8x128x8x384, .f32⟩
  | .hbm, ⟨72, _⟩ => ⟨S4x1024x3072, .f32⟩
  | .hbm, ⟨73, _⟩ => ⟨S4x1024x3072, .f32⟩
  | .hbm, ⟨74, _⟩ => ⟨S4096x3072, .f32⟩
  | .hbm, ⟨75, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel4.lean ====
abbrev S4096x1024 : Shape := ⟨2, ![4096, 1024]⟩
abbrev S1x1x1024 : Shape := ⟨3, ![1, 1, 1024]⟩
abbrev S1024x704 : Shape := ⟨2, ![1024, 704]⟩
abbrev S384 : Shape := ⟨1, ![384]⟩
abbrev S256 : Shape := ⟨1, ![256]⟩
abbrev S384x8x192 : Shape := ⟨3, ![384, 8, 192]⟩
abbrev S256x8x256 : Shape := ⟨3, ![256, 8, 256]⟩
abbrev S_ : Shape := ⟨0, ![]⟩
abbrev S1024x768 : Shape := ⟨2, ![1024, 768]⟩
abbrev S1x384 : Shape := ⟨2, ![1, 384]⟩
abbrev S1x256 : Shape := ⟨2, ![1, 256]⟩
abbrev S384x8x256 : Shape := ⟨3, ![384, 8, 256]⟩
abbrev S384x2048 : Shape := ⟨2, ![384, 2048]⟩
abbrev S256x2048 : Shape := ⟨2, ![256, 2048]⟩
abbrev S4096x2048 : Shape := ⟨2, ![4096, 2048]⟩
abbrev S4096x128 : Shape := ⟨2, ![4096, 128]⟩
abbrev S4096x256 : Shape := ⟨2, ![4096, 256]⟩
abbrev S4096x64 : Shape := ⟨2, ![4096, 64]⟩
abbrev S512x1024 : Shape := ⟨2, ![512, 1024]⟩
abbrev S512x2048 : Shape := ⟨2, ![512, 2048]⟩
abbrev S512x128 : Shape := ⟨2, ![512, 128]⟩
abbrev S512x256 : Shape := ⟨2, ![512, 256]⟩
abbrev S512x64 : Shape := ⟨2, ![512, 64]⟩
abbrev S1x1024 : Shape := ⟨2, ![1, 1024]⟩
abbrev S512x768 : Shape := ⟨2, ![512, 768]⟩
abbrev S512x384 : Shape := ⟨2, ![512, 384]⟩
abbrev S512 : Shape := ⟨1, ![512]⟩
abbrev S512x1 : Shape := ⟨2, ![512, 1]⟩

abbrev nBuf : Space → Nat
  | .hbm => 26
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1x1024, .f32⟩
  | .hbm, ⟨2, _⟩ => ⟨S1x1x1024, .f32⟩
  | .hbm, ⟨3, _⟩ => ⟨S1024x704, .f32⟩
  | .hbm, ⟨4, _⟩ => ⟨S384, .f32⟩
  | .hbm, ⟨5, _⟩ => ⟨S256, .f32⟩
  | .hbm, ⟨6, _⟩ => ⟨S384x8x192, .f32⟩
  | .hbm, ⟨7, _⟩ => ⟨S256x8x256, .f32⟩
  | .hbm, ⟨8, _⟩ => ⟨S_, .i32⟩
  | .hbm, ⟨9, _⟩ => ⟨S_, .f32⟩
  | .hbm, ⟨10, _⟩ => ⟨S1024x768, .f32⟩
  | .hbm, ⟨11, _⟩ => ⟨S1024x768, .bf16⟩
  | .hbm, ⟨12, _⟩ => ⟨S1x384, .f32⟩
  | .hbm, ⟨13, _⟩ => ⟨S1x256, .f32⟩
  | .hbm, ⟨14, _⟩ => ⟨S_, .i32⟩
  | .hbm, ⟨15, _⟩ => ⟨S_, .f32⟩
  | .hbm, ⟨16, _⟩ => ⟨S384x8x256, .f32⟩
  | .hbm, ⟨17, _⟩ => ⟨S384x2048, .f32⟩
  | .hbm, ⟨18, _⟩ => ⟨S384x2048, .bf16⟩
  | .hbm, ⟨19, _⟩ => ⟨S256x2048, .f32⟩
  | .hbm, ⟨20, _⟩ => ⟨S256x2048, .bf16⟩
  | .hbm, ⟨21, _⟩ => ⟨S4096x2048, .bf16⟩
  | .hbm, ⟨22, _⟩ => ⟨S4096x2048, .bf16⟩
  | .hbm, ⟨23, _⟩ => ⟨S4096x128, .bf16⟩
  | .hbm, ⟨24, _⟩ => ⟨S4096x256, .f32⟩
  | .hbm, ⟨25, _⟩ => ⟨S4096x64, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x768, .bf16⟩
  | .local _ .vmem, ⟨7, _⟩ => ⟨S1x384, .f32⟩
  | .local _ .vmem, ⟨8, _⟩ => ⟨S1x256, .f32⟩
  | .local _ .vmem, ⟨9, _⟩ => ⟨S384x2048, .bf16⟩
  | .local _ .vmem, ⟨10, _⟩ => ⟨S256x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x128, .bf16⟩
  | .local _ .vmem, ⟨16, _⟩ => ⟨S512x128, .bf16⟩
  | .local _ .vmem, ⟨17, _⟩ => ⟨S512x256, .f32⟩
  | .local _ .vmem, ⟨18, _⟩ => ⟨S512x256, .f32⟩
  | .local _ .vmem, ⟨19, _⟩ => ⟨S512x64, .f32⟩
  | .local _ .vmem, ⟨20, _⟩ => ⟨S512x64, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S4096x1024 : Shape := ⟨2, ![4096, 1024]⟩
abbrev S1x1x1024 : Shape := ⟨3, ![1, 1, 1024]⟩
abbrev S1024x704 : Shape := ⟨2, ![1024, 704]⟩
abbrev S384 : Shape := ⟨1, ![384]⟩
abbrev S256 : Shape := ⟨1, ![256]⟩
abbrev S384x8x192 : Shape := ⟨3, ![384, 8, 192]⟩
abbrev S256x8x256 : Shape := ⟨3, ![256, 8, 256]⟩
abbrev S16x256x1024 : Shape := ⟨3, ![16, 256, 1024]⟩
abbrev S_ : Shape := ⟨0, ![]⟩
abbrev S16x256x704 : Shape := ⟨3, ![16, 256, 704]⟩
abbrev S16x256x384 : Shape := ⟨3, ![16, 256, 384]⟩
abbrev S16x256x256 : Shape := ⟨3, ![16, 256, 256]⟩
abbrev S16x256x64 : Shape := ⟨3, ![16, 256, 64]⟩
abbrev S16x256 : Shape := ⟨2, ![16, 256]⟩
abbrev S16x256x1 : Shape := ⟨3, ![16, 256, 1]⟩
abbrev S1x1x384 : Shape := ⟨3, ![1, 1, 384]⟩
abbrev S16x256x8x192 : Shape := ⟨4, ![16, 256, 8, 192]⟩
abbrev S1x1x256 : Shape := ⟨3, ![1, 1, 256]⟩
abbrev S16x256x8x256 : Shape := ⟨4, ![16, 256, 8, 256]⟩
abbrev S16x256x128 : Shape := ⟨3, ![16, 256, 128]⟩
abbrev S4096x2048 : Shape := ⟨2, ![4096, 2048]⟩
abbrev S4096x128 : Shape := ⟨2, ![4096, 128]⟩
abbrev S4096x256 : Shape := ⟨2, ![4096, 256]⟩
abbrev S4096x64 : Shape := ⟨2, ![4096, 64]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1x1024, .f32⟩
  | .hbm, ⟨2, _⟩ => ⟨S1x1x1024, .f32⟩
  | .hbm, ⟨3, _⟩ => ⟨S1024x704, .f32⟩
  | .hbm, ⟨4, _⟩ => ⟨S384, .f32⟩
  | .hbm, ⟨5, _⟩ => ⟨S256, .f32⟩
  | .hbm, ⟨6, _⟩ => ⟨S384x8x192, .f32⟩
  | .hbm, ⟨7, _⟩ => ⟨S256x8x256, .f32⟩
  | .hbm, ⟨8, _⟩ => ⟨S16x256x1024, .f32⟩
  | .hbm, ⟨9, _⟩ => ⟨S_, .f32⟩
  | .hbm, ⟨10, _⟩ => ⟨S1x1x1024, .f32⟩
  | .hbm, ⟨11, _⟩ => ⟨S1x1x1024, .f32⟩
  | .hbm, ⟨12, _⟩ => ⟨S16x256x1024, .f32⟩
  | .hbm, ⟨13, _⟩ => ⟨S16x256x1024, .f32⟩
  | .hbm, ⟨14, _⟩ => ⟨S16x256x1024, .f32⟩
  | .hbm, ⟨15, _⟩ => ⟨S16x256x1024, .f32⟩
  | .hbm, ⟨16, _⟩ => ⟨S16x256x704, .f32⟩
  | .hbm, ⟨17, _⟩ => ⟨S16x256x384, .f32⟩
  | .hbm, ⟨18, _⟩ => ⟨S16x256x256, .f32⟩
  | .hbm, ⟨19, _⟩ => ⟨S16x256x64, .f32⟩
  | .hbm, ⟨20, _⟩ => ⟨S16x256x384, .f32⟩
  | .hbm, ⟨21, _⟩ => ⟨S_, .f32⟩
  | .hbm, ⟨22, _⟩ => ⟨S16x256, .f32⟩
  | .hbm, ⟨23, _⟩ => ⟨S16x256x1, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S_, .f32⟩
  | .hbm, ⟨28, _⟩ => ⟨S16x256x1, .f32⟩
  | .hbm, ⟨29, _⟩ => ⟨S16x256x1, .f32⟩
  | .hbm, ⟨30, _⟩ => ⟨S16x256x1, .f32⟩
  | .hbm, ⟨31, _⟩ => ⟨S16x256x384, .f32⟩
  | .hbm, ⟨32, _⟩ => ⟨S16x256x384, .f32⟩
  | .hbm, ⟨33, _⟩ => ⟨S1x1x384, .f32⟩
  | .hbm, ⟨34, _⟩ => ⟨S16x256x384, .f32⟩
  | .hbm, ⟨35, _⟩ => ⟨S16x256x384, .f32⟩
  | .hbm, ⟨36, _⟩ => ⟨S16x256x8x192, .f32⟩
  | .hbm, ⟨37, _⟩ => ⟨S16x256x256, .f32⟩
  | .hbm, ⟨38, _⟩ => ⟨S_, .f32⟩
  | .hbm, ⟨39, _⟩ => ⟨S16x256, .f32⟩
  | .hbm, ⟨40, _⟩ => ⟨S16x256x1, .f32⟩
  | .hbm, ⟨41, _⟩ => ⟨S_, .f32⟩
  | .hbm, ⟨42, _⟩ => ⟨S16x256x1, .f32⟩
  | .hbm, ⟨43, _⟩ => ⟨S16x256x1, .f32⟩
  | .hbm, ⟨44, _⟩ => ⟨S_, .f32⟩
  | .hbm, ⟨45, _⟩ => ⟨S16x256x1, .f32⟩
  | .hbm, ⟨46, _⟩ => ⟨S16x256x1, .f32⟩
  | .hbm, ⟨47, _⟩ => ⟨S16x256x1, .f32⟩
  | .hbm, ⟨48, _⟩ => ⟨S16x256x256, .f32⟩
  | .hbm, ⟨49, _⟩ => ⟨S16x256x256, .f32⟩
  | .hbm, ⟨50, _⟩ => ⟨S1x1x256, .f32⟩
  | .hbm, ⟨51, _⟩ => ⟨S16x256x256, .f32⟩
  | .hbm, ⟨52, _⟩ => ⟨S16x256x256, .f32⟩
  | .hbm, ⟨53, _⟩ => ⟨S16x256x8x256, .f32⟩
  | .hbm, ⟨54, _⟩ => ⟨S_, .i32⟩
  | .hbm, ⟨55, _⟩ => ⟨S_, .f32⟩
  | .hbm, ⟨56, _⟩ => ⟨S16x256x8x256, .f32⟩
  | .hbm, ⟨57, _⟩ => ⟨S_, .i32⟩
  | .hbm, ⟨58, _⟩ => ⟨S_, .f32⟩
  | .hbm, ⟨59, _⟩ => ⟨S16x256x128, .f32⟩
  | .hbm, ⟨60, _⟩ => ⟨S4096x2048, .f32⟩
  | .hbm, ⟨61, _⟩ => ⟨S4096x2048, .bf16⟩
  | .hbm, ⟨62, _⟩ => ⟨S4096x2048, .f32⟩
  | .hbm, ⟨63, _⟩ => ⟨S4096x2048, .bf16⟩
  | .hbm, ⟨64, _⟩ => ⟨S4096x128, .f32⟩
  | .hbm, ⟨65, _⟩ => ⟨S4096x128, .bf16⟩
  | .hbm, ⟨66, _⟩ => ⟨S4096x256, .f32⟩
  | .hbm, ⟨67, _⟩ => ⟨S4096x64, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c : Ref sig .tc := ⟨.hbm, 54, rfl⟩
abbrev main_call0_v0 : Ref sig .tc := ⟨.hbm, 55, rfl⟩
abbrev main_v39 : Ref sig .tc := ⟨.hbm, 56, rfl⟩
abbrev main_c_6 : Ref sig .tc := ⟨.hbm, 57, rfl⟩
abbrev main_call1_v0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Kernel5.lean ====
abbrev S4096x1024 : Shape := ⟨2, ![4096, 1024]⟩
abbrev S1x1x1024 : Shape := ⟨3, ![1, 1, 1024]⟩
abbrev S1024x1536 : Shape := ⟨2, ![1024, 1536]⟩
abbrev S1024x1024 : Shape := ⟨2, ![1024, 1024]⟩
abbrev S1024x256 : Shape := ⟨2, ![1024, 256]⟩
abbrev S1024x4x64 : Shape := ⟨3, ![1024, 4, 64]⟩
abbrev S_ : Shape := ⟨0, ![]⟩
abbrev S1024x4x1x64 : Shape := ⟨4, ![1024, 4, 1, 64]⟩
abbrev S1024x4x4x64 : Shape := ⟨4, ![1024, 4, 4, 64]⟩
abbrev S1024x4x2x64 : Shape := ⟨4, ![1024, 4, 2, 64]⟩
abbrev S1024x512 : Shape := ⟨2, ![1024, 512]⟩
abbrev S1024x2560 : Shape := ⟨2, ![1024, 2560]⟩
abbrev S4096x512 : Shape := ⟨2, ![4096, 512]⟩
abbrev S4096x256 : Shape := ⟨2, ![4096, 256]⟩
abbrev S512x1024 : Shape := ⟨2, ![512, 1024]⟩
abbrev S512x512 : Shape := ⟨2, ![512, 512]⟩
abbrev S512x256 : Shape := ⟨2, ![512, 256]⟩
abbrev S1x1024 : Shape := ⟨2, ![1, 1024]⟩
abbrev S512x2560 : Shape := ⟨2, ![512, 2560]⟩
abbrev S512x128 : Shape := ⟨2, ![512, 128]⟩

abbrev nBuf : Space → Nat
  | .hbm => 28
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1x1024, .f32⟩
  | .hbm, ⟨2, _⟩ => ⟨S1x1x1024, .f32⟩
  | .hbm, ⟨3, _⟩ => ⟨S1024x1536, .f32⟩
  | .hbm, ⟨4, _⟩ => ⟨S1024x1024, .f32⟩
  | .hbm, ⟨5, _⟩ => ⟨S1024x256, .f32⟩
  | .hbm, ⟨6, _⟩ => ⟨S1024x4x64, .f32⟩
  | .hbm, ⟨7, _⟩ => ⟨S_, .f32⟩
  | .hbm, ⟨8, _⟩ => ⟨S1024x4x64, .f32⟩
  | .hbm, ⟨9, _⟩ => ⟨S1024x4x1x64, .f32⟩
  | .hbm, ⟨10, _⟩ => ⟨S1024x4x1x64, .f32⟩
  | .hbm, ⟨11, _⟩ => ⟨S1024x4x1x64, .f32⟩
  | .hbm, ⟨12, _⟩ => ⟨S1024x4x1x64, .f32⟩
  | .hbm, ⟨13, _⟩ => ⟨S1024x4x4x64, .f32⟩
  | .hbm, ⟨14, _⟩ => ⟨S1024x1024, .f32⟩
  | .hbm, ⟨15, _⟩ => ⟨S1024x256, .f32⟩
  | .hbm, ⟨16, _⟩ => ⟨S1024x4x64, .f32⟩
  | .hbm, ⟨17, _⟩ => ⟨S1024x4x1x64, .f32⟩
  | .hbm, ⟨18, _⟩ => ⟨S1024x4x1x64, .f32⟩
  | .hbm, ⟨19, _⟩ => ⟨S1024x4x2x64, .f32⟩
  | .hbm, ⟨20, _⟩ => ⟨S1024x512, .f32⟩
  | .hbm, ⟨21, _⟩ => ⟨S1024x2560, .f32⟩
  | .hbm, ⟨22, _⟩ => ⟨S1024x2560, .bf16⟩
  | .hbm, ⟨23, _⟩ => ⟨S4096x1024, .bf16⟩
  | .hbm, ⟨24, _⟩ => ⟨S4096x1024, .bf16⟩
  | .hbm, ⟨25, _⟩ => ⟨S4096x512, .bf16⟩
  | .hbm, ⟨26, _⟩ => ⟨S4096x256, .f32⟩
  | .hbm, ⟨27, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2560, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x512, .bf16⟩
  | .local _ .vmem, ⟨12, _⟩ => ⟨S512x512, .bf16⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev main_v18_2 : Ref sig .tc := ⟨.hbm, 25, rfl⟩
abbrev main_v18_3 : Ref sig .tc := ⟨.hbm, 26, rfl⟩
abbrev main_v18_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S4096x1024 : Shape := ⟨2, ![4096, 1024]⟩
abbrev S1x1x1024 : Shape := ⟨3, ![1, 1, 1024]⟩
abbrev S1024x1536 : Shape := ⟨2, ![1024, 1536]⟩
abbrev S16x256x1024 : Shape := ⟨3, ![16, 256, 1024]⟩
abbrev S_ : Shape := ⟨0, ![]⟩
abbrev S16x256x1536 : Shape := ⟨3, ![16, 256, 1536]⟩
abbrev S16x256x256 : Shape := ⟨3, ![16, 256, 256]⟩
abbrev S4096x4x64 : Shape := ⟨3, ![4096, 4, 64]⟩
abbrev S4096x4x256 : Shape := ⟨3, ![4096, 4, 256]⟩
abbrev S4096x4x128 : Shape := ⟨3, ![4096, 4, 128]⟩
abbrev S4096x512 : Shape := ⟨2, ![4096, 512]⟩
abbrev S4096x256 : Shape := ⟨2, ![4096, 256]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1x1024, .f32⟩
  | .hbm, ⟨2, _⟩ => ⟨S1x1x1024, .f32⟩
  | .hbm, ⟨3, _⟩ => ⟨S1024x1536, .f32⟩
  | .hbm, ⟨4, _⟩ => ⟨S16x256x1024, .f32⟩
  | .hbm, ⟨5, _⟩ => ⟨S_, .f32⟩
  | .hbm, ⟨6, _⟩ => ⟨S1x1x1024, .f32⟩
  | .hbm, ⟨7, _⟩ => ⟨S1x1x1024, .f32⟩
  | .hbm, ⟨8, _⟩ => ⟨S16x256x1024, .f32⟩
  | .hbm, ⟨9, _⟩ => ⟨S16x256x1024, .f32⟩
  | .hbm, ⟨10, _⟩ => ⟨S16x256x1024, .f32⟩
  | .hbm, ⟨11, _⟩ => ⟨S16x256x1024, .f32⟩
  | .hbm, ⟨12, _⟩ => ⟨S16x256x1536, .f32⟩
  | .hbm, ⟨13, _⟩ => ⟨S16x256x1024, .f32⟩
  | .hbm, ⟨14, _⟩ => ⟨S16x256x256, .f32⟩
  | .hbm, ⟨15, _⟩ => ⟨S16x256x256, .f32⟩
  | .hbm, ⟨16, _⟩ => ⟨S4096x4x64, .f32⟩
  | .hbm, ⟨17, _⟩ => ⟨S4096x4x64, .f32⟩
  | .hbm, ⟨18, _⟩ => ⟨S_, .f32⟩
  | .hbm, ⟨19, _⟩ => ⟨S4096x4x64, .f32⟩
  | .hbm, ⟨20, _⟩ => ⟨S4096x4x256, .f32⟩
  | .hbm, ⟨21, _⟩ => ⟨S4096x4x128, .f32⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S4096x1024, .bf16⟩
  | .hbm, ⟨26, _⟩ => ⟨S4096x512, .f32⟩
  | .hbm, ⟨27, _⟩ => ⟨S4096x512, .bf16⟩
  | .hbm, ⟨28, _⟩ => ⟨S4096x256, .f32⟩
  | .hbm, ⟨29, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Proof.Softmax.lean ====
module

public import Idealize.ShloMosaic.PureOps.Ideal
public import Idealize.ShloMosaic.PureOps.Ideal.Laws

@[expose] public section

noncomputable section

/-! # Softmax attention over the extended reals

The mathematics the attention proofs share: a weighted mean whose weights are normalised before the sum over the keys
is the sum normalised afterwards, and a softmax over a joined list of keys is the one over its two parts. -/

namespace Cert.Softmax

open Idealize.ShloMosaic

/-- An extended real that is neither infinity. -/
def Fin' (x : EReal) : Prop := x ≠ ⊤ ∧ x ≠ ⊥

theorem Fin'.mul {x y : EReal} (hx : Fin' x) (hy : Fin' y) : Fin' (x * y) := by
  lift x to ℝ using hx; lift y to ℝ using hy
  exact ⟨EReal.coe_ne_top (x * y), EReal.coe_ne_bot (x * y)⟩

theorem Fin'.add {x y : EReal} (hx : Fin' x) (hy : Fin' y) : Fin' (x + y) := by
  lift x to ℝ using hx; lift y to ℝ using hy
  exact ⟨EReal.coe_ne_top (x + y), EReal.coe_ne_bot (x + y)⟩

theorem Fin'.sum {ι : Type*} (s : Finset ι) {f : ι → EReal} (h : ∀ k ∈ s, Fin' (f k)) : Fin' (∑ k ∈ s, f k) := by
  classical
  induction s using Finset.induction_on with
  | empty => exact ⟨EReal.zero_ne_top, EReal.zero_ne_bot⟩
  | insert a s ha ih =>
    rw [Finset.sum_insert ha]
    exact (h a (Finset.mem_insert_self a s)).add (ih fun k hk => h k (Finset.mem_insert_of_mem hk))

/-- A positive real factor goes through a sum of extended reals. -/
theorem sum_mul_coe {ι : Type*} (s : Finset ι) (f : ι → EReal) {r : ℝ} (hr : 0 < r) :
    (∑ k ∈ s, f k) * (r : EReal) = ∑ k ∈ s, f k * (r : EReal) := by
  classical
  induction s using Finset.induction_on with
  | empty => simp
  | insert a s ha ih =>
    rw [Finset.sum_insert ha, Finset.sum_insert ha, ← ih,
      EReal.right_distrib_of_nonneg_of_ne_top (EReal.coe_nonneg.mpr hr.le) (EReal.coe_ne_top r)]

/-- Weights divided by a positive real one by one, or their weighted sum divided once. -/
theorem sum_mul_div {ι : Type*} [Fintype ι] (p v : ι → EReal) {l : ℝ} (hl : 0 < l) :
    ∑ k, v k * Ideal.div (p k) (l : EReal) = Ideal.div (∑ k, p k * v k) (l : EReal) := by
  rw [Ideal.div_coe hl.ne', sum_mul_coe _ _ (one_div_pos.mpr hl)]
  refine Finset.sum_congr rfl fun k _ => ?_
  rw [Ideal.div_coe hl.ne', ← mul_assoc, mul_comm (v k)]

/-- The exponential of a score against a real maximum is a nonnegative real, for a score below `+∞`. -/
theorem exp_sub_real {x : EReal} (hx : x ≠ ⊤) (M : ℝ) : ∃ r : ℝ, 0 ≤ r ∧ Ideal.exp (x - (M : EReal)) = (r : EReal) := by
  induction x with
  | bot => exact ⟨0, le_refl _, by simp [sub_eq_add_neg]⟩
  | top => exact absurd rfl hx
  | coe x => exact ⟨Real.exp (x - M), (Real.exp_pos _).le, by rw [← EReal.coe_sub]; rfl⟩

/-- A sum of nonnegative reals, one of them positive. -/
theorem sum_real {ι : Type*} (s : Finset ι) (f : ι → EReal) (h : ∀ k ∈ s, ∃ r : ℝ, 0 ≤ r ∧ f k = (r : EReal)) :
    ∃ r : ℝ, 0 ≤ r ∧ ∑ k ∈ s, f k = (r : EReal) ∧ ∀ k ∈ s, f k ≤ (r : EReal) := by
  classical
  induction s using Finset.induction_on with
  | empty => exact ⟨0, le_refl _, by simp, by simp⟩
  | insert a s ha ih =>
    obtain ⟨r, hr, e, hle⟩ := ih fun k hk => h k (Finset.mem_insert_of_mem hk)
    obtain ⟨q, hq, eq⟩ := h a (Finset.mem_insert_self a s)
    refine ⟨q + r, add_nonneg hq hr, by rw [Finset.sum_insert ha, e, eq, EReal.coe_add], fun k hk => ?_⟩
    rcases Finset.mem_insert.mp hk with rfl | hk
    · rw [eq]; exact EReal.coe_le_coe_iff.mpr (by linarith)
    · exact (hle k hk).trans (EReal.coe_le_coe_iff.mpr (by linarith))

/-- The largest of finitely many scores, `-∞` of none. -/
def peak {ι : Type*} [Fintype ι] (s : ι → EReal) : EReal := Finset.fold max ⊥ s Finset.univ

theorem peak_eq_sup {ι : Type*} [Fintype ι] (s : ι → EReal) : peak s = Finset.univ.sup s := rfl

/-- Scores below `+∞`, one of them a real: their peak is a real, and so is the sum of the exponentials against it,
    which is positive. -/
theorem denom_real {ι : Type*} [Fintype ι] (s : ι → EReal) (hT : ∀ k, s k ≠ ⊤) (hB : ∃ k, s k ≠ ⊥) :
    ∃ M l : ℝ, 0 < l ∧ peak s = (M : EReal) ∧ ∑ k, Ideal.exp (s k - (M : EReal)) = (l : EReal) := by
  obtain ⟨k₀, hk₀⟩ := hB
  obtain ⟨k, -, hk⟩ := Finset.exists_mem_eq_sup Finset.univ ⟨k₀, Finset.mem_univ _⟩ s
  have hM : peak s = s k := by rw [peak_eq_sup, hk]
  have hne : s k ≠ ⊥ := fun e => hk₀ (le_bot_iff.mp (e ▸ hk ▸ Finset.le_sup (Finset.mem_univ k₀)))
  obtain ⟨M, hMk⟩ : ∃ M : ℝ, s k = (M : EReal) := ⟨(s k).toReal, (EReal.coe_toReal (hT k) hne).symm⟩
  obtain ⟨l, hl, e, hle⟩ := sum_real Finset.univ (fun j => Ideal.exp (s j - (M : EReal))) fun j _ => exp_sub_real (hT j) M
  refine ⟨M, l, ?_, hM.trans hMk, e⟩
  have h1 := hle k (Finset.mem_univ k)
  simp only [hMk] at h1
  rw [← EReal.coe_sub, sub_self, Ideal.exp_coe, Real.exp_zero] at h1
  exact lt_of_lt_of_le one_pos (EReal.coe_le_coe_iff.mp h1)

/-- Attention with the weights normalised first: `∑ₖ v k · (exp (s k - max) / ∑ exp)`. -/
def soft {ι : Type*} [Fintype ι] (s v : ι → EReal) : EReal :=
  ∑ k, v k * Ideal.div (Ideal.exp (s k - peak s)) (∑ j, Ideal.exp (s j - peak s))

/-- Attention over keys in two parts with the sum normalised last. -/
def soft₂ {ι κ : Type*} [Fintype ι] [Fintype κ] (s v : ι → EReal) (s' v' : κ → EReal) : EReal :=
  Ideal.div (∑ k, Ideal.exp (s k - max (peak s) (peak s')) * v k + ∑ k, Ideal.exp (s' k - max (peak s) (peak s')) * v' k)
    (∑ k, Ideal.exp (s k - max (peak s) (peak s')) + ∑ k, Ideal.exp (s' k - max (peak s) (peak s')))

/-- The peak of a list of keys in two parts. -/
theorem peak_append {C L : ℕ} (s : Fin (C + L) → EReal) :
    peak s = max (peak fun k : Fin C => s (Fin.castAdd L k)) (peak fun k : Fin L => s (Fin.natAdd C k)) := by
  simp only [peak_eq_sup]
  refine le_antisymm (Finset.sup_le fun k _ => ?_) (max_le (Finset.sup_le fun k _ => ?_) (Finset.sup_le fun k _ => ?_))
  · refine Fin.addCases (fun k => ?_) (fun k => ?_) k
    · exact le_max_of_le_left (Finset.le_sup (f := fun k : Fin C => s (Fin.castAdd L k)) (Finset.mem_univ k))
    · exact le_max_of_le_right (Finset.le_sup (f := fun k : Fin L => s (Fin.natAdd C k)) (Finset.mem_univ k))
  · exact Finset.le_sup (f := s) (Finset.mem_univ _)
  · exact Finset.le_sup (f := s) (Finset.mem_univ _)

/-- The softmax over all keys at once, its weights normalised first, is the one over two parts of the keys normalised
    last, for scores below `+∞` of which one is a real. -/
theorem soft_eq_soft₂ {C L : ℕ} (s v : Fin (C + L) → EReal) (hT : ∀ k, s k ≠ ⊤) (hB : ∃ k, s k ≠ ⊥) :
    soft s v = soft₂ (fun k : Fin C => s (Fin.castAdd L k)) (fun k => v (Fin.castAdd L k))
      (fun k : Fin L => s (Fin.natAdd C k)) (fun k => v (Fin.natAdd C k)) := by
  obtain ⟨M, l, hl, hM, hs⟩ := denom_real s hT hB
  unfold soft soft₂
  rw [← peak_append, hM, hs, sum_mul_div _ _ hl, ← hs, Fin.sum_univ_add, Fin.sum_univ_add]

end Cert.Softmax

end
-- ==== Proof.LatRef.lean ====
module

public import proofs.«01_k».proof.Proof.Gen.ReferenceIdeal.Read
public import proofs.«01_k».proof.Proof.Softmax
public import Idealize.ShloMosaic.Lib.Pipeline.ValueKit
public import Idealize.ShloMosaic.Lib.Pointwise

@[expose] public section

set_option maxRecDepth 16384

noncomputable section

/-! # What the latent attention's reference computes, element by element -/

namespace Cert.ReferenceIdeal.LatRef

open Cert.ReferenceIdeal Cert.ReferenceIdeal.Gen Cert.ReferenceIdeal.Read Cert.Softmax
open Idealize.ShloMosaic Idealize.ShloMosaic.TcCoe Idealize.SL.Sem

/-- A maximum over the keys, of any array of scores. -/
theorem rowmax (Y : FVec Ideal S4x8x1024x1280 .f32) (I : FVec Ideal S_ .f32) (h : S4x8x1024x1280.ReducesTo [3] S4x8x1024)
    (hu : 0 < S_.numel) (b : Fin 4) (n : Fin 8) (q : Fin 1024) :
    Host.reduce (FloatOps.maximumf (F := Ideal) (φ := .f32)) Y I h hu (ix3 b n q)
      = Finset.fold max (I (Shape.Idx.first hu)) (fun x => Y (ix4 b n q x)) Finset.univ := by
  pointwise

theorem ofBits_bot : Ideal.ofBits .f32 0xFF800000#32 = ⊥ := by simp [Ideal.ofBits, Ideal.ieee]

variable (x0 x1 : FVec Ideal S4096x2048 .bf16) (x2 : FVec Ideal S4096x128 .bf16) (x3 : FVec Ideal S1024x2048 .bf16)
  (x4 : FVec Ideal S1024x128 .bf16)

/-- The maximum of one query's scores. -/
theorem max_at (b : Fin 4) (n : Fin 8) (q : Fin 1024) :
    val_main_v25 (F := Ideal) x0 x1 x2 x3 x4 (ix3 b n q) = peak fun k => val_main_v22 (F := Ideal) x0 x1 x2 x3 x4 (ix4 b n q k) := by
  have e : val_main_v23 (F := Ideal) x0 x1 x2 x3 x4 (ix3 b n q) = peak fun k => val_main_v22 (F := Ideal) x0 x1 x2 x3 x4 (ix4 b n q k) := by
    unfold val_main_v23
    generalize val_main_v22 (F := Ideal) x0 x1 x2 x3 x4 = Y
    rw [rowmax]
    unfold peak
    rw [val_main_cst_0_apply]
    exact congrArg (fun z => Finset.fold max z _ _) ofBits_bot
  rw [val_main_v25_apply, e, val_main_v24_apply, val_main_cst_1_apply]
  refine (congrArg (fun z => max z _) ofBits_bot).trans ?_
  exact max_bot_left _

/-- One query's attention over one head's keys: the softmax of its scores, times the values. -/
theorem out_at (r : Fin 4096) (j : Fin 1024) (b : Fin 4) (q : Fin 1024) (n : Fin 8) (d : Fin 128)
    (hr : (r : ℕ) = b * 1024 + q) (hj : (j : ℕ) = n * 128 + d) :
    val_main_v37 (F := Ideal) x0 x1 x2 x3 x4 (ix2 r j)
      = soft (fun k => val_main_v22 (F := Ideal) x0 x1 x2 x3 x4 (ix4 b n q k)) fun k => val_main_v19 (F := Ideal) x1 x3 (ix4 b k n d) := by
  have e1 : val_main_v37 (F := Ideal) x0 x1 x2 x3 x4 (ix2 r j) = val_main_v34 (F := Ideal) x0 x1 x2 x3 x4 (ix4 b n d q) := by
    pointwise [val_main_v37, val_main_v36, val_main_v35]
    blk_ext
  have e2 : ∀ k, val_main_v29 (F := Ideal) x0 x1 x2 x3 x4 (ix4 b n q k)
      = Ideal.exp (val_main_v22 (F := Ideal) x0 x1 x2 x3 x4 (ix4 b n q k) - val_main_v25 (F := Ideal) x0 x1 x2 x3 x4 (ix3 b n q)) := by
    intro k
    pointwise [val_main_v29, val_main_v28, val_main_v27, val_main_v26]
  have e3 : val_main_v30 (F := Ideal) x0 x1 x2 x3 x4 (ix3 b n q) = ∑ k, val_main_v29 (F := Ideal) x0 x1 x2 x3 x4 (ix4 b n q k) := by
    pointwise [val_main_v30, val_main_cst_2]
  have e4 : ∀ k, val_main_v33 (F := Ideal) x0 x1 x2 x3 x4 (ix4 b n q k)
      = Ideal.div (val_main_v29 (F := Ideal) x0 x1 x2 x3 x4 (ix4 b n q k)) (val_main_v30 (F := Ideal) x0 x1 x2 x3 x4 (ix3 b n q)) := by
    intro k
    pointwise [val_main_v33, val_main_v32, val_main_v31]
  have e5 : val_main_v34 (F := Ideal) x0 x1 x2 x3 x4 (ix4 b n d q)
      = ∑ k, val_main_v19 (F := Ideal) x1 x3 (ix4 b k n d) * val_main_v33 (F := Ideal) x0 x1 x2 x3 x4 (ix4 b n q k) := by
    rw [val_main_v34_apply]
    refine Finset.sum_congr rfl fun k _ => ?_
    congr 2 <;> (funext a; fin_cases a <;> rfl)
  rw [e1, e5]
  unfold soft
  refine Finset.sum_congr rfl fun k _ => ?_
  rw [e4, e3, e2, max_at]
  simp only [e2, max_at]

/-- The scores' factor. -/
abbrev scale : EReal := Ideal.ofBits .f32 0x3D93CD3A#32

/-- A score of a query of sequence `b` against its cached key `k`. -/
theorem score_ctx (b : Fin 4) (n : Fin 8) (q : Fin 1024) (k : Fin 256) (k' : Fin 1280) (hk : (k' : ℕ) = k) :
    val_main_v22 (F := Ideal) x0 x1 x2 x3 x4 (ix4 b n q k')
      = (∑ x : Fin 128, x0 (ix2 ⟨b * 1024 + q, by omega⟩ ⟨n * 256 + x, by omega⟩) * x3 (ix2 ⟨b * 256 + k, by omega⟩ ⟨n * 256 + x, by omega⟩)
          + ∑ x : Fin 128, x0 (ix2 ⟨b * 1024 + q, by omega⟩ ⟨n * 256 + (128 + x), by omega⟩) * x4 (ix2 ⟨b * 256 + k, by omega⟩ x)) * scale := by
  have hlt : (k' : ℕ) < 256 := by omega
  pointwise [val_main_v22, val_main_v20, val_main_v21, val_main_cst, val_main_v1, val_main_v0, val_main_v18, val_main_v16,
    val_main_v8, val_main_v7, val_main_v3, val_main_v6, val_main_v5, val_main_v4, val_main_v2, val_main_v15, val_main_v14,
    val_main_v13, val_main_v12, val_main_v11, val_main_v10]
  have hlt' : (k : ℕ) < 256 := by omega
  simp only [hk, hlt', dif_pos]

/-- A score of a query of sequence `b` against the key `k` of the sequence itself. -/
theorem score_lat (b : Fin 4) (n : Fin 8) (q : Fin 1024) (k : Fin 1024) (k' : Fin 1280) (hk : (k' : ℕ) = 256 + k) :
    val_main_v22 (F := Ideal) x0 x1 x2 x3 x4 (ix4 b n q k')
      = (∑ x : Fin 128, x0 (ix2 ⟨b * 1024 + q, by omega⟩ ⟨n * 256 + x, by omega⟩) * x1 (ix2 ⟨b * 1024 + k, by omega⟩ ⟨n * 256 + x, by omega⟩)
          + ∑ x : Fin 128, x0 (ix2 ⟨b * 1024 + q, by omega⟩ ⟨n * 256 + (128 + x), by omega⟩) * x2 (ix2 ⟨b * 1024 + k, by omega⟩ x)) * scale := by
  have hlt : ¬ (k' : ℕ) < 256 := by omega
  have he : (k' : ℕ) - 256 = k := by omega
  pointwise [val_main_v22, val_main_v20, val_main_v21, val_main_cst, val_main_v1, val_main_v0, val_main_v18, val_main_v16,
    val_main_v8, val_main_v7, val_main_v3, val_main_v6, val_main_v5, val_main_v4, val_main_v2, val_main_v15, val_main_v14,
    val_main_v13, val_main_v12, val_main_v11, val_main_v10]
  simp only [hlt, dif_neg, not_false_eq_true, he]

/-- The value at a cached key. -/
theorem value_ctx (b : Fin 4) (n : Fin 8) (d : Fin 128) (k : Fin 256) (k' : Fin 1280) (hk : (k' : ℕ) = k) :
    val_main_v19 (F := Ideal) x1 x3 (ix4 b k' n d) = x3 (ix2 ⟨b * 256 + k, by omega⟩ ⟨n * 256 + (128 + d), by omega⟩) := by
  have hlt : (k' : ℕ) < 256 := by omega
  pointwise [val_main_v19, val_main_v17, val_main_v9, val_main_v11, val_main_v10, val_main_v3, val_main_v2]
  have hlt' : (k : ℕ) < 256 := by omega
  simp only [hk, hlt', dif_pos]

/-- The value at a key of the sequence itself. -/
theorem value_lat (b : Fin 4) (n : Fin 8) (d : Fin 128) (k : Fin 1024) (k' : Fin 1280) (hk : (k' : ℕ) = 256 + k) :
    val_main_v19 (F := Ideal) x1 x3 (ix4 b k' n d) = x1 (ix2 ⟨b * 1024 + k, by omega⟩ ⟨n * 256 + (128 + d), by omega⟩) := by
  have hlt : ¬ (k' : ℕ) < 256 := by omega
  have he : (k' : ℕ) - 256 = k := by omega
  pointwise [val_main_v19, val_main_v17, val_main_v9, val_main_v11, val_main_v10, val_main_v3, val_main_v2]
  simp only [hlt, dif_neg, not_false_eq_true, he]

theorem scale_fin : Fin' scale := by
  have e : scale = ((9686330 * (2 ^ 27)⁻¹ : ℝ) : EReal) := by simp [scale, Ideal.ofBits, Ideal.ieee]
  rw [e]
  exact ⟨EReal.coe_ne_top _, EReal.coe_ne_bot _⟩

/-- Finite queries and keys. -/
structure Finite : Prop where
  q : ∀ i, Fin' (x0 i)
  pe : ∀ i, Fin' (x2 i)
  pec : ∀ i, Fin' (x4 i)
  key : ∀ (r : Fin 4096) (n : Fin 8) (x : Fin 128), Fin' (x1 (ix2 r ⟨n * 256 + x, by omega⟩))
  keyc : ∀ (r : Fin 1024) (n : Fin 8) (x : Fin 128), Fin' (x3 (ix2 r ⟨n * 256 + x, by omega⟩))

variable {x0 x1 x2 x3 x4}

/-- Finite queries and keys make finite scores. -/
theorem score_fin (h : Finite x0 x1 x2 x3 x4) (b : Fin 4) (n : Fin 8) (q : Fin 1024) (k : Fin 1280) :
    Fin' (val_main_v22 (F := Ideal) x0 x1 x2 x3 x4 (ix4 b n q k)) := by
  by_cases hk : (k : ℕ) < 256
  · rw [score_ctx x0 x1 x2 x3 x4 b n q ⟨k, hk⟩ k rfl]
    exact ((Fin'.sum _ fun x _ => (h.q _).mul (h.keyc _ _ _)).add (Fin'.sum _ fun x _ => (h.q _).mul (h.pec _))).mul scale_fin
  · rw [score_lat x0 x1 x2 x3 x4 b n q ⟨k - 256, by omega⟩ k (by dsimp only; omega)]
    exact ((Fin'.sum _ fun x _ => (h.q _).mul (h.key _ _ _)).add (Fin'.sum _ fun x _ => (h.q _).mul (h.pe _))).mul scale_fin

/-- The reference's element, its softmax in two parts of keys and normalised last. -/
theorem out_parts (h : Finite x0 x1 x2 x3 x4) (r : Fin 4096) (j : Fin 1024) (b : Fin 4) (q : Fin 1024) (n : Fin 8) (d : Fin 128)
    (hr : (r : ℕ) = b * 1024 + q) (hj : (j : ℕ) = n * 128 + d) :
    val_main_v37 (F := Ideal) x0 x1 x2 x3 x4 (ix2 r j)
      = soft₂ (fun k : Fin 256 => (∑ x : Fin 128, x0 (ix2 ⟨b * 1024 + q, by omega⟩ ⟨n * 256 + x, by omega⟩) * x3 (ix2 ⟨b * 256 + k, by omega⟩ ⟨n * 256 + x, by omega⟩)
          + ∑ x : Fin 128, x0 (ix2 ⟨b * 1024 + q, by omega⟩ ⟨n * 256 + (128 + x), by omega⟩) * x4 (ix2 ⟨b * 256 + k, by omega⟩ x)) * scale)
        (fun k : Fin 256 => x3 (ix2 ⟨b * 256 + k, by omega⟩ ⟨n * 256 + (128 + d), by omega⟩))
        (fun k : Fin 1024 => (∑ x : Fin 128, x0 (ix2 ⟨b * 1024 + q, by omega⟩ ⟨n * 256 + x, by omega⟩) * x1 (ix2 ⟨b * 1024 + k, by omega⟩ ⟨n * 256 + x, by omega⟩)
          + ∑ x : Fin 128, x0 (ix2 ⟨b * 1024 + q, by omega⟩ ⟨n * 256 + (128 + x), by omega⟩) * x2 (ix2 ⟨b * 1024 + k, by omega⟩ x)) * scale)
        (fun k : Fin 1024 => x1 (ix2 ⟨b * 1024 + k, by omega⟩ ⟨n * 256 + (128 + d), by omega⟩)) := by
  rw [out_at x0 x1 x2 x3 x4 r j b q n d hr hj]
  refine (soft_eq_soft₂ (C := 256) (L := 1024) _ _ (fun k => (score_fin h b n q k).1) ⟨0, (score_fin h b n q 0).2⟩).trans ?_
  have a1 := fun k : Fin 256 => score_ctx x0 x1 x2 x3 x4 b n q k (Fin.castAdd 1024 k) rfl
  have a2 := fun k : Fin 1024 => score_lat x0 x1 x2 x3 x4 b n q k (Fin.natAdd 256 k) rfl
  have a3 := fun k : Fin 256 => value_ctx x1 x3 b n d k (Fin.castAdd 1024 k) rfl
  have a4 := fun k : Fin 1024 => value_lat x1 x3 b n d k (Fin.natAdd 256 k) rfl
  rw [funext a1, funext a2, funext a3, funext a4]

end Cert.ReferenceIdeal.LatRef

end
-- ==== Proof.LatPre.lean ====
/-  What the precondition of the attention says: the queries, the keys and the rotary keys are finite. -/
module

public import proofs.«01_k».proof.Proof.LatRef
public import proofs.«01_k».proof.Proof.Gen.Pre_finite_scores
public import Idealize.ShloMosaic.Lib.ReduceAll
public import Idealize.ShloMosaic.Lib.Pipeline.ValueKit

@[expose] public section

noncomputable section

namespace Cert.Pre_finite_scores.LatPre

open Idealize.ShloMosaic Cert.Pre_finite_scores Cert.Softmax

/-- A word `|x| < ∞` that is 1 says that `x` is finite. -/
theorem fin_of_lt {s : Shape} (x : FVec Ideal s .f32) (y : FVec Ideal s .f32) (i : s.Idx) (hy : y i = Ideal.ofBits .f32 0x7F800000#32)
    (h : cmpf (F := Ideal) .olt (Host.absf x) y i = 1#1) : Fin' (x i) := by
  have e : Ideal.ofBits .f32 0x7F800000#32 = ⊤ := by simp [Ideal.ofBits, Ideal.ieee]
  have h' : (max (x i) (-(x i)) : EReal) < ⊤ := by
    by_contra hn
    rw [← e, ← hy] at hn
    have : cmpf (F := Ideal) .olt (Host.absf x) y i = 0#1 := by
      change BitVec.ofBool (decide _) = _
      rw [decide_eq_false (show ¬ Host.absf x i < y i from hn)]
      rfl
    rw [this] at h
    exact absurd h (by decide)
  have h1 := lt_of_le_of_lt (le_max_left _ _) h'
  have h2 := lt_of_le_of_lt (le_max_right _ _) h'
  refine ⟨h1.ne, fun hb => ?_⟩
  rw [hb] at h2
  simp at h2

theorem and_split {a b : IVec S_ 1} {j : S_.Idx} (h : andi a b j = 1#1) : a j = 1#1 ∧ b j = 1#1 := by
  have h' : a j &&& b j = 1#1 := h
  revert h'
  generalize a j = u
  generalize b j = v
  revert u v
  decide

variable {x0 x1 : FVec Ideal Cert.ReferenceIdeal.S4096x2048 .bf16} {x2 : FVec Ideal Cert.ReferenceIdeal.S4096x128 .bf16}
    {x3 : FVec Ideal Cert.ReferenceIdeal.S1024x2048 .bf16} {x4 : FVec Ideal Cert.ReferenceIdeal.S1024x128 .bf16}

/-- The precondition gives finite queries and keys. -/
theorem finite_of_fn (h : fn (F := Ideal) x0 x1 x2 x3 x4 = fun _ => 1#1) :
    Cert.ReferenceIdeal.LatRef.Finite x0 x1 x2 x3 x4 := by
  have h0 := congrFun h (ix0)
  dsimp only [fn, fn_part1] at h0
  obtain ⟨h0, h5⟩ := and_split h0
  obtain ⟨h0, h4⟩ := and_split h0
  obtain ⟨h0, h3⟩ := and_split h0
  obtain ⟨h1, h2⟩ := and_split h0
  constructor
  · intro i; exact fin_of_lt _ _ i rfl (Host.reduce_andi_all _ _ _ _ _ h1 i)
  · intro i; exact fin_of_lt _ _ i rfl (Host.reduce_andi_all _ _ _ _ _ h2 i)
  · intro i; exact fin_of_lt _ _ i rfl (Host.reduce_andi_all _ _ _ _ _ h3 i)
  · intro r n x
    have := fin_of_lt _ _ (ix3 r n x) rfl (Host.reduce_andi_all _ _ _ _ _ h4 (ix3 r n x))
    revert this
    pointwise
    exact id
  · intro r n x
    have := fin_of_lt _ _ (ix3 r n x) rfl (Host.reduce_andi_all _ _ _ _ _ h5 (ix3 r n x))
    revert this
    pointwise
    exact id

end Cert.Pre_finite_scores.LatPre

end
-- ==== Proof.LatHead.lean ====
module

public import proofs.«01_k».proof.Proof.Gen.KernelIdeal.Value
public import proofs.«01_k».proof.Proof.Softmax
public import Idealize.ShloMosaic.Lib.Pipeline.ValueKit
public import Idealize.ShloMosaic.Lib.Pointwise

@[expose] public section

set_option maxRecDepth 16384

noncomputable section

namespace Cert.KernelIdeal.LatHead

open Cert.KernelIdeal Cert.KernelIdeal.Gen Cert.Softmax
open Idealize.ShloMosaic.Pipeline (Dat)
open Idealize.ShloMosaic Idealize.ShloMosaic.TcCoe Idealize.SL.Sem

theorem ofBits_bot : Ideal.ofBits .f32 0xFF800000#32 = ⊥ := by simp [Ideal.ofBits, Ideal.ieee]

/-- One head of one query block: queries `q`, the cached keys `kc` and the block's own `kl` (each joined with its rotary
    part), their values `vc` and `vl`. -/
def head (kpel : Vec Ideal S1024x128 .bf16) (kpec : Vec Ideal S256x128 .bf16) (q : Vec Ideal S512x256 .bf16)
    (kc : Vec Ideal S256x128 .bf16) (kl : Vec Ideal S1024x128 .bf16) (vc : Vec Ideal S256x128 .bf16)
    (vl : Vec Ideal S1024x128 .bf16) : FVec Ideal S512x128 .bf16 :=
  k0_pay10 (k0_pay7 kpel kpec q kc kl) (k0_pay8 kpel kpec q kc kl vc) (k0_pay9 kpel kpec q kc kl) vl (constant S512x128 .f32 0x00000000#32)

/-- A score against a cached key. -/
theorem ctx_at (kpec : Vec Ideal S256x128 .bf16) (q : Vec Ideal S512x256 .bf16) (kc : Vec Ideal S256x128 .bf16) (a : Fin 512) (k : Fin 256) :
    k0_pay2 kpec q kc (ix2 a k)
      = (∑ x : Fin 128, q (ix2 a ⟨x, by omega⟩) * kc (ix2 k x) + ∑ x : Fin 128, q (ix2 a ⟨128 + x, by omega⟩) * kpec (ix2 k x))
        * Ideal.ofBits .f32 0x3D93CD3A#32 := by
  pointwise [k0_pay2]

/-- A score against a key of the sequence itself. -/
theorem lat_at (kpel : Vec Ideal S1024x128 .bf16) (q : Vec Ideal S512x256 .bf16) (kl : Vec Ideal S1024x128 .bf16) (a : Fin 512) (k : Fin 1024) :
    k0_pay3 kpel q kl (ix2 a k)
      = (∑ x : Fin 128, q (ix2 a ⟨x, by omega⟩) * kl (ix2 k x) + ∑ x : Fin 128, q (ix2 a ⟨128 + x, by omega⟩) * kpel (ix2 k x))
        * Ideal.ofBits .f32 0x3D93CD3A#32 := by
  pointwise [k0_pay3]

variable (kpel : Vec Ideal S1024x128 .bf16) (kpec : Vec Ideal S256x128 .bf16) (q : Vec Ideal S512x256 .bf16)
    (kc : Vec Ideal S256x128 .bf16) (kl : Vec Ideal S1024x128 .bf16) (vc : Vec Ideal S256x128 .bf16)
    (vl : Vec Ideal S1024x128 .bf16)

/-- One head's element: the softmax over both parts of the keys, normalised last. -/
theorem head_at (a : Fin 512) (d : Fin 128) : head kpel kpec q kc kl vc vl (ix2 a d)
    = soft₂ (fun k : Fin 256 => k0_pay2 kpec q kc (ix2 a k)) (fun k => vc (ix2 k d))
        (fun k : Fin 1024 => k0_pay3 kpel q kl (ix2 a k)) (fun k => vl (ix2 k d)) := by
  have e : peak (fun k : Fin 256 => k0_pay2 kpec q kc (ix2 a k)) = Finset.fold max (Ideal.ofBits FTy.f32 4286578688#32) (fun x => k0_pay2 kpec q kc (ix2 a x)) Finset.univ :=
    congrArg (fun z => Finset.fold max z _ _) ofBits_bot.symm
  have e' : peak (fun k : Fin 1024 => k0_pay3 kpel q kl (ix2 a k)) = Finset.fold max (Ideal.ofBits FTy.f32 4286578688#32) (fun x => k0_pay3 kpel q kl (ix2 a x)) Finset.univ :=
    congrArg (fun z => Finset.fold max z _ _) ofBits_bot.symm
  unfold soft₂
  rw [e, e']
  pointwise [head, k0_pay10, k0_pay7, k0_pay8, k0_pay9, k0_pay5, k0_pay6, k0_pay4]

/-- The element `(a, n * 128 + d)` of a query block's output, head `n`, from the blocks. -/
def elem (x0 : Vec Ideal S512x2048 .bf16) (x1 : Vec Ideal S1024x2048 .bf16) (x2 : Vec Ideal S1024x128 .bf16)
    (x3 : Vec Ideal S256x2048 .bf16) (x4 : Vec Ideal S256x128 .bf16) (a : Fin 512) (n : Fin 8) (d : Fin 128) : EReal :=
  soft₂ (fun k : Fin 256 => (∑ x : Fin 128, x0 (ix2 a ⟨n * 256 + x, by omega⟩) * x3 (ix2 k ⟨n * 256 + x, by omega⟩)
          + ∑ x : Fin 128, x0 (ix2 a ⟨n * 256 + (128 + x), by omega⟩) * x4 (ix2 k x)) * Ideal.ofBits .f32 0x3D93CD3A#32)
    (fun k : Fin 256 => x3 (ix2 k ⟨n * 256 + (128 + d), by omega⟩))
    (fun k : Fin 1024 => (∑ x : Fin 128, x0 (ix2 a ⟨n * 256 + x, by omega⟩) * x1 (ix2 k ⟨n * 256 + x, by omega⟩)
          + ∑ x : Fin 128, x0 (ix2 a ⟨n * 256 + (128 + x), by omega⟩) * x2 (ix2 k x)) * Ideal.ofBits .f32 0x3D93CD3A#32)
    (fun k : Fin 1024 => x1 (ix2 k ⟨n * 256 + (128 + d), by omega⟩))

/-- A head at the slices of the blocks that the head `n` reads. -/
theorem head_elem (x0 : Vec Ideal S512x2048 .bf16) (x1 : Vec Ideal S1024x2048 .bf16) (x2 : Vec Ideal S1024x128 .bf16)
    (x3 : Vec Ideal S256x2048 .bf16) (x4 : Vec Ideal S256x128 .bf16) (a : Fin 512) (n : Fin 8) (d : Fin 128)
    (hpl : ∀ i, kpel i = x2 i) (hpc : ∀ i, kpec i = x4 i)
    (hq : ∀ (i : Fin 512) (x : Fin 256), q (ix2 i x) = x0 (ix2 i ⟨n * 256 + x, by omega⟩))
    (hkc : ∀ (i : Fin 256) (x : Fin 128), kc (ix2 i x) = x3 (ix2 i ⟨n * 256 + x, by omega⟩))
    (hkl : ∀ (i : Fin 1024) (x : Fin 128), kl (ix2 i x) = x1 (ix2 i ⟨n * 256 + x, by omega⟩))
    (hvc : ∀ (i : Fin 256) (x : Fin 128), vc (ix2 i x) = x3 (ix2 i ⟨n * 256 + (128 + x), by omega⟩))
    (hvl : ∀ (i : Fin 1024) (x : Fin 128), vl (ix2 i x) = x1 (ix2 i ⟨n * 256 + (128 + x), by omega⟩)) :
    head kpel kpec q kc kl vc vl (ix2 a d) = elem x0 x1 x2 x3 x4 a n d := by
  rw [head_at]
  unfold elem
  simp only [ctx_at, lat_at, hpl, hpc, hq, hkc, hkl, hvc, hvl]

/-- A head's element at the row `y 0` and the column `y 1` of the output block, whose head is `n`. -/
theorem head_piece (x0 : Vec Ideal S512x2048 .bf16) (x1 : Vec Ideal S1024x2048 .bf16) (x2 : Vec Ideal S1024x128 .bf16)
    (x3 : Vec Ideal S256x2048 .bf16) (x4 : Vec Ideal S256x128 .bf16) (n : Fin 8) (y : S512x1024.Idx) (x : S512x128.Idx)
    (h0 : (y 0 : ℕ) = x 0) (h1 : (y 1 : ℕ) = n * 128 + x 1)
    (hpl : ∀ i, kpel i = x2 i) (hpc : ∀ i, kpec i = x4 i)
    (hq : ∀ (i : Fin 512) (x : Fin 256), q (ix2 i x) = x0 (ix2 i ⟨n * 256 + x, by omega⟩))
    (hkc : ∀ (i : Fin 256) (x : Fin 128), kc (ix2 i x) = x3 (ix2 i ⟨n * 256 + x, by omega⟩))
    (hkl : ∀ (i : Fin 1024) (x : Fin 128), kl (ix2 i x) = x1 (ix2 i ⟨n * 256 + x, by omega⟩))
    (hvc : ∀ (i : Fin 256) (x : Fin 128), vc (ix2 i x) = x3 (ix2 i ⟨n * 256 + (128 + x), by omega⟩))
    (hvl : ∀ (i : Fin 1024) (x : Fin 128), vl (ix2 i x) = x1 (ix2 i ⟨n * 256 + (128 + x), by omega⟩)) :
    head kpel kpec q kc kl vc vl x = elem x0 x1 x2 x3 x4 (y 0) ⟨(y 1 : ℕ) / 128, by have := (y 1).isLt; simp at this; omega⟩
      ⟨(y 1 : ℕ) % 128, by omega⟩ := by
  have hx : (x 1 : ℕ) < 128 := (x 1).isLt
  have e : x = ix2 (x 0) (x 1) := by ext i; fin_cases i <;> rfl
  have e0 : y 0 = x 0 := Fin.ext h0
  have e1 : (⟨(y 1 : ℕ) / 128, by have := (y 1).isLt; simp at this; omega⟩ : Fin 8) = n := Fin.ext (by dsimp only; omega)
  have e2 : (⟨(y 1 : ℕ) % 128, by omega⟩ : Fin 128) = x 1 := Fin.ext (by dsimp only; omega)
  rw [e0, e1, e2, e]
  exact head_elem kpel kpec q kc kl vc vl x0 x1 x2 x3 x4 (x 0) n (x 1) hpl hpc hq hkc hkl hvc hvl

theorem head7 : k0_pay1 (k0_pay67 kpel kpec q kc kl) (k0_pay68 kpel kpec q kc kl) (k0_pay69 kpel kpec q kc kl) vc vl = head kpel kpec q kc kl vc vl := rfl
theorem head6 : k0_pay62 (k0_pay59 kpel kpec q kc kl) (k0_pay60 kpel kpec q kc kl) (k0_pay61 kpel kpec q kc kl) vc (constant S512x128 .f32 0x00000000#32) vl = head kpel kpec q kc kl vc vl := rfl
theorem head5 : k0_pay54 (k0_pay51 kpel kpec q kc kl) (k0_pay52 kpel kpec q kc kl) (k0_pay53 kpel kpec q kc kl vc) vl = head kpel kpec q kc kl vc vl := rfl
theorem head4 : k0_pay46 (k0_pay43 kpel kpec q kc kl) (k0_pay44 kpel kpec q kc kl vc) (k0_pay45 kpel kpec q kc kl) vl = head kpel kpec q kc kl vc vl := rfl
theorem head3 : k0_pay37 (k0_pay34 kpel kpec q kc kl) (k0_pay35 kpel kpec q kc kl vc) (k0_pay36 kpel kpec q kc kl) vl = head kpel kpec q kc kl vc vl := rfl
theorem head2 : k0_pay28 (k0_pay25 kpel kpec q kc kl) (k0_pay26 kpel kpec q kc kl vc) (k0_pay27 kpel kpec q kc kl) vl = head kpel kpec q kc kl vc vl := rfl
theorem head1 : k0_pay19 (k0_pay16 kpel kpec q kc kl) (k0_pay17 kpel kpec q kc kl vc) (k0_pay18 kpel kpec q kc kl) vl = head kpel kpec q kc kl vc vl := rfl

/-- Every element of a query block's output. -/
theorem out_elem (x0 : Vec Ideal S512x2048 .bf16) (x1 : Vec Ideal S1024x2048 .bf16) (x2 : Vec Ideal S1024x128 .bf16)
    (x3 : Vec Ideal S256x2048 .bf16) (x4 : Vec Ideal S256x128 .bf16) (y : S512x1024.Idx) :
    out0_5 x0 x1 x2 x3 x4 y = elem x0 x1 x2 x3 x4 (y 0) ⟨(y 1 : ℕ) / 128, by have := (y 1).isLt; simp at this; omega⟩ ⟨(y 1 : ℕ) % 128, by omega⟩ := by
  unfold out0_5
  canon_tiles x h
  · refine (congrFun (head7 _ _ _ _ _ _ _) x).trans ?_
    refine head_piece _ _ _ _ _ _ _ x0 x1 x2 x3 x4 7 y x h0 (by exact h1) (fun i => ?_) (fun i => ?_) (fun i x => ?_) (fun i x => ?_) (fun i x => ?_) (fun i x => ?_) fun i x => ?_
    all_goals first | rfl | blk_ext | (pointwise; blk_ext)
  · refine (congrFun (head6 _ _ _ _ _ _ _) x).trans ?_
    refine head_piece _ _ _ _ _ _ _ x0 x1 x2 x3 x4 6 y x h0 (by exact h1) (fun i => ?_) (fun i => ?_) (fun i x => ?_) (fun i x => ?_) (fun i x => ?_) (fun i x => ?_) fun i x => ?_
    all_goals first | rfl | blk_ext | (pointwise; blk_ext)
  · refine (congrFun (head5 _ _ _ _ _ _ _) x).trans ?_
    refine head_piece _ _ _ _ _ _ _ x0 x1 x2 x3 x4 5 y x h0 (by exact h1) (fun i => ?_) (fun i => ?_) (fun i x => ?_) (fun i x => ?_) (fun i x => ?_) (fun i x => ?_) fun i x => ?_
    all_goals first | rfl | blk_ext | (pointwise; blk_ext)
  · refine (congrFun (head4 _ _ _ _ _ _ _) x).trans ?_
    refine head_piece _ _ _ _ _ _ _ x0 x1 x2 x3 x4 4 y x h0 (by exact h1) (fun i => ?_) (fun i => ?_) (fun i x => ?_) (fun i x => ?_) (fun i x => ?_) (fun i x => ?_) fun i x => ?_
    all_goals first | rfl | blk_ext | (pointwise; blk_ext)
  · refine (congrFun (head3 _ _ _ _ _ _ _) x).trans ?_
    refine head_piece _ _ _ _ _ _ _ x0 x1 x2 x3 x4 3 y x h0 (by exact h1) (fun i => ?_) (fun i => ?_) (fun i x => ?_) (fun i x => ?_) (fun i x => ?_) (fun i x => ?_) fun i x => ?_
    all_goals first | rfl | blk_ext | (pointwise; blk_ext)
  · refine (congrFun (head2 _ _ _ _ _ _ _) x).trans ?_
    refine head_piece _ _ _ _ _ _ _ x0 x1 x2 x3 x4 2 y x h0 (by exact h1) (fun i => ?_) (fun i => ?_) (fun i x => ?_) (fun i x => ?_) (fun i x => ?_) (fun i x => ?_) fun i x => ?_
    all_goals first | rfl | blk_ext | (pointwise; blk_ext)
  · refine (congrFun (head1 _ _ _ _ _ _ _) x).trans ?_
    refine head_piece _ _ _ _ _ _ _ x0 x1 x2 x3 x4 1 y x h0 (by exact h1) (fun i => ?_) (fun i => ?_) (fun i x => ?_) (fun i x => ?_) (fun i x => ?_) (fun i x => ?_) fun i x => ?_
    all_goals first | rfl | blk_ext | (pointwise; blk_ext)
  · change head _ _ _ _ _ _ _ x = _
    refine head_piece _ _ _ _ _ _ _ x0 x1 x2 x3 x4 0 y x h0 (by simpa using h1) (fun i => ?_) (fun i => ?_) (fun i x => ?_) (fun i x => ?_) (fun i x => ?_) (fun i x => ?_) fun i x => ?_
    all_goals first | rfl | blk_ext | (pointwise; blk_ext)

end Cert.KernelIdeal.LatHead

end
-- ==== Proof.LatFinal.lean ====
/-  The attention kernel's output array: every block is a block of the reference. -/
module

public import proofs.«01_k».proof.Proof.LatHead
public import proofs.«01_k».proof.Proof.LatRef
public import proofs.«01_k».proof.Proof.Gen.KernelIdeal.Value

@[expose] public section

noncomputable section

namespace Cert.KernelIdeal.LatFinal

open Idealize.ShloMosaic Idealize.SL.Sem Cert.KernelIdeal Cert.KernelIdeal.Gen Cert.KernelIdeal.LatHead Cert.Softmax
open Cert.ReferenceIdeal.LatRef (Finite out_parts)

variable (m : (ℓ : Loc nD τ sig) → Buf (Elt Ideal) ℓ)

/-- The blocks of a grid point `t`: sequence `t / 2`, half `t % 2` of its queries. -/
theorem idx : ∀ t : Fin cfg0.N, win0_0.index t = ![t.val, 0] ∧ win0_1.index t = ![t.val / 2, 0] ∧ win0_2.index t = ![t.val / 2, 0]
    ∧ win0_3.index t = ![t.val / 2, 0] ∧ win0_4.index t = ![t.val / 2, 0] ∧ win0_5.index t = ![t.val, 0] :=
  (by decide +kernel : ∀ t : Fin grid0.N, _)

/-- One element of one block, against the reference. -/
theorem point (c : Dev nD) (h : Finite (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (t : Fin cfg0.N) (y : S512x1024.Idx)
    (j : S4096x1024.Idx) (hj0 : (j 0 : ℕ) = t.val * 512 + y 0) (hj1 : (j 1 : ℕ) = y 1) :
    elem (iblk m c 0 t) (iblk m c 1 t) (iblk m c 2 t) (iblk m c 3 t) (iblk m c 4 t) (y 0)
        ⟨(y 1 : ℕ) / 128, by have := (y 1).isLt; simp at this; omega⟩ ⟨(y 1 : ℕ) % 128, by omega⟩
      = Cert.ReferenceIdeal.Read.val_main_v37 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) j := by
  have ht : t.val < 8 := lt_of_lt_of_eq t.isLt N_0
  have hy0 : (y 0 : ℕ) < 512 := (y 0).isLt
  have hy1 : (y 1 : ℕ) < 1024 := (y 1).isLt
  have ej : j = ix2 (j 0) (j 1) := by ext i; fin_cases i <;> rfl
  refine Eq.trans ?_ ((congrArg _ ej).trans (out_parts h (j 0) (j 1) ⟨t.val / 2, by omega⟩ ⟨t.val % 2 * 512 + y 0, by omega⟩ ⟨(y 1 : ℕ) / 128, by omega⟩
    ⟨(y 1 : ℕ) % 128, by omega⟩ (by dsimp only; omega) (by dsimp only; omega))).symm
  unfold elem
  congr 1 <;> funext k
  · blk_point [iblk, V, idx t]
  · blk_point [iblk, V, idx t]
  · blk_point [iblk, V, idx t]
  · blk_point [iblk, V, idx t]

/-- The output array is the reference's result. -/
theorem final (c : Dev nD) (h : Finite (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) :
    (dats m 0 c).arrAt 5 cfg0.N
      = Cert.ReferenceIdeal.Read.val_main_v37 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (dats m 0 c).arrAt_eq_of_covers 5 _ (by decide +kernel) fun t _ y => ?_
  blk_simp
  rw [after0_5, out_elem]
  refine point m c h t y _ ?_ ?_ <;> (blk_simp [idx t] <;> try omega)

end Cert.KernelIdeal.LatFinal

end
-- ==== Proof.Lat.lean ====
/-  The claims about the attention of the latent tokens. -/
module

public import proofs.«01_k».proof.Defs
public import proofs.«01_k».proof.Proof.LatPre
public import proofs.«01_k».proof.Proof.LatFinal
public import proofs.«01_k».proof.Proof.Gen.Kernel.Frame
public import Idealize.ShloMosaic.Lib.Claim

@[expose] public section

noncomputable section

namespace Cert.Proof.Lat

open Idealize.ShloMosaic Idealize.SL.Sem

/-- The kernel runs, whatever its floats are. -/
theorem frameP : Cert.quiescent_Kernel := fun m ρ _ => Cert.Kernel.Gen.frame m ρ

/-- The ideal kernel runs. -/
theorem framePI : Cert.quiescent_KernelIdeal := fun m ρ _ => Cert.KernelIdeal.Gen.frame m ρ

/-- The ideal kernel runs under the value claim's precondition. -/
theorem framePI' : Cert.quiescent_KernelIdeal_pre_finite_scores := fun m ρ _ => Cert.KernelIdeal.Gen.frame m ρ

/-- The ideal reference runs. -/
theorem frameRI : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The ideal reference runs under the value claim's precondition. -/
theorem frameRI' : Cert.quiescent_ReferenceIdeal_pre_finite_scores := fun m g _ => frameRI m g trivial

/-- Over the extended reals the kernel and the reference compute the same attention. -/
theorem algebraic : Cert.algebraic_KernelIdeal_ReferenceIdeal_pre_finite_scores := by
  pair_intro
  · run_from Cert.KernelIdeal.Gen.run_main m g
  · run_from Cert.ReferenceIdeal.Value.run m' g'
    have hf : Cert.ReferenceIdeal.LatRef.Finite (m (c.tc.loc Cert.KernelIdeal.main_arg0)) (m (c.tc.loc Cert.KernelIdeal.main_arg1))
        (m (c.tc.loc Cert.KernelIdeal.main_arg2)) (m (c.tc.loc Cert.KernelIdeal.main_arg3)) (m (c.tc.loc Cert.KernelIdeal.main_arg4)) :=
      Cert.Pre_finite_scores.LatPre.finite_of_fn (hpre c)
    obtain ⟨h0, h1, h2, h3, h4⟩ := hagree c
    refine (Cert.ReferenceIdeal.Read.val_main_v37_eq m' c).trans ?_
    refine Eq.trans ?_ (Cert.KernelIdeal.LatFinal.final m c hf).symm
    rw [h0, h1, h2, h3, h4]

end Cert.Proof.Lat

end
-- ==== Proof.FfnPre.lean ====
/- What the precondition of the routed experts says: every row of the table is one of the 4096 rows of the activations. -/
module

public import proofs.«01_k».proof.Pre_idx_in_range
public import proofs.«01_k».proof.Proof.Gen.Pre_idx_in_range
public import Idealize.ShloMosaic.Lib.ReduceAll
public import Idealize.ShloMosaic.Lib.Pipeline.ValueKit

@[expose] public section

noncomputable section

namespace Cert.Pre_idx_in_range.FfnPre

open Idealize.ShloMosaic Cert.Pre_idx_in_range

variable {F : FTy → Type} [FloatOps F]

/-- A word that is at least 0 and below 4096, as a signed number, is below 4096. -/
theorem lt_of_words (v : BitVec 32) (h : IntOp.cmpi .sge v 0#32 &&& IntOp.cmpi .slt v 4096#32 = 1#1) : v.toNat < 4096 := by
  have h' : BitVec.ofBool ((0#32).sle v) &&& BitVec.ofBool (v.slt 4096#32) = 1#1 := h
  have h1 : (0#32).sle v = true ∧ v.slt 4096#32 = true := by
    revert h'
    generalize (0#32).sle v = a
    generalize v.slt 4096#32 = b
    revert a b
    decide
  obtain ⟨ha, hb⟩ := h1
  simp only [BitVec.sle, BitVec.slt, decide_eq_true_eq] at ha hb
  have e0 : (0#32).toInt = 0 := by decide
  have e1 : (4096#32).toInt = 4096 := by decide
  rw [e0] at ha
  rw [e1] at hb
  have := v.isLt
  rw [BitVec.toInt_eq_toNat_cond] at ha hb
  split at ha <;> omega

variable {x0 : IVec S16384 32} {x1 x2 : FVec F S32768x128 .f32} {x3 x4 : FVec F S16x512x128 .f32} {x5 x6 : FVec F S64x1024x2048 .f32}
    {x7 : FVec F S64x2048x1024 .f32}

/-- The precondition bounds the rows. -/
theorem rows_of_fn (h : fn (F := F) x0 x1 x2 x3 x4 x5 x6 x7 = fun _ => 1#1) (j : S16384.Idx) : (x0 j).toNat < 4096 := by
  have h0 := congrFun h (ix0)
  dsimp only [fn] at h0
  exact lt_of_words (x0 j) (Host.reduce_andi_all _ _ _ _ _ h0 j)

end Cert.Pre_idx_in_range.FfnPre

end
-- ==== Proof.FfnGather.lean ====
module

public import proofs.«01_k».proof.Proof.Gen.Kernel2.Loops
public import proofs.«01_k».proof.Proof.Gen.Kernel2.Launch
public import Idealize.ShloMosaic.Lib.Batch
public import Idealize.ShloMosaic.Lib.Pipeline.Frame
public import Idealize.ShloMosaic.Lib.Ring
public import Idealize.ShloMosaic.Lib.Tactic

@[expose] public section

/-!
# The gather of an expert's rows

An expert's 1024 rows (512 of the context, 512 of the latent tokens) are copied one by one, each an
`8 × 128` block, from the two activations in HBM into one buffer, by 1024 transfers on one semaphore.
This module states what the buffer holds when all of them have landed, and proves one trip of the loop
that issues them.
-/

noncomputable section

namespace Cert.Kernel2.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2 Cert.Kernel2.Gen

variable {F : FTy → Type} [FloatOps F]

local notation "𝕄" => MT nD τ sig Unit (Elt F) ℕ (Pipeline.UD sig nD τ) ℕ

/-! ## What the gathered buffer holds -/

/-- Word `n` of the table (wrapped). -/
def tIx (n : ℕ) : S16384.Idx := fun d =>
  match d with
  | ⟨0, _⟩ => ⟨n % 16384, Nat.mod_lt n (show 0 < 16384 by decide)⟩

/-- The row of the activations that word `n` of the table names (wrapped into range, so that it is total). -/
def rowOf (T : S16384.Idx → BitVec 32) (n : ℕ) : ℕ :=
  (T (tIx n)).toNat % 4096

theorem rowOf_lt (T : S16384.Idx → BitVec 32) (n : ℕ) : rowOf T n < 4096 := Nat.mod_lt _ (show 0 < 4096 by decide)

/-- An index of the activations by its row of 128 lanes and its lane. -/
def hIx (a : ℕ) (b : Fin 128) : S32768x128.Idx := fun d =>
  match d with
  | ⟨0, _⟩ => ⟨a % 32768, Nat.mod_lt _ (by decide)⟩
  | ⟨1, _⟩ => b

/-- The gathered rows of expert `e`: row `r` is the row of the context (`r < 512`) or of the latent tokens that word
    `1024 e + r` of the table names. -/
def G (T : S16384.Idx → BitVec 32) (hc hl : S32768x128.Idx → Elt F .f32) (e : ℕ) : S8192x128.Idx → Elt F .f32 := fun y =>
  (if (y 0).val / 8 < 512 then hc else hl) (hIx (8 * rowOf T (1024 * e + (y 0).val / 8) + (y 0).val % 8) (y 1))

/-- The elements of row `r` of the gathered buffer. -/
def rowSet (r : ℕ) : Finset S8192x128.Idx := Finset.univ.filter fun y => (y 0).val / 8 = r

theorem rowSet_disjoint (r r' : ℕ) (h : r ≠ r') : Disjoint (rowSet r) (rowSet r') := by
  rw [Finset.disjoint_left]
  intro y hy hy'
  simp only [rowSet, Finset.mem_filter, Finset.mem_univ, true_and] at hy hy'
  exact h (hy.symm.trans hy')

theorem rowSet_cover : (Finset.range 1024).biUnion rowSet = Finset.univ := by
  ext y
  simp only [Finset.mem_biUnion, Finset.mem_range, rowSet, Finset.mem_filter, Finset.mem_univ, true_and, iff_true]
  exact ⟨_, by have := (y 0).isLt; change (y 0).val < 8192 at this; omega, rfl⟩

/-! ## Blocks -/

theorem srcInb {ρ : ℕ} (h : ρ < 4096) : ∀ a, (![8 * ρ, 0] : Fin 2 → ℕ) a + S8x128.size a ≤ S32768x128.size a := by
  intro a; fin_cases a
  · show 8 * ρ + 8 ≤ 32768; omega
  · show 0 + 128 ≤ 128; omega

theorem dstInb {r : ℕ} (h : r < 1024) : ∀ a, (![8 * r, 0] : Fin 2 → ℕ) a + S8x128.size a ≤ S8192x128.size a := by
  intro a; fin_cases a
  · show 8 * r + 8 ≤ 8192; omega
  · show 0 + 128 ≤ 128; omega

/-- Row `ρ` of an activation. -/
def srcBlk (M : Memref sig .tc .hbm S32768x128 .f32) (ρ : ℕ) (h : ρ < 4096) : Memref sig .tc .hbm S8x128 .f32 :=
  M.slice (Rect.unit (s := S32768x128) ![8 * ρ, 0] S8x128.size (srcInb h)) (fun _ => rfl)

/-- Row `r` of the gathered buffer. -/
def dstBlk (r : ℕ) (h : r < 1024) : Memref sig .tc .vmem S8x128 .f32 :=
  (Memref.whole cc0_scratch0).slice (Rect.unit (s := S8192x128) ![8 * r, 0] S8x128.size (dstInb h)) (fun _ => rfl)

theorem dstBlk_set (r : ℕ) (h : r < 1024) : (dstBlk r h).view.set ⊆ rowSet r := by
  intro (y : S8192x128.Idx) hy
  have hy' : y ∈ (Rect.unit (s := S8192x128) ![8 * r, 0] S8x128.size (dstInb h)).set := by
    have := View.set_slice_whole (sig := sig) cc0_scratch0 (Rect.unit (s := S8192x128) ![8 * r, 0] S8x128.size (dstInb h))
    exact this ▸ hy
  have h0 := (Rect.mem_set_unit (s := S8192x128)).mp hy' 0
  change 8 * r ≤ (y 0).val ∧ (y 0).val < 8 * r + 8 at h0
  have h1 : (y 0).val / 8 = r := by omega
  exact Finset.mem_filter.mpr ⟨Finset.mem_univ _, h1⟩

/-- The element of an `8 × 128` block under element `y` of a row of the gathered buffer. -/
def sub (y : S8192x128.Idx) : S8x128.Idx := fun d =>
  match d with
  | ⟨0, _⟩ => ⟨(y 0).val % 8, Nat.mod_lt _ (show 0 < 8 by decide)⟩
  | ⟨1, _⟩ => y 1

/-- What a row holds once a block is written over it. -/
theorem write_row (r : ℕ) (h : r < 1024) (fd : S8192x128.Idx → Elt F .f32) (w : S8x128.Idx → Elt F .f32)
    (y : S8192x128.Idx) (hy : y ∈ rowSet r) :
    (dstBlk r h).view.write (Elt F) fd w Finset.univ y = w (sub y) := by
  simp only [rowSet, Finset.mem_filter, Finset.mem_univ, true_and] at hy
  have e : (dstBlk r h).view.emb (sub y) = y := by
    funext d
    apply Fin.ext
    match d with
    | ⟨0, _⟩ =>
      show 8 * r + 1 * ((y 0).val % 8) = (y 0).val
      omega
    | ⟨1, _⟩ =>
      show 0 + 1 * (y 1).val = (y 1).val
      omega
  exact (congrArg _ e.symm).trans (View.write_emb_of_mem (v := (dstBlk r h).view) (Val := Elt F) fd w (Finset.mem_univ (sub y)))

/-- The words a block of an activation reads. -/
theorem read_blk (M : Memref sig .tc .hbm S32768x128 .f32) (ρ : ℕ) (h : ρ < 4096) (fs : M.view.ty.Contents (Elt F)) (y : S8192x128.Idx) :
    (srcBlk M ρ h).view.read (Elt F) fs (sub y) = M.view.read (Elt F) fs (hIx (8 * ρ + (y 0).val % 8) (y 1)) := by
  have e : (Rect.unit (s := S32768x128) ![8 * ρ, 0] S8x128.size (srcInb h)).emb (sub y) = hIx (8 * ρ + (y 0).val % 8) (y 1) := by
    funext d
    apply Fin.ext
    match d with
    | ⟨0, _⟩ =>
      show 8 * ρ + 1 * ((y 0).val % 8) = (8 * ρ + (y 0).val % 8) % 32768
      omega
    | ⟨1, _⟩ =>
      show 0 + 1 * (y 1).val = (y 1).val
      omega
  exact congrArg (M.view.read (Elt F) fs) e

/-! ## One transfer -/

section Issue

variable (c : Dev nD)

/-- A row of the gathered buffer, held at contents `f`. -/
abbrev xeRow (r : ℕ) (f : S8192x128.Idx → Elt F .f32) : sProp 𝕄 :=
  (Memref.whole cc0_scratch0).view.loc (c : Thread nD τ) ↦[rowSet r]{fullShare} f

/-- The share of an activation that the transfer of row `r` is lent. -/
abbrev tokS (r : ℕ) : PosShare TreeShare := Transfers.shareTokN fullShare (r % 512)

/-- The block a transfer reads, lent to it. -/
abbrev lent (M : Memref sig .tc .hbm S32768x128 .f32) (fs : M.view.ty.Contents (Elt F)) (r ρ : ℕ) (h : ρ < 4096) : sProp 𝕄 :=
  (srcBlk M ρ h).view.loc (c : Thread nD τ) ↦[(srcBlk M ρ h).view.set]{tokS r} fs

/-- The rest of the share of which the block was lent. -/
abbrev kept (M : Memref sig .tc .hbm S32768x128 .f32) (fs : M.view.ty.Contents (Elt F)) (r ρ : ℕ) (h : ρ < 4096) : sProp 𝕄 :=
  M.view.loc (c : Thread nD τ) ↦[Finset.univ \ (srcBlk M ρ h).view.set]{tokS r} fs

/-- The whole of an activation at the share of row `r`. -/
abbrev tok (M : Memref sig .tc .hbm S32768x128 .f32) (fs : M.view.ty.Contents (Elt F)) (r : ℕ) : sProp 𝕄 :=
  M.view.loc (c : Thread nD τ) ↦{tokS r} fs

theorem tok_split (M : Memref sig .tc .hbm S32768x128 .f32) (fs : M.view.ty.Contents (Elt F)) (r ρ : ℕ) (h : ρ < 4096) :
    tok c M fs r ⊣⊢ iprop(lent c M fs r ρ h ∗ kept c M fs r ρ h) :=
  pointsTo_split_subset (Finset.subset_univ _)

/-- The semaphore of the gather. -/
abbrev gsem : DmaSem sig := ((cc0_scratch3.slice (Rect.unit (s := S1) ![0] S1.size inb_S1_S1_0)).squeeze S_ squeezes_S1_S_).sem

/-- One transfer of the batch: row `ρ` of an activation into row `r` of the gathered buffer. -/
theorem issue {𝒱 : Variants} {bd : Option 𝒱.V} {α : Type} {Q : α → sProp 𝕄} (M : Memref sig .tc .hbm S32768x128 .f32) (fs : M.view.ty.Contents (Elt F)) (r ρ : ℕ) (hr : r < 1024) (hρ : ρ < 4096)
    (g fd : S8192x128.Idx → Elt F .f32)
    (hg : ∀ y ∈ rowSet r, g y = M.view.read (Elt F) fs (hIx (8 * ρ + (y 0).val % 8) (y 1)))
    {n : ℕ} (D : Fin n → sProp 𝕄) (j : ℕ) (hj : j < n)
    (hD : iprop(xeRow c r g ∗ lent c M fs r ρ hρ) ⊢ D ⟨j, hj⟩)
    {hsrc : (srcBlk M ρ hρ).view.WordExact} {hdst : (dstBlk r hr).view.WordExact}
    {hsem : DmaTarget.Typed (nD := nD) (τ := τ) (p := (c : Thread nD τ).2) .hbm (.dma gsem) (.here (dstBlk r hr))}
    {k : PUnit → Prog (TpuEff nD τ sig (Elt F) Λ₀ .tc) α} :
    iprop(tok c M fs r ∗ xeRow c r fd ∗ Transfers.Batch (countersEmb (U := Pipeline.UD sig nD τ)) (c : Thread nD τ) (.dma gsem) () 128 D j 0)
      ⊢ iprop((iprop(kept c M fs r ρ hρ ∗ Transfers.Batch (countersEmb (U := Pipeline.UD sig nD τ)) (c : Thread nD τ) (.dma gsem) () 128 D (j + 1) 0)
            -∗ wp frame (wpE defs₀ 𝒱 (c : Thread nD τ) bd) Set.univ (k ⟨⟩) Q)
          -∗ wp frame (wpE defs₀ 𝒱 (c : Thread nD τ) bd) Set.univ
              (.op (.enqueueDma (srcBlk M ρ hρ) (.here (dstBlk r hr)) (.dma gsem) hsrc hdst hsem) k) Q) := by
  iintro ⟨HT, HX, HB⟩ Hk
  ihave HT' := (tok_split c M fs r ρ hρ).1 $$ HT
  icases HT' with ⟨HL, HK⟩
  iapply (Transfers.wp_dmaBatch (countersEmb (U := Pipeline.UD sig nD τ)) 𝒱 (c : Thread nD τ) bd (src := srcBlk M ρ hρ) (dst := dstBlk r hr)
    () 128 rfl (dstBlk_set r hr) (D := D) (j := j) (u := 0) hj (Nat.zero_le _) ((sep_mono (Entails.of_eq (pointsTo_congr fun y hy => ?_)) .rfl).trans hD)) $$ [HL HX HB]
  · exact (write_row r hr fd _ y hy).trans ((read_blk M ρ hρ fs y).trans (hg y hy).symm)
  · isplitl [HL]; · iexact HL
    isplitl [HX]; · iexact HX
    iexact HB
  iintro HB
  iapply Hk
  isplitl [HK]; · iexact HK
  iexact HB

/-- The same of offsets that are equal to the rows'. -/
theorem issue' {𝒱 : Variants} {bd : Option 𝒱.V} {α : Type} {Q : α → sProp 𝕄} (M : Memref sig .tc .hbm S32768x128 .f32)
    (fs : M.view.ty.Contents (Elt F)) (r ρ : ℕ) (hr : r < 1024) (hρ : ρ < 4096) (g fd : S8192x128.Idx → Elt F .f32)
    (hg : ∀ y ∈ rowSet r, g y = M.view.read (Elt F) fs (hIx (8 * ρ + (y 0).val % 8) (y 1)))
    {n : ℕ} (D : Fin n → sProp 𝕄) (j : ℕ) (hj : j < n)
    (hD : iprop(xeRow c r g ∗ lent c M fs r ρ hρ) ⊢ D ⟨j, hj⟩)
    {o o' : Fin 2 → ℕ} (ho : o = ![8 * ρ, 0]) (ho' : o' = ![8 * r, 0])
    {hi : ∀ a, o a + S8x128.size a ≤ S32768x128.size a} {hi' : ∀ a, o' a + S8x128.size a ≤ S8192x128.size a}
    {hsrc : (M.slice (Rect.unit (s := S32768x128) o S8x128.size hi) (fun _ => rfl)).view.WordExact}
    {hdst : ((Memref.whole cc0_scratch0).slice (Rect.unit (s := S8192x128) o' S8x128.size hi') (fun _ => rfl)).view.WordExact}
    {hsem : DmaTarget.Typed (nD := nD) (τ := τ) (p := (c : Thread nD τ).2) .hbm (.dma gsem)
      (.here ((Memref.whole cc0_scratch0).slice (Rect.unit (s := S8192x128) o' S8x128.size hi') (fun _ => rfl)))}
    {k : PUnit → Prog (TpuEff nD τ sig (Elt F) Λ₀ .tc) α} :
    iprop(tok c M fs r ∗ xeRow c r fd ∗ Transfers.Batch (countersEmb (U := Pipeline.UD sig nD τ)) (c : Thread nD τ) (.dma gsem) () 128 D j 0)
      ⊢ iprop((iprop(kept c M fs r ρ hρ ∗ Transfers.Batch (countersEmb (U := Pipeline.UD sig nD τ)) (c : Thread nD τ) (.dma gsem) () 128 D (j + 1) 0)
            -∗ wp frame (wpE defs₀ 𝒱 (c : Thread nD τ) bd) Set.univ (k ⟨⟩) Q)
          -∗ wp frame (wpE defs₀ 𝒱 (c : Thread nD τ) bd) Set.univ
              (.op (.enqueueDma (M.slice (Rect.unit (s := S32768x128) o S8x128.size hi) (fun _ => rfl))
                (.here ((Memref.whole cc0_scratch0).slice (Rect.unit (s := S8192x128) o' S8x128.size hi') (fun _ => rfl))) (.dma gsem) hsrc hdst hsem) k) Q) := by
  subst ho ho'
  exact issue c M fs r ρ hr hρ g fd hg D j hj hD

/-! ## One trip of the loop that issues an expert's transfers -/

variable (T : S16384.Idx → BitVec 32) (hc hl : S32768x128.Idx → Elt F .f32) (e : ℕ)

/-- The two activations. -/
abbrev Mc : Memref sig .tc .hbm S32768x128 .f32 := Memref.whole main_arg1
abbrev Ml : Memref sig .tc .hbm S32768x128 .f32 := Memref.whole main_arg2

/-- What the transfer of context row `r` delivers, and that of latent row `r`. -/
def dC (r : ℕ) : sProp 𝕄 := iprop(xeRow c r (G T hc hl e) ∗ lent c Mc hc r (rowOf T (1024 * e + r)) (rowOf_lt T _))
def dL (r : ℕ) : sProp 𝕄 :=
  iprop(xeRow c (512 + r) (G T hc hl e) ∗ lent c Ml hl (512 + r) (rowOf T (1024 * e + (512 + r))) (rowOf_lt T _))

instance lent_storable (M : Memref sig .tc .hbm S32768x128 .f32) (fs : M.view.ty.Contents (Elt F)) (r ρ : ℕ) (h : ρ < 4096) :
    BI.Storable (upEmb : UEmb _ 𝕄) (lent c M fs r ρ h) := by
  unfold lent pointsTo BI.Region.is; exact BI.Region.storable_held (υ := upEmb) _ _ _ _

instance dC_storable (r : ℕ) : BI.Storable (upEmb : UEmb _ 𝕄) (dC c T hc hl e r) := by
  unfold dC; exact inferInstance
instance dL_storable (r : ℕ) : BI.Storable (upEmb : UEmb _ 𝕄) (dL c T hc hl e r) := by
  unfold dL; exact inferInstance

/-- The deliveries of the 1024 transfers, in the order in which they are issued. -/
def deliv : Fin (2 * 512) → sProp 𝕄 := Ring.interleaved 512 (dC c T hc hl e) (dL c T hc hl e)

instance deliv_storable (t : Fin (2 * 512)) : BI.Storable (upEmb : UEmb _ 𝕄) (deliv c T hc hl e t) := by
  unfold deliv Ring.interleaved; split <;> infer_instance

theorem deliv_even (k : ℕ) (h : 2 * k < 2 * 512) : deliv c T hc hl e ⟨2 * k, h⟩ = dC c T hc hl e k := by
  unfold deliv Ring.interleaved
  rw [if_pos (by show 2 * k % 2 = 0; omega)]
  exact congrArg _ (by show 2 * k / 2 = k; omega)

theorem deliv_odd (k : ℕ) (h : 2 * k + 1 < 2 * 512) : deliv c T hc hl e ⟨2 * k + 1, h⟩ = dL c T hc hl e k := by
  unfold deliv Ring.interleaved
  rw [if_neg (by show ¬ (2 * k + 1) % 2 = 0; omega)]
  exact congrArg _ (by show (2 * k + 1) / 2 = k; omega)

/-- What a trip takes: the rows it fills, at contents `f`, and the shares it lends. -/
def Pre (f : S8192x128.Idx → Elt F .f32) (r : ℕ) : sProp 𝕄 :=
  iprop(xeRow c r f ∗ xeRow c (512 + r) f ∗ tok c Mc hc r ∗ tok c Ml hl (512 + r))

/-- What of it a trip gives back at once. -/
def Kep (r : ℕ) : sProp 𝕄 :=
  iprop(kept c Mc hc r (rowOf T (1024 * e + r)) (rowOf_lt T _) ∗ kept c Ml hl (512 + r) (rowOf T (1024 * e + (512 + r))) (rowOf_lt T _))

/-- The batch of an expert's transfers, `j` of them issued. -/
abbrev batch (j : ℕ) : sProp 𝕄 :=
  Transfers.Batch (countersEmb (U := Pipeline.UD sig nD τ)) (c : Thread nD τ) (.dma gsem) () 128 (deliv c T hc hl e) j 0

/-- The table, held at the share the body has of it. -/
abbrev tbl : sProp 𝕄 := (Memref.whole main_arg0).view.loc (c : Thread nD τ) ↦{fullShare.right} T

/-- Before trip `k` of the loop. -/
def issued (f : S8192x128.Idx → Elt F .f32) (k : ℕ) : sProp 𝕄 :=
  iprop(batch c T hc hl e (2 * k) ∗ tbl c T ∗ bigSep (Finset.range 512) fun r => if r < k then Kep c T hc hl e r else Pre c hc hl f r)

theorem issued_open (f : S8192x128.Idx → Elt F .f32) (k : ℕ) (hk : k < 512) :
    bigSep (Finset.range 512) (fun r => if r < k then Kep c T hc hl e r else Pre c hc hl f r)
      = iprop(Pre c hc hl f k ∗ bigSep ((Finset.range 512).erase k) fun r => if r < k then Kep c T hc hl e r else Pre c hc hl f r) := by
  rw [bigSep_erase (Finset.mem_range.mpr hk), if_neg (lt_irrefl k)]
  rfl

theorem issued_close (f : S8192x128.Idx → Elt F .f32) (k : ℕ) (hk : k < 512) :
    bigSep (Finset.range 512) (fun r => if r < k + 1 then Kep c T hc hl e r else Pre c hc hl f r)
      = iprop(Kep c T hc hl e k ∗ bigSep ((Finset.range 512).erase k) fun r => if r < k then Kep c T hc hl e r else Pre c hc hl f r) := by
  rw [bigSep_erase (Finset.mem_range.mpr hk), if_pos (Nat.lt_succ_self k)]
  refine congrArg (fun X => iprop(Kep c T hc hl e k ∗ X)) (bigSep_congr fun r hr => ?_)
  have hne := (Finset.mem_erase.mp hr).1
  by_cases h : r < k
  · rw [if_pos h, if_pos (by omega)]
  · rw [if_neg h, if_neg (by omega)]

/-- A word of the table, as a load reads it. -/
theorem word_eq {o : Fin 1 → ℕ} {n : ℕ} (ho : o = ![n]) (hn : n < 16384) (hi : ∀ a, o a + S1.size a ≤ S16384.size a) (x : (Rect.unit (s := S16384) o S1.size hi).shape.Idx) :
    ((Memref.whole main_arg0).access (Rect.unit (s := S16384) o S1.size hi)).read (Elt F) T x = T (tIx n) := by
  subst ho
  refine congrArg T (funext fun d => Fin.ext ?_)
  match d with
  | ⟨0, _⟩ =>
    have hx : (x 0).val = 0 := by have := (x 0).isLt; change (x 0).val < 1 at this; omega
    show n + 1 * (x 0).val = n % 16384
    omega

variable (hT : ∀ j, (T j).toNat < 4096)

include hT in
theorem rowOf_word (n : ℕ) : ∀ v, v = T (tIx n) → (Scalar.muli v 8#32).toNat = 8 * rowOf T n := by
  rintro v rfl
  have h := hT (tIx n)
  have : rowOf T n = (T (tIx n)).toNat := Nat.mod_eq_of_lt h
  rw [this]
  show (T (tIx n) * 8#32).toNat = _
  rw [BitVec.toNat_mul]
  show (T (tIx n)).toNat * 8 % 4294967296 = _
  omega

theorem G_row_c (r : ℕ) (h : r < 512) (y : S8192x128.Idx) (hy : y ∈ rowSet r) :
    G T hc hl e y = Mc.view.read (Elt F) hc (hIx (8 * rowOf T (1024 * e + r) + (y 0).val % 8) (y 1)) := by
  simp only [rowSet, Finset.mem_filter, Finset.mem_univ, true_and] at hy
  unfold G
  rw [hy, if_pos h]; rfl

theorem G_row_l (r : ℕ) (y : S8192x128.Idx) (hy : y ∈ rowSet (512 + r)) :
    G T hc hl e y = Ml.view.read (Elt F) hl (hIx (8 * rowOf T (1024 * e + (512 + r)) + (y 0).val % 8) (y 1)) := by
  simp only [rowSet, Finset.mem_filter, Finset.mem_univ, true_and] at hy
  unfold G
  rw [hy, if_neg (by omega)]; rfl

theorem smemLoad_bind {α : Type} {p : Proc τ} {s : Shape} {e : EltTy} (m : Memref sig p.kind .smem s e) (r : Rect s) (h1 : r.shape.numel = 1) (hp : e.packing = 1)
    (K : Elt F e → Prog (TpuEff nD τ sig (Elt F) Λ₀ p) α) :
    (smemLoad m r h1 hp >>= K) = smemLoadElt m r (View.loads_smem_one hp h1) (Shape.Idx.first (h1.symm ▸ Nat.one_pos)) K := rfl

theorem assume_bind {α : Type} {p : Proc τ} {P : Prop} {d : Decidable P} (K : PLift P → Prog (TpuEff nD τ sig (Elt F) Λ₀ p) α) :
    (Prog.lift (TpuEff.assume P d) >>= K) = .op (.assume P d) K := rfl

theorem lift_bind {α β : Type} {p : Proc τ} (x : TpuEff nD τ sig (Elt F) Λ₀ p β) (K : β → Prog (TpuEff nD τ sig (Elt F) Λ₀ p) α) :
    (Prog.lift x >>= K) = .op x K := rfl

/-- One half of a trip: the word of the table is read, the row that it names is in range, and the row's transfer is
    issued. -/
theorem half {𝒱 : Variants} {bd : Option 𝒱.V} {α : Type} {Q : α → sProp 𝕄} (M : Memref sig .tc .hbm S32768x128 .f32)
    (fs : M.view.ty.Contents (Elt F)) (r n : ℕ) (hr : r < 1024) (hn : n < 16384) (g fd : S8192x128.Idx → Elt F .f32)
    (hg : ∀ y ∈ rowSet r, g y = M.view.read (Elt F) fs (hIx (8 * rowOf T n + (y 0).val % 8) (y 1)))
    {N : ℕ} (D : Fin N → sProp 𝕄) (j : ℕ) (hj : j < N)
    (hD : iprop(xeRow c r g ∗ lent c M fs r (rowOf T n) (rowOf_lt T n)) ⊢ D ⟨j, hj⟩)
    {o : Fin 1 → ℕ} (ho : o = ![n]) {hin : ∀ a, o a + S1.size a ≤ S16384.size a} {h1 : (Rect.unit (s := S16384) o S1.size hin).shape.numel = 1} {hp : EltTy.packing .i32 = 1}
    {P : Elt F .i32 → Prop} {dec : ∀ v, Decidable (P v)} (hP : ∀ v, v = T (tIx n) → P v)
    {o3 : Elt F .i32 → Fin 2 → ℕ} (ho3 : ∀ v, v = T (tIx n) → o3 v = ![8 * rowOf T n, 0])
    {o' : Fin 2 → ℕ} (ho' : o' = ![8 * r, 0])
    {hi : ∀ v, P v → ∀ a, o3 v a + S8x128.size a ≤ S32768x128.size a} {hi' : ∀ a, o' a + S8x128.size a ≤ S8192x128.size a}
    {hsrc : ∀ v (h : P v), (M.slice (Rect.unit (s := S32768x128) (o3 v) S8x128.size (hi v h)) (fun _ => rfl)).view.WordExact}
    {hdst : ((Memref.whole cc0_scratch0).slice (Rect.unit (s := S8192x128) o' S8x128.size hi') (fun _ => rfl)).view.WordExact}
    {hsem : DmaTarget.Typed (nD := nD) (τ := τ) (p := (c : Thread nD τ).2) .hbm (.dma gsem)
      (.here ((Memref.whole cc0_scratch0).slice (Rect.unit (s := S8192x128) o' S8x128.size hi') (fun _ => rfl)))}
    {k : PUnit → Prog (TpuEff nD τ sig (Elt F) Λ₀ .tc) α} :
    iprop(tbl (F := F) c T ∗ tok c M fs r ∗ xeRow c r fd ∗ Transfers.Batch (countersEmb (U := Pipeline.UD sig nD τ)) (c : Thread nD τ) (.dma gsem) () 128 D j 0)
      ⊢ iprop((iprop(tbl (F := F) c T ∗ kept c M fs r (rowOf T n) (rowOf_lt T n)
              ∗ Transfers.Batch (countersEmb (U := Pipeline.UD sig nD τ)) (c : Thread nD τ) (.dma gsem) () 128 D (j + 1) 0)
            -∗ wp frame (wpE defs₀ 𝒱 (c : Thread nD τ) bd) Set.univ (k ⟨⟩) Q)
          -∗ wp frame (wpE defs₀ 𝒱 (c : Thread nD τ) bd) Set.univ
              (smemLoad (Memref.whole main_arg0) (Rect.unit (s := S16384) o S1.size hin) h1 hp >>= fun v =>
                Prog.lift (TpuEff.assume (P v) (dec v)) >>= fun h =>
                Prog.lift (.enqueueDma (M.slice (Rect.unit (s := S32768x128) (o3 v) S8x128.size (hi v h.down)) (fun _ => rfl))
                  (.here ((Memref.whole cc0_scratch0).slice (Rect.unit (s := S8192x128) o' S8x128.size hi') (fun _ => rfl))) (.dma gsem) (hsrc v h.down) hdst hsem)
                >>= k) Q) := by
  iintro ⟨HT, HC, HX, HB⟩ Hk
  rw [smemLoad_bind]
  iapply (wp_smemLoadElt 𝒱 (c : Thread nD τ) bd Set.univ (S := Finset.univ) (q := fullShare.right) (f := T) (m := Memref.whole main_arg0) (r := Rect.unit (s := S16384) o S1.size hin)
    (x := Shape.Idx.first (h1.symm ▸ Nat.one_pos)) (Finset.subset_univ _)) $$ [HT]
  · iexact HT
  iintro HT
  have hv := word_eq (F := F) T ho hn hin (Shape.Idx.first (h1.symm ▸ Nat.one_pos))
  generalize ((Memref.whole main_arg0).access (Rect.unit (s := S16384) o S1.size hin)).read (Elt F) T (Shape.Idx.first (h1.symm ▸ Nat.one_pos)) = v at hv ⊢
  rw [assume_bind]
  iapply (wp_assume 𝒱 (c : Thread nD τ) bd Set.univ (hP v hv))
  rw [lift_bind]
  iapply (issue' c M fs r (rowOf T n) hr (rowOf_lt T n) g fd hg D j hj hD (ho3 v hv) ho') $$ [HC HX HB]
  · isplitl [HC]; · iexact HC
    isplitl [HX]; · iexact HX
    iexact HB
  iintro ⟨HK, HB⟩
  iapply Hk
  isplitl [HT]; · iexact HT
  isplitl [HK]; · iexact HK
  iexact HB

include hT in
theorem chk1 (i : grid0.Coords) (n : ℕ) (v : Elt F .i32) (h : v = T (tIx n)) : k0_chk1 i v := by
  have e := rowOf_word T hT n v h
  have hl := rowOf_lt T n
  refine ⟨fun _ _ => ?_, fun _ _ a => ?_⟩
  · show 8 ∣ (Scalar.muli (v : BitVec 32) 8#32).toNat
    rw [e]; exact Dvd.intro _ rfl
  · fin_cases a
    · show (Scalar.muli (v : BitVec 32) 8#32).toNat + 8 ≤ 32768
      rw [e]; omega
    · show 0 + 128 ≤ 128
      omega

include hT in
theorem chk2 (i : grid0.Coords) (n : ℕ) (v : Elt F .i32) (h : v = T (tIx n)) : k0_chk2 i v := by
  have e := rowOf_word T hT n v h
  have hl := rowOf_lt T n
  refine ⟨fun _ _ => ?_, fun _ _ a => ?_⟩
  · show 8 ∣ (Scalar.muli (v : BitVec 32) 8#32).toNat
    rw [e]; exact Dvd.intro _ rfl
  · fin_cases a
    · show (Scalar.muli (v : BitVec 32) 8#32).toNat + 8 ≤ 32768
      rw [e]; omega
    · show 0 + 128 ≤ 128
      omega

include hT in
theorem chk3 (i : grid0.Coords) (n : ℕ) (v : Elt F .i32) (h : v = T (tIx n)) : k0_chk3 i v := by
  have e := rowOf_word T hT n v h
  have hl := rowOf_lt T n
  refine ⟨fun _ _ => ?_, fun _ _ a => ?_⟩
  · show 8 ∣ (Scalar.muli (v : BitVec 32) 8#32).toNat
    rw [e]; exact Dvd.intro _ rfl
  · fin_cases a
    · show (Scalar.muli (v : BitVec 32) 8#32).toNat + 8 ≤ 32768
      rw [e]; omega
    · show 0 + 128 ≤ 128
      omega

include hT in
theorem chk4 (i : grid0.Coords) (n : ℕ) (v : Elt F .i32) (h : v = T (tIx n)) : k0_chk4 i v := by
  have e := rowOf_word T hT n v h
  have hl := rowOf_lt T n
  refine ⟨fun _ _ => ?_, fun _ _ a => ?_⟩
  · show 8 ∣ (Scalar.muli (v : BitVec 32) 8#32).toNat
    rw [e]; exact Dvd.intro _ rfl
  · fin_cases a
    · show (Scalar.muli (v : BitVec 32) 8#32).toNat + 8 ≤ 32768
      rw [e]; omega
    · show 0 + 128 ≤ 128
      omega

theorem cond3_lt (i : grid0.Coords) (h : k0_cond3 i = 1#1) : (i 0).val < 15 := by
  revert h; revert i; decide

include hT in
/-- One trip of the loop that issues the first expert's transfers. -/
theorem trip1 (i : grid0.Coords) (arg5 : Memref sig .tc .vmem S1x512x128 .f32) (harg5 : arg5.IsWhole) (arg6 : Memref sig .tc .vmem S1x512x128 .f32) (harg6 : arg6.IsWhole)
    (arg7 : Memref sig .tc .vmem S1x1024x1024 .f32) (harg7 : arg7.IsWhole) (arg8 : Memref sig .tc .vmem S1x1024x1024 .f32) (harg8 : arg8.IsWhole)
    (arg9 : Memref sig .tc .vmem S1x1024x1024 .f32) (harg9 : arg9.IsWhole) (arg10 : Memref sig .tc .vmem S1x1024x1024 .bf16) (harg10 : arg10.IsWhole)
    (arg0 : BitVec 32) (h1 : k0_cond1 i = 1#1) (h2 : k0_cond2 i = 1#1) (f : S8192x128.Idx → Elt F .f32) {𝒱 : Variants} {bd : Option 𝒱.V}
    (k : Fin k0_t1_loop.trips) (acc : Unit) :
    issued c T hc hl 0 f k.val ⊢ wp frame (wpE defs₀ 𝒱 (c : Thread nD τ) bd) Set.univ
      (k0_t1_body (F := F) i (Memref.whole main_arg0) (Memref.isWhole_whole _) (Memref.whole main_arg1) (Memref.isWhole_whole _)
        (Memref.whole main_arg2) (Memref.isWhole_whole _) arg5 harg5 arg6 harg6 arg7 harg7 arg8 harg8 arg9 harg9 arg10 harg10
        (Memref.whole cc0_scratch0) (Memref.isWhole_whole _) (Memref.whole cc0_scratch1) (Memref.isWhole_whole _)
        (Memref.whole cc0_scratch2) (Memref.isWhole_whole _) cc0_scratch3 arg0 h1 h2 k acc)
      (fun _ => issued c T hc hl 0 f (k.val + 1)) := by
  have hk : k.val < 512 := Nat.lt_of_lt_of_le k.isLt k0_t1_abs.2.1
  unfold issued
  rw [issued_open c T hc hl 0 f k.val hk, issued_close c T hc hl 0 f k.val hk]
  unfold Pre Kep
  iintro ⟨HB, HT, ⟨HX, HX', HC, HL⟩, HR⟩
  unfold k0_t1_body
  dsimp only
  iapply (half (F := F) (P := fun v => k0_chk1 i v) (dec := fun v => k0_chk1.dec i v) (o3 := k0_off3) c T Mc hc k.val (1024 * 0 + k.val) (by omega) (by omega) (G T hc hl 0) f (G_row_c T hc hl 0 k.val hk)
    (deliv c T hc hl 0) (2 * k.val) (by omega) (Entails.of_eq (deliv_even c T hc hl 0 k.val (by omega)).symm)
    ((k0_off1_eq k).trans (congrArg (fun a => ![a]) (by omega))) (fun v h => chk1 (F := F) T hT i _ v h) (fun v h => congrArg (fun a => ![a, 0]) (rowOf_word T hT _ v h)) (k0_off2_eq k)) $$ [HT HC HX HB]
  · isplitl [HT]; · iexact HT
    isplitl [HC]; · iexact HC
    isplitl [HX]; · iexact HX
    iexact HB
  iintro ⟨HT, HKc, HB⟩
  iapply (half (F := F) (P := fun v => k0_chk2 i v) (dec := fun v => k0_chk2.dec i v) (o3 := k0_off6) c T Ml hl (512 + k.val) (1024 * 0 + (512 + k.val)) (by omega) (by omega) (G T hc hl 0) f (G_row_l T hc hl 0 k.val)
    (deliv c T hc hl 0) (2 * k.val + 1) (by omega) (Entails.of_eq (deliv_odd c T hc hl 0 k.val (by omega)).symm)
    ((k0_off4_eq k).trans (congrArg (fun a => ![a]) (by omega))) (fun v h => chk2 (F := F) T hT i _ v h) (fun v h => congrArg (fun a => ![a, 0]) (rowOf_word T hT _ v h)) ((k0_off5_eq k).trans (congrArg (fun a => ![a, 0]) (by omega)))) $$ [HT HL HX' HB]
  · isplitl [HT]; · iexact HT
    isplitl [HL]; · iexact HL
    isplitl [HX']; · iexact HX'
    iexact HB
  iintro ⟨HT, HKl, HB⟩
  rw [show 2 * (k.val + 1) = 2 * k.val + 1 + 1 by omega]
  sl_step
  isplitl [HB]; · iexact HB
  isplitl [HT]; · iexact HT
  isplitl [HKc HKl]
  · isplitl [HKc]; · iexact HKc
    iexact HKl
  iexact HR

include hT in
/-- One trip of the loop that issues the next expert's transfers. -/
theorem trip2 (i : grid0.Coords) (arg5 : Memref sig .tc .vmem S1x512x128 .f32) (harg5 : arg5.IsWhole) (arg6 : Memref sig .tc .vmem S1x512x128 .f32) (harg6 : arg6.IsWhole)
    (arg7 : Memref sig .tc .vmem S1x1024x1024 .f32) (harg7 : arg7.IsWhole) (arg8 : Memref sig .tc .vmem S1x1024x1024 .f32) (harg8 : arg8.IsWhole)
    (arg9 : Memref sig .tc .vmem S1x1024x1024 .f32) (harg9 : arg9.IsWhole) (arg10 : Memref sig .tc .vmem S1x1024x1024 .bf16) (harg10 : arg10.IsWhole)
    (h1 : k0_cond1 i = 1#1) (h2 : k0_cond3 i = 1#1) (f : S8192x128.Idx → Elt F .f32) {𝒱 : Variants} {bd : Option 𝒱.V}
    (k : Fin k0_t2_loop.trips) (acc : Unit) :
    issued c T hc hl ((i 0).val + 1) f k.val ⊢ wp frame (wpE defs₀ 𝒱 (c : Thread nD τ) bd) Set.univ
      (k0_t2_body (F := F) i (Memref.whole main_arg0) (Memref.isWhole_whole _) (Memref.whole main_arg1) (Memref.isWhole_whole _)
        (Memref.whole main_arg2) (Memref.isWhole_whole _) arg5 harg5 arg6 harg6 arg7 harg7 arg8 harg8 arg9 harg9 arg10 harg10
        (Memref.whole cc0_scratch0) (Memref.isWhole_whole _) (Memref.whole cc0_scratch1) (Memref.isWhole_whole _)
        (Memref.whole cc0_scratch2) (Memref.isWhole_whole _) cc0_scratch3 h1 h2 k acc)
      (fun _ => issued c T hc hl ((i 0).val + 1) f (k.val + 1)) := by
  have hk : k.val < 512 := Nat.lt_of_lt_of_le k.isLt k0_t2_abs.2.1
  have hi : (i 0).val < 15 := cond3_lt i h2
  unfold issued
  rw [issued_open c T hc hl ((i 0).val + 1) f k.val hk, issued_close c T hc hl ((i 0).val + 1) f k.val hk]
  unfold Pre Kep
  iintro ⟨HB, HT, ⟨HX, HX', HC, HL⟩, HR⟩
  unfold k0_t2_body
  dsimp only
  iapply (half (F := F) (P := fun v => k0_chk3 i v) (dec := fun v => k0_chk3.dec i v) (o3 := k0_off9) c T Mc hc k.val (1024 * ((i 0).val + 1) + k.val) (by omega) (by omega) (G T hc hl ((i 0).val + 1)) f (G_row_c T hc hl ((i 0).val + 1) k.val hk)
    (deliv c T hc hl ((i 0).val + 1)) (2 * k.val) (by omega) (Entails.of_eq (deliv_even c T hc hl ((i 0).val + 1) k.val (by omega)).symm)
    ((k0_off7_eq i k).trans (congrArg (fun a => ![a]) (by omega))) (fun v h => chk3 (F := F) T hT i _ v h) (fun v h => congrArg (fun a => ![a, 0]) (rowOf_word T hT _ v h)) (k0_off8_eq k)) $$ [HT HC HX HB]
  · isplitl [HT]; · iexact HT
    isplitl [HC]; · iexact HC
    isplitl [HX]; · iexact HX
    iexact HB
  iintro ⟨HT, HKc, HB⟩
  iapply (half (F := F) (P := fun v => k0_chk4 i v) (dec := fun v => k0_chk4.dec i v) (o3 := k0_off12) c T Ml hl (512 + k.val) (1024 * ((i 0).val + 1) + (512 + k.val)) (by omega) (by omega) (G T hc hl ((i 0).val + 1)) f (G_row_l T hc hl ((i 0).val + 1) k.val)
    (deliv c T hc hl ((i 0).val + 1)) (2 * k.val + 1) (by omega) (Entails.of_eq (deliv_odd c T hc hl ((i 0).val + 1) k.val (by omega)).symm)
    ((k0_off10_eq i k).trans (congrArg (fun a => ![a]) (by omega))) (fun v h => chk4 (F := F) T hT i _ v h) (fun v h => congrArg (fun a => ![a, 0]) (rowOf_word T hT _ v h)) ((k0_off11_eq k).trans (congrArg (fun a => ![a, 0]) (by omega)))) $$ [HT HL HX' HB]
  · isplitl [HT]; · iexact HT
    isplitl [HL]; · iexact HL
    isplitl [HX']; · iexact HX'
    iexact HB
  iintro ⟨HT, HKl, HB⟩
  rw [show 2 * (k.val + 1) = 2 * k.val + 1 + 1 by omega]
  sl_step
  isplitl [HB]; · iexact HB
  isplitl [HT]; · iexact HT
  isplitl [HKc HKl]
  · isplitl [HKc]; · iexact HKc
    iexact HKl
  iexact HR

end Issue

end Cert.Kernel2.Ffn
-- ==== Proof.FfnFlight.lean ====
/- The gather of one expert's rows, from the whole arrays to the transfers in flight and back. -/
module

public import proofs.«01_k».proof.Proof.FfnGather

@[expose] public section

noncomputable section

namespace Cert.Kernel2.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2 Cert.Kernel2.Gen

variable {F : FTy → Type} [FloatOps F]

local notation "𝕄" => MT nD τ sig Unit (Elt F) ℕ (Pipeline.UD sig nD τ) ℕ

/-- A conjunction over the first `a + b` numbers, in two parts. -/
theorem bigSep_range_add {M : Type} [URA M] (a b : ℕ) (Φ : ℕ → sProp M) :
    bigSep (Finset.range (a + b)) Φ = iprop(bigSep (Finset.range a) Φ ∗ bigSep (Finset.range b) fun r => Φ (a + r)) := by
  rw [Finset.range_add_eq_union, bigSep_union (Finset.disjoint_left.mpr fun x hx hx' => by
    obtain ⟨y, -, rfl⟩ := Finset.mem_map.mp hx'
    have := Finset.mem_range.mp hx
    simp at this), bigSep_map]
  rfl

variable (c : Dev nD) (T : S16384.Idx → BitVec 32) (hc hl : S32768x128.Idx → Elt F .f32) (e : ℕ)

/-- The gathered buffer, whole. -/
abbrev xe (f : S8192x128.Idx → Elt F .f32) : sProp 𝕄 := (Memref.whole cc0_scratch0).view.loc (c : Thread nD τ) ↦{fullShare} f

/-- The two activations, whole. -/
abbrev srcs : sProp 𝕄 :=
  iprop(((Memref.whole main_arg1).view.loc (c : Thread nD τ) ↦{fullShare} hc) ∗ (Memref.whole main_arg2).view.loc (c : Thread nD τ) ↦{fullShare} hl)

/-- What is left of the activations while transfers are in flight. -/
def Rest : sProp 𝕄 :=
  iprop(((Memref.whole main_arg1).view.loc (c : Thread nD τ) ↦{Transfers.shareDrop fullShare 512} hc)
    ∗ (Memref.whole main_arg2).view.loc (c : Thread nD τ) ↦{Transfers.shareDrop fullShare 512} hl)

/-- The semaphore at zero. -/
abbrev sem0 : sProp 𝕄 := semVal ((c : Thread nD τ), .dma gsem) 0

theorem xe_rows (f : S8192x128.Idx → Elt F .f32) :
    xe c f = iprop(bigSep (Finset.range 512) (fun r => xeRow c r f) ∗ bigSep (Finset.range 512) fun r => xeRow c (512 + r) f) := by
  rw [← bigSep_range_add 512 512 fun r => xeRow c r f]
  unfold xe
  rw [show ((Memref.whole cc0_scratch0).view.loc (c : Thread nD τ) ↦{fullShare} f : sProp 𝕄)
    = ((Memref.whole cc0_scratch0).view.loc (c : Thread nD τ) ↦[(Finset.range 1024).biUnion rowSet]{fullShare} f) from by
      rw [rowSet_cover]]
  exact pointsTo_biUnion _ _ fun t _ t' _ h => rowSet_disjoint t t' h

theorem toks_c : bigSep (Finset.range 512) (fun r => tok c Mc hc r)
    = bigSep (Finset.range 512) fun r => ((Memref.whole main_arg1).view.loc (c : Thread nD τ) ↦{Transfers.shareTokN fullShare r} hc : sProp 𝕄) :=
  bigSep_congr fun r hr => by
    have : r % 512 = r := Nat.mod_eq_of_lt (Finset.mem_range.mp hr)
    unfold tok tokS; rw [this]

theorem toks_l : bigSep (Finset.range 512) (fun r => tok c Ml hl (512 + r))
    = bigSep (Finset.range 512) fun r => ((Memref.whole main_arg2).view.loc (c : Thread nD τ) ↦{Transfers.shareTokN fullShare r} hl : sProp 𝕄) :=
  bigSep_congr fun r hr => by
    have : (512 + r) % 512 = r := by have := Finset.mem_range.mp hr; omega
    unfold tok tokS; rw [this]

theorem srcs_toks : srcs c hc hl
    ⊣⊢ iprop(Rest c hc hl ∗ bigSep (Finset.range 512) (fun r => tok c Mc hc r) ∗ bigSep (Finset.range 512) fun r => tok c Ml hl (512 + r)) := by
  rw [toks_c, toks_l]
  unfold Rest srcs
  constructor
  · iintro ⟨HC, HL⟩
    ihave HC := (Transfers.pointsTo_toks_range fullShare 512).1 $$ HC
    ihave HL := (Transfers.pointsTo_toks_range fullShare 512).1 $$ HL
    icases HC with ⟨HC, HCt⟩
    icases HL with ⟨HL, HLt⟩
    isplitl [HC HL]
    · isplitl [HC] <;> iassumption
    isplitl [HCt] <;> iassumption
  · iintro ⟨⟨HC, HL⟩, HCt, HLt⟩
    isplitl [HC HCt]
    · iapply (Transfers.pointsTo_toks_range fullShare 512).2
      isplitl [HC] <;> iassumption
    · iapply (Transfers.pointsTo_toks_range fullShare 512).2
      isplitl [HL] <;> iassumption

theorem pre_all (f : S8192x128.Idx → Elt F .f32) :
    bigSep (Finset.range 512) (Pre c hc hl f)
      = iprop(bigSep (Finset.range 512) (fun r => xeRow c r f) ∗ bigSep (Finset.range 512) (fun r => xeRow c (512 + r) f)
        ∗ bigSep (Finset.range 512) (fun r => tok c Mc hc r) ∗ bigSep (Finset.range 512) fun r => tok c Ml hl (512 + r)) := by
  unfold Pre
  rw [bigSep_sep', bigSep_sep', bigSep_sep']

/-- What is held between two gathers: the buffer at contents `f`, the activations, the semaphore at zero. -/
def Free (f : S8192x128.Idx → Elt F .f32) : sProp 𝕄 := iprop(xe c f ∗ srcs c hc hl ∗ sem0 c)

/-- What is held while expert `e`'s transfers are in flight. -/
def Flight : sProp 𝕄 :=
  iprop(batch c T hc hl e 1024 ∗ bigSep (Finset.range 512) (Kep c T hc hl e) ∗ Rest c hc hl)

/-- Before the first trip. -/
theorem start (f : S8192x128.Idx → Elt F .f32) :
    iprop(Free c hc hl f ∗ tbl c T) ⊢ (|={Set.univ}=> iprop(issued c T hc hl e f 0 ∗ Rest c hc hl) : sProp 𝕄) := by
  unfold Free
  iintro ⟨⟨HX, HS, Hsem⟩, HT⟩
  imod (Transfers.batch_alloc' (Lvl := ℕ) (countersEmb (U := Pipeline.UD sig nD τ)) (c : Thread nD τ) () 128 (deliv c T hc hl e) (sm := .dma gsem) (E := Set.univ)) $$ Hsem with HB
  ihave HS := (srcs_toks c hc hl).1 $$ HS
  icases HS with ⟨HR, HC, HL⟩
  imodintro
  isplitr [HR]
  swap; · iexact HR
  unfold issued
  isplitl [HB]; · iexact HB
  isplitl [HT]; · iexact HT
  rw [show (fun r => if r < 0 then Kep c T hc hl e r else Pre c hc hl f r) = Pre c hc hl f from funext fun r => if_neg (Nat.not_lt_zero r), pre_all]
  ihave HX := (Entails.of_eq (xe_rows c f)) $$ HX
  icases HX with ⟨HX1, HX2⟩
  isplitl [HX1]; · iexact HX1
  isplitl [HX2]; · iexact HX2
  isplitl [HC] <;> iassumption

/-- After the last trip. -/
theorem finish (f : S8192x128.Idx → Elt F .f32) :
    iprop(issued c T hc hl e f 512 ∗ Rest c hc hl) ⊢ iprop(Flight c T hc hl e ∗ tbl c T) := by
  unfold issued Flight
  rw [show bigSep (Finset.range 512) (fun r => if r < 512 then Kep c T hc hl e r else Pre c hc hl f r) = bigSep (Finset.range 512) (Kep c T hc hl e) from
    bigSep_congr fun r hr => if_pos (Finset.mem_range.mp hr)]
  iintro ⟨⟨HB, HT, HK⟩, HR⟩
  isplitr [HT]
  swap; · iexact HT
  isplitl [HB]; · iexact HB
  isplitl [HK] <;> iassumption

/-- What the drained transfers leave. -/
theorem close :
    iprop(bigSep Finset.univ (deliv c T hc hl e) ∗ bigSep (Finset.range 512) (Kep c T hc hl e) ∗ Rest c hc hl)
      ⊢ iprop(xe c (G T hc hl e) ∗ srcs c hc hl) := by
  unfold deliv
  rw [Ring.bigSep_interleaved]
  unfold dC dL Kep
  rw [bigSep_sep', bigSep_sep', bigSep_sep', xe_rows]
  iintro ⟨⟨⟨HX1, HC⟩, HX2, HL⟩, ⟨HCk, HLk⟩, HR⟩
  isplitl [HX1 HX2]
  · isplitl [HX1] <;> iassumption
  iapply (srcs_toks c hc hl).2
  isplitl [HR]; · iexact HR
  isplitl [HC HCk]
  · iapply (show iprop(bigSep (Finset.range 512) (fun r => lent c Mc hc r (rowOf T (1024 * e + r)) (rowOf_lt T _))
        ∗ bigSep (Finset.range 512) (fun r => kept c Mc hc r (rowOf T (1024 * e + r)) (rowOf_lt T _)))
      ⊢ bigSep (Finset.range 512) (fun r => tok c Mc hc r) from by
        rw [← bigSep_sep']; exact bigSep_mono fun r _ => (tok_split c Mc hc r _ _).2)
    isplitl [HC] <;> iassumption
  · iapply (show iprop(bigSep (Finset.range 512) (fun r => lent c Ml hl (512 + r) (rowOf T (1024 * e + (512 + r))) (rowOf_lt T _))
        ∗ bigSep (Finset.range 512) (fun r => kept c Ml hl (512 + r) (rowOf T (1024 * e + (512 + r))) (rowOf_lt T _)))
      ⊢ bigSep (Finset.range 512) (fun r => tok c Ml hl (512 + r)) from by
        rw [← bigSep_sep']; exact bigSep_mono fun r _ => (tok_split c Ml hl (512 + r) _ _).2)
    isplitl [HL] <;> iassumption

end Cert.Kernel2.Ffn
end
-- ==== Proof.FfnMove.lean ====
/- The body's steps that move an expert's rows: issuing the transfers, waiting for them, and copying the gathered
   rows into the operand of the products. -/
module

public import proofs.«01_k».proof.Proof.FfnFlight

@[expose] public section

noncomputable section

namespace Cert.Kernel2.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2 Cert.Kernel2.Gen

variable {F : FTy → Type} [FloatOps F]

local notation "𝕄" => MT nD τ sig Unit (Elt F) ℕ (Pipeline.UD sig nD τ) ℕ

variable (c : Dev nD) (T : S16384.Idx → BitVec 32) (hc hl : S32768x128.Idx → Elt F .f32)

/-- What is held of the gather before expert `n`'s point: its transfers in flight, or nothing started. -/
def Gath (n : ℕ) : sProp 𝕄 :=
  if 0 < n ∧ n < 16 then Flight c T hc hl n else iprop(∃ f, Free c hc hl f)

theorem credit : (Memref.whole cc0_scratch0 : Memref sig .tc .vmem S8192x128 .f32).view.dmaCredit = 131072 := by decide

/-- The wait for all of an expert's transfers. -/
theorem wait_all {𝒱 : Variants} {bd : Option 𝒱.V} {α : Type} {Q : α → sProp 𝕄} (e : ℕ) (W : Waits sig Unit)
    {h1 h2 : (Memref.whole cc0_scratch0 : Memref sig .tc .vmem S8192x128 .f32).view.WordExact}
    {k : PUnit → Prog (TpuEff nD τ sig (Elt F) Λ₀ .tc) α} :
    iprop(Flight c T hc hl e ∗ owes (c : Thread nD τ) 0 W)
      ⊢ iprop((iprop(Free c hc hl (G T hc hl e) ∗ owes (c : Thread nD τ) 0 (insert (SemLoc.dma gsem, ()) W))
            -∗ wp frame (wpE defs₀ 𝒱 (c : Thread nD τ) bd) Set.univ (k ⟨⟩) Q)
          -∗ wp frame (wpE defs₀ 𝒱 (c : Thread nD τ) bd) Set.univ
            (Prog.lift (.waitDma2 gsem (Memref.whole cc0_scratch0) (Memref.whole cc0_scratch0) h1 h2) >>= k) Q) := by
  unfold Flight Free
  iintro ⟨⟨HB, HK, HR⟩, HO⟩ Hk
  rw [lift_bind]
  iapply (Transfers.wp_waitBatchAll (countersEmb (U := Pipeline.UD sig nD τ)) 𝒱 (c : Thread nD τ) bd () (N := 128) (J := 131072)
    credit (by decide) (D := deliv c T hc hl e) (u := 0) (by decide) (W := W)) $$ [HB HO]
  · isplitl [HB] <;> iassumption
  iintro ⟨HD, Hs, HO⟩
  ihave HX := (close c T hc hl e) $$ [HD HK HR]
  · isplitl [HD]; · iexact HD
    isplitl [HK] <;> iassumption
  icases HX with ⟨HX, HS⟩
  iapply Hk
  isplitr [HO]
  swap; · iexact HO
  isplitl [HX]; · iexact HX
  isplitl [HS] <;> iassumption

/-- The same where the wait heads the program. -/
theorem wait_all_op {𝒱 : Variants} {bd : Option 𝒱.V} {α : Type} {Q : α → sProp 𝕄} (e : ℕ) (W : Waits sig Unit)
    {h1 h2 : (Memref.whole cc0_scratch0 : Memref sig .tc .vmem S8192x128 .f32).view.WordExact}
    {k : PUnit → Prog (TpuEff nD τ sig (Elt F) Λ₀ .tc) α} :
    iprop(Flight c T hc hl e ∗ owes (c : Thread nD τ) 0 W)
      ⊢ iprop((iprop(Free c hc hl (G T hc hl e) ∗ owes (c : Thread nD τ) 0 (insert (SemLoc.dma gsem, ()) W))
            -∗ wp frame (wpE (defs₀ (F := F)) 𝒱 (c : Thread nD τ) bd) Set.univ (k ⟨⟩) Q)
          -∗ wp frame (wpE defs₀ 𝒱 (c : Thread nD τ) bd) Set.univ
            (Prog.op (.waitDma2 gsem (Memref.whole cc0_scratch0) (Memref.whole cc0_scratch0) h1 h2) k) Q) :=
  wait_all c T hc hl e W

variable (hT : ∀ j, (T j).toNat < 4096)

include hT in
/-- The loop that issues the first expert's transfers. -/
theorem fetch1 (i : grid0.Coords) (arg5 : Memref sig .tc .vmem S1x512x128 .f32) (harg5 : arg5.IsWhole) (arg6 : Memref sig .tc .vmem S1x512x128 .f32) (harg6 : arg6.IsWhole)
    (arg7 : Memref sig .tc .vmem S1x1024x1024 .f32) (harg7 : arg7.IsWhole) (arg8 : Memref sig .tc .vmem S1x1024x1024 .f32) (harg8 : arg8.IsWhole)
    (arg9 : Memref sig .tc .vmem S1x1024x1024 .f32) (harg9 : arg9.IsWhole) (arg10 : Memref sig .tc .vmem S1x1024x1024 .bf16) (harg10 : arg10.IsWhole)
    (arg0 : BitVec 32) (h1 : k0_cond1 i = 1#1) (h2 : k0_cond2 i = 1#1) {𝒱 : Variants} {bd : Option 𝒱.V} {α : Type} {Q : α → sProp 𝕄}
    {k : Unit → Prog (TpuEff nD τ sig (Elt F) Λ₀ .tc) α} (f : S8192x128.Idx → Elt F .f32) :
    iprop(Free c hc hl f ∗ tbl c T)
      ⊢ iprop((iprop(Flight c T hc hl 0 ∗ tbl (F := F) c T) -∗ wp frame (wpE defs₀ 𝒱 (c : Thread nD τ) bd) Set.univ (k ⟨⟩) Q)
          -∗ wp frame (wpE defs₀ 𝒱 (c : Thread nD τ) bd) Set.univ
            (Scf.Loop.for k0_t1_loop (k0_t1_ok i h1 h2) ⟨⟩ (k0_t1_body (F := F) i (Memref.whole main_arg0) (Memref.isWhole_whole _) (Memref.whole main_arg1) (Memref.isWhole_whole _)
        (Memref.whole main_arg2) (Memref.isWhole_whole _) arg5 harg5 arg6 harg6 arg7 harg7 arg8 harg8 arg9 harg9 arg10 harg10
        (Memref.whole cc0_scratch0) (Memref.isWhole_whole _) (Memref.whole cc0_scratch1) (Memref.isWhole_whole _)
        (Memref.whole cc0_scratch2) (Memref.isWhole_whole _) cc0_scratch3 arg0 h1 h2) >>= k) Q) := by
  iintro HF Hk
  imod (start c T hc hl 0 f) $$ HF with ⟨HI, HR⟩
  iapply (Scf.wp_for_bind frame (wpE defs₀ 𝒱 (c : Thread nD τ) bd) Set.univ k0_t1_loop.lb k0_t1_loop.ub k0_t1_loop.st (k0_t1_ok i h1 h2) ⟨⟩
    (k0_t1_body (F := F) i (Memref.whole main_arg0) (Memref.isWhole_whole _) (Memref.whole main_arg1) (Memref.isWhole_whole _)
        (Memref.whole main_arg2) (Memref.isWhole_whole _) arg5 harg5 arg6 harg6 arg7 harg7 arg8 harg8 arg9 harg9 arg10 harg10
        (Memref.whole cc0_scratch0) (Memref.isWhole_whole _) (Memref.whole cc0_scratch1) (Memref.isWhole_whole _)
        (Memref.whole cc0_scratch2) (Memref.isWhole_whole _) cc0_scratch3 arg0 h1 h2) (fun n _ => issued c T hc hl 0 f n)
    (fun n acc => trip1 c T hc hl hT i arg5 harg5 arg6 harg6 arg7 harg7 arg8 harg8 arg9 harg9 arg10 harg10 arg0 h1 h2 f n acc)) $$ HI
  iintro %acc HI
  rw [show Scf.trips k0_t1_loop.lb k0_t1_loop.ub k0_t1_loop.st = 512 by decide]
  ihave HF := (finish c T hc hl 0 f) $$ [HI HR]
  · isplitl [HI] <;> iassumption
  iapply Hk
  iexact HF

include hT in
/-- The loop that issues the next expert's transfers. -/
theorem fetch2 (i : grid0.Coords) (arg5 : Memref sig .tc .vmem S1x512x128 .f32) (harg5 : arg5.IsWhole) (arg6 : Memref sig .tc .vmem S1x512x128 .f32) (harg6 : arg6.IsWhole)
    (arg7 : Memref sig .tc .vmem S1x1024x1024 .f32) (harg7 : arg7.IsWhole) (arg8 : Memref sig .tc .vmem S1x1024x1024 .f32) (harg8 : arg8.IsWhole)
    (arg9 : Memref sig .tc .vmem S1x1024x1024 .f32) (harg9 : arg9.IsWhole) (arg10 : Memref sig .tc .vmem S1x1024x1024 .bf16) (harg10 : arg10.IsWhole)
    (h1 : k0_cond1 i = 1#1) (h2 : k0_cond3 i = 1#1) {𝒱 : Variants} {bd : Option 𝒱.V} {α : Type} {Q : α → sProp 𝕄}
    {k : Unit → Prog (TpuEff nD τ sig (Elt F) Λ₀ .tc) α} (f : S8192x128.Idx → Elt F .f32) :
    iprop(Free c hc hl f ∗ tbl c T)
      ⊢ iprop((iprop(Flight c T hc hl ((i 0).val + 1) ∗ tbl (F := F) c T) -∗ wp frame (wpE defs₀ 𝒱 (c : Thread nD τ) bd) Set.univ (k ⟨⟩) Q)
          -∗ wp frame (wpE defs₀ 𝒱 (c : Thread nD τ) bd) Set.univ
            (Scf.Loop.for k0_t2_loop (k0_t2_ok i h1 h2) ⟨⟩ (k0_t2_body (F := F) i (Memref.whole main_arg0) (Memref.isWhole_whole _) (Memref.whole main_arg1) (Memref.isWhole_whole _)
        (Memref.whole main_arg2) (Memref.isWhole_whole _) arg5 harg5 arg6 harg6 arg7 harg7 arg8 harg8 arg9 harg9 arg10 harg10
        (Memref.whole cc0_scratch0) (Memref.isWhole_whole _) (Memref.whole cc0_scratch1) (Memref.isWhole_whole _)
        (Memref.whole cc0_scratch2) (Memref.isWhole_whole _) cc0_scratch3 h1 h2) >>= k) Q) := by
  iintro HF Hk
  imod (start c T hc hl ((i 0).val + 1) f) $$ HF with ⟨HI, HR⟩
  iapply (Scf.wp_for_bind frame (wpE defs₀ 𝒱 (c : Thread nD τ) bd) Set.univ k0_t2_loop.lb k0_t2_loop.ub k0_t2_loop.st (k0_t2_ok i h1 h2) ⟨⟩
    (k0_t2_body (F := F) i (Memref.whole main_arg0) (Memref.isWhole_whole _) (Memref.whole main_arg1) (Memref.isWhole_whole _)
        (Memref.whole main_arg2) (Memref.isWhole_whole _) arg5 harg5 arg6 harg6 arg7 harg7 arg8 harg8 arg9 harg9 arg10 harg10
        (Memref.whole cc0_scratch0) (Memref.isWhole_whole _) (Memref.whole cc0_scratch1) (Memref.isWhole_whole _)
        (Memref.whole cc0_scratch2) (Memref.isWhole_whole _) cc0_scratch3 h1 h2) (fun n _ => issued c T hc hl ((i 0).val + 1) f n)
    (fun n acc => trip2 c T hc hl hT i arg5 harg5 arg6 harg6 arg7 harg7 arg8 harg8 arg9 harg9 arg10 harg10 h1 h2 f n acc)) $$ HI
  iintro %acc HI
  rw [show Scf.trips k0_t2_loop.lb k0_t2_loop.ub k0_t2_loop.st = 512 by decide]
  ihave HF := (finish c T hc hl ((i 0).val + 1) f) $$ [HI HR]
  · isplitl [HI] <;> iassumption
  iapply Hk
  iexact HF

end Cert.Kernel2.Ffn
end
-- ==== Proof.FfnStep.lean ====
/- One grid point of the routed experts: what the body does with the operand and the partial result. -/
module

public import proofs.«01_k».proof.Proof.FfnMove
public import Idealize.ShloMosaic.Lib.Pipeline.ValueKit
public import Idealize.ShloMosaic.Lib.VecWindow

@[expose] public section

noncomputable section

namespace Cert.Kernel2.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2 Cert.Kernel2.Gen

variable {F : FTy → Type} [FloatOps F]

local notation "𝕄" => MT nD τ sig Unit (Elt F) ℕ (Pipeline.UD sig nD τ) ℕ

variable (c : Dev nD) (T : S16384.Idx → BitVec 32) (hc hl : S32768x128.Idx → Elt F .f32)

/-- The operand's buffer holds `d`. -/
abbrev xb (d : S1024x1024.Idx → Elt F .bf16) : sProp 𝕄 := (Memref.whole cc0_scratch1).view.loc (c : Thread nD τ) ↦{fullShare} d
/-- The partial result's buffer holds `d`. -/
abbrev ac (d : S1024x1024.Idx → Elt F .f32) : sProp 𝕄 := (Memref.whole cc0_scratch2).view.loc (c : Thread nD τ) ↦{fullShare} d

/-- The partial result `A` after the first of a grid point's four slices of the hidden columns; -/
def s1 (X : Vec F S1024x1024 .bf16) (g u d : Vec F S1x1024x1024 .f32) (A : Vec F S1024x1024 .f32) : Vec F S1024x1024 .f32 :=
  k0_pay12 X (View.ld g (Rect.unit ![0, 0, 0] S1x1024x256.size inb_S1x1024x1024_S1x1024x256_0_0_0)) (View.ld u (Rect.unit ![0, 0, 0] S1x1024x256.size inb_S1x1024x1024_S1x1024x256_0_0_0)) A (View.ld d (Rect.unit ![0, 0, 0] S1x256x1024.size inb_S1x1024x1024_S1x256x1024_0_0_0))
/-- after the second; -/
def s2 (X : Vec F S1024x1024 .bf16) (g u d : Vec F S1x1024x1024 .f32) (A : Vec F S1024x1024 .f32) : Vec F S1024x1024 .f32 :=
  k0_pay13 X (View.ld g (Rect.unit ![0, 0, 256] S1x1024x256.size inb_S1x1024x1024_S1x1024x256_0_0_256)) (View.ld u (Rect.unit ![0, 0, 256] S1x1024x256.size inb_S1x1024x1024_S1x1024x256_0_0_256)) (s1 X g u d A) (View.ld d (Rect.unit ![0, 256, 0] S1x256x1024.size inb_S1x1024x1024_S1x256x1024_0_256_0))
/-- after the third; -/
def s3 (X : Vec F S1024x1024 .bf16) (g u d : Vec F S1x1024x1024 .f32) (A : Vec F S1024x1024 .f32) : Vec F S1024x1024 .f32 :=
  k0_pay16 X (k0_pay14 X (View.ld g (Rect.unit ![0, 0, 512] S1x1024x256.size inb_S1x1024x1024_S1x1024x256_0_0_512))) (k0_pay15 (View.ld u (Rect.unit ![0, 0, 512] S1x1024x256.size inb_S1x1024x1024_S1x1024x256_0_0_512))) (constant S1024x256 .f32 0x00000000#32) (s2 X g u d A) (View.ld d (Rect.unit ![0, 512, 0] S1x256x1024.size inb_S1x1024x1024_S1x256x1024_0_512_0))
/-- after the fourth. -/
def step (X : Vec F S1024x1024 .bf16) (g u d : Vec F S1x1024x1024 .f32) (A : Vec F S1024x1024 .f32) : Vec F S1024x1024 .f32 :=
  k0_pay1 (k0_pay17 X (View.ld g (Rect.unit ![0, 0, 768] S1x1024x256.size inb_S1x1024x1024_S1x1024x256_0_0_768)) (View.ld u (Rect.unit ![0, 0, 768] S1x1024x256.size inb_S1x1024x1024_S1x1024x256_0_0_768))) (s3 X g u d A) (View.ld d (Rect.unit ![0, 768, 0] S1x256x1024.size inb_S1x1024x1024_S1x256x1024_0_768_0))

theorem whole_full {S : Shape} {e : EltTy} (v : View sig .tc .vmem S e) {off : Fin S.rank → ℕ} (h : ∀ a, off a = 0)
    (inb : ∀ a, off a + S.size a ≤ S.size a) (f : v.ty.Contents (Elt F)) :
    View.readAt (Elt F) v (Rect.unit off (no_index S.size) inb).toLoadRect f = v.read (Elt F) f :=
  (View.readAt_eq_ld v f _).trans (View.ld_unit_lit inb _ h)

set_option maxHeartbeats 1000000 in
/-- The second point of an expert: the partial result is completed and the gated product is stored. -/
theorem body1 (i : grid0.Coords) (arg5 : Memref sig .tc .vmem S1x512x128 .f32) (harg5 : arg5.IsWhole) (arg6 : Memref sig .tc .vmem S1x512x128 .f32) (harg6 : arg6.IsWhole)
    (arg7 : Memref sig .tc .vmem S1x1024x1024 .f32) (harg7 : arg7.IsWhole) (arg8 : Memref sig .tc .vmem S1x1024x1024 .f32) (harg8 : arg8.IsWhole)
    (arg9 : Memref sig .tc .vmem S1x1024x1024 .f32) (harg9 : arg9.IsWhole) (arg10 : Memref sig .tc .vmem S1x1024x1024 .bf16) (harg10 : arg10.IsWhole)
    (h1 : ¬ k0_cond1 i = 1#1) (h4 : k0_cond4 i = 1#1)  (X : S1024x1024.Idx → Elt F .bf16) (A : S1024x1024.Idx → Elt F .f32)
    (x0 x1 : Vec F S1x512x128 .f32) (x2 x3 x4 : Vec F S1x1024x1024 .f32) (Q : Unit → sProp 𝕄) :
    iprop(xb c X ∗ ac c A ∗ owns (c : Thread nD τ) arg5 fullShare x0 ∗ owns (c : Thread nD τ) arg6 fullShare x1 ∗ owns (c : Thread nD τ) arg7 fullShare x2
      ∗ owns (c : Thread nD τ) arg8 fullShare x3 ∗ owns (c : Thread nD τ) arg9 fullShare x4 ∗ (∃ d, owns (c : Thread nD τ) arg10 fullShare d)
      ∗ (iprop(xb c X ∗ (∃ d, ac c d) ∗ owns (c : Thread nD τ) arg5 fullShare x0 ∗ owns (c : Thread nD τ) arg6 fullShare x1 ∗ owns (c : Thread nD τ) arg7 fullShare x2
        ∗ owns (c : Thread nD τ) arg8 fullShare x3 ∗ owns (c : Thread nD τ) arg9 fullShare x4
        ∗ owns (c : Thread nD τ) arg10 fullShare (k0_pay2 (BitVec.ofNat 32 (i 0).val) x0 x1 (step X x2 x3 x4 A))) -∗ Q ⟨⟩))
      ⊢ wp frame (wpE (defs₀ (F := F)) Variants.none (c : Thread nD τ) none) Set.univ
      (cc0_moe_ffn (F := F) i (Memref.whole main_arg0) (Memref.isWhole_whole _) (Memref.whole main_arg1) (Memref.isWhole_whole _)
        (Memref.whole main_arg2) (Memref.isWhole_whole _) arg5 harg5 arg6 harg6 arg7 harg7 arg8 harg8 arg9 harg9 arg10 harg10
        (Memref.whole cc0_scratch0) (Memref.isWhole_whole _) (Memref.whole cc0_scratch1) (Memref.isWhole_whole _)
        (Memref.whole cc0_scratch2) (Memref.isWhole_whole _) cc0_scratch3) Q := by
  rw [cc0_moe_ffn_eq_skeleton]; unfold cc0_moe_ffn_skel
  simp only [k0_part2_eq_skeleton, k0_part3_eq_skeleton, k0_part4_eq_skeleton]
  unfold owns
  iintro ⟨HX, HA, ⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [HX]; · iexact HX
  isplitl [HA]; · iexists _; iexact HA
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_full _ _ _ _ _).trans ?_
  rw [whole_full _ (by decide), whole_full _ (by decide)]
  refine congrArg _ ?_
  unfold body1.sl.v140 body1.sl.HA_4
  refine (View.readCov_full _ _ _ _ _).trans ?_
  have hX := fun inb => whole_full (Memref.whole cc0_scratch1).view (off := ![0, 0]) (by decide) inb X
  have hA := fun inb => whole_full (Memref.whole cc0_scratch2).view (off := ![0, 0]) (by decide) inb A
  have e49 : body1.sl.v49 c arg7 arg8 arg9 X A f2 f3 f4 = s1 X (View.read (Elt F) arg7.view f2) (View.read (Elt F) arg8.view f3) (View.read (Elt F) arg9.view f4) A := by
    unfold body1.sl.v49 body1.sl.HA_1
    exact (View.readCov_full _ _ _ _ _).trans (congrArg₂ (fun a b => k0_pay12 a _ _ b _) (hX _) (hA _))
  have e76 : body1.sl.v76 c arg7 arg8 arg9 X A f2 f3 f4 = s2 X (View.read (Elt F) arg7.view f2) (View.read (Elt F) arg8.view f3) (View.read (Elt F) arg9.view f4) A := by
    unfold body1.sl.v76 body1.sl.HA_2
    exact (View.readCov_full _ _ _ _ _).trans (congrArg₂ (fun a b => k0_pay13 a _ _ b _) (hX _) e49)
  have e103 : body1.sl.v103 c arg7 arg8 arg9 X A f2 f3 f4 = s3 X (View.read (Elt F) arg7.view f2) (View.read (Elt F) arg8.view f3) (View.read (Elt F) arg9.view f4) A := by
    unfold body1.sl.v103 body1.sl.HA_3 body1.sl.r_1
    exact (View.readCov_full _ _ _ _ _).trans ((congrArg₂ (fun a b => k0_pay16 a (k0_pay14 a _) _ _ b _) (hX _) e76))
  unfold body1.sl.r_3
  exact congrArg₂ (fun a b => k0_pay1 (k0_pay17 a _ _) b _) (hX _) e103

end Cert.Kernel2.Ffn
end
-- ==== Proof.FfnStrips.lean ====
/- The operand of the products, copied strip by strip from the gathered rows. -/
module

public import proofs.«01_k».proof.Proof.FfnStep
public import Idealize.ShloMosaic.Lib.Pipeline.ValueKit
public import Idealize.ShloMosaic.Lib.VecWindow

@[expose] public section

noncomputable section

namespace Cert.Kernel2.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2 Cert.Kernel2.Gen

variable {F : FTy → Type} [FloatOps F]

local notation "𝕄" => MT nD τ sig Unit (Elt F) ℕ (Pipeline.UD sig nD τ) ℕ

variable (c : Dev nD) (T : S16384.Idx → BitVec 32) (hc hl : S32768x128.Idx → Elt F .f32)

/-- The operand of the products: the gathered rows, eight buffer rows to an operand row, rounded. -/
def XB (f : S8192x128.Idx → Elt F .f32) : Vec F S1024x1024 .bf16 := fun x =>
  k0_pay3 (fun y : S1024x128.Idx => f (fun a => match a with
      | 0 => ⟨8 * (y 0).val + (x 1).val / 128, by have := (y 0).isLt; have := (x 1).isLt; simp at *; omega⟩
      | 1 => y 1))
    (fun a => match a with | 0 => x 0 | 1 => ⟨(x 1).val % 128, Nat.mod_lt _ (by decide)⟩)

/-- The first five strips of the operand. -/
def L5 (f : S8192x128.Idx → Elt F .f32) : List (View.Piece (Elt F) S1024x1024 .bf16) :=
  [⟨Rect.unit ![0, 512] S1024x128.size inb_S1024x1024_S1024x128_0_512, k0_pay7 (View.readAt (Elt F) (Memref.whole cc0_scratch0).view ⟨![4, 0], S1024x128.size, ![8, 1], inb_S8192x128_S1024x128_4_0_s_8_1⟩ f)⟩,
    ⟨Rect.unit ![0, 384] S1024x128.size inb_S1024x1024_S1024x128_0_384, k0_pay6 (View.readAt (Elt F) (Memref.whole cc0_scratch0).view ⟨![3, 0], S1024x128.size, ![8, 1], inb_S8192x128_S1024x128_3_0_s_8_1⟩ f)⟩,
    ⟨Rect.unit ![0, 256] S1024x128.size inb_S1024x1024_S1024x128_0_256, k0_pay5 (View.readAt (Elt F) (Memref.whole cc0_scratch0).view ⟨![2, 0], S1024x128.size, ![8, 1], inb_S8192x128_S1024x128_2_0_s_8_1⟩ f)⟩,
    ⟨Rect.unit ![0, 128] S1024x128.size inb_S1024x1024_S1024x128_0_128, k0_pay4 (View.readAt (Elt F) (Memref.whole cc0_scratch0).view ⟨![1, 0], S1024x128.size, ![8, 1], inb_S8192x128_S1024x128_1_0_s_8_1⟩ f)⟩,
    ⟨Rect.unit ![0, 0] S1024x128.size inb_S1024x1024_S1024x128_0_0, k0_pay3 (View.readAt (Elt F) (Memref.whole cc0_scratch0).view ⟨![0, 0], S1024x128.size, ![8, 1], inb_S8192x128_S1024x128_0_0_s_8_1⟩ f)⟩]

/-- All eight. -/
def L8 (f : S8192x128.Idx → Elt F .f32) : List (View.Piece (Elt F) S1024x1024 .bf16) :=

    ⟨Rect.unit ![0, 896] S1024x128.size inb_S1024x1024_S1024x128_0_896, k0_pay10 (View.readAt (Elt F) (Memref.whole cc0_scratch0).view ⟨![7, 0], S1024x128.size, ![8, 1], inb_S8192x128_S1024x128_7_0_s_8_1⟩ f)⟩ ::
    ⟨Rect.unit ![0, 768] S1024x128.size inb_S1024x1024_S1024x128_0_768, k0_pay9 (View.readAt (Elt F) (Memref.whole cc0_scratch0).view ⟨![6, 0], S1024x128.size, ![8, 1], inb_S8192x128_S1024x128_6_0_s_8_1⟩ f)⟩ ::
    ⟨Rect.unit ![0, 640] S1024x128.size inb_S1024x1024_S1024x128_0_640, k0_pay8 (View.readAt (Elt F) (Memref.whole cc0_scratch0).view ⟨![5, 0], S1024x128.size, ![8, 1], inb_S8192x128_S1024x128_5_0_s_8_1⟩ f)⟩ :: L5 f

/-- A strip is the operand's. -/
theorem strip_eq (f : S8192x128.Idx → Elt F .f32) (j : ℕ) (inb : ∀ a, S1024x128.size a = 0 ∨ (![j, 0] : Fin 2 → ℕ) a + (![8, 1] : Fin 2 → ℕ) a * (S1024x128.size a - 1) < S8192x128.size a) (inb' : ∀ a, (![0, 128 * j] : Fin 2 → ℕ) a + S1024x128.size a ≤ S1024x1024.size a)
    (x : S1024x128.Idx) :
    k0_pay3 (View.readAt (Elt F) (Memref.whole cc0_scratch0 : Memref sig .tc .vmem S8192x128 .f32).view ⟨![j, 0], S1024x128.size, ![8, 1], inb⟩ f) x
      = XB f ((Rect.unit (s := S1024x1024) ![0, 128 * j] S1024x128.size inb').emb x) := by
  have hx : (x 1).val < 128 := (x 1).isLt
  have e1 : ((Rect.unit (s := S1024x1024) ![0, 128 * j] S1024x128.size inb').emb x 1).val = 128 * j + (x 1).val := by
    show 128 * j + 1 * (x 1).val = _; omega
  have e0 : ((Rect.unit (s := S1024x1024) ![0, 128 * j] S1024x128.size inb').emb x 0).val = (x 0).val := by
    show 0 + 1 * (x 0).val = _; omega
  unfold XB
  refine congrArg₂ (fun g y => k0_pay3 g y) (funext fun y => ?_) (funext fun a => ?_)
  · refine congrArg f (funext fun a => ?_)
    match a with
    | 0 => exact Fin.ext (by show j + 8 * (y 0).val = 8 * (y 0).val + _ / 128; rw [e1]; omega)
    | 1 => exact Fin.ext (by show 0 + 1 * (y 1).val = (y 1).val; omega)
  · match a with
    | 0 => exact Fin.ext e0.symm
    | 1 => exact Fin.ext (by show (x 1).val = _ % 128; rw [e1]; omega)

/-- Piece `j` of the operand, wherever its payload is written from. -/
theorem piece_eq (f : S8192x128.Idx → Elt F .f32) (j : ℕ) (inb : ∀ a, S1024x128.size a = 0 ∨ (![j, 0] : Fin 2 → ℕ) a + (![8, 1] : Fin 2 → ℕ) a * (S1024x128.size a - 1) < S8192x128.size a) (inb' : ∀ a, (![0, 128 * j] : Fin 2 → ℕ) a + S1024x128.size a ≤ S1024x1024.size a)
    (p : View.Piece (Elt F) S1024x1024 .bf16)
    (hp : p = ⟨Rect.unit (s := S1024x1024) ![0, 128 * j] S1024x128.size inb', k0_pay3 (View.readAt (Elt F) (Memref.whole cc0_scratch0 : Memref sig .tc .vmem S8192x128 .f32).view ⟨![j, 0], S1024x128.size, ![8, 1], inb⟩ f)⟩) :
    (∀ x, p.2 x = XB f (p.1.emb x)) ∧ ∀ y : S1024x1024.Idx, (y 1).val / 128 = j → y ∈ p.1.set := by
  subst hp
  refine ⟨strip_eq f j inb inb', fun y hj => ?_⟩
  have h0 : (y 0).val < 1024 := (y 0).isLt
  have h1 : (y 1).val < 1024 := (y 1).isLt
  show y ∈ (Rect.unit (s := S1024x1024) ![0, 128 * j] S1024x128.size inb').set
  rw [Rect.mem_set_unit]
  intro a
  match a with
  | 0 => exact ⟨Nat.zero_le _, by show _ < 0 + 1024; omega⟩
  | 1 => exact ⟨by show 128 * j ≤ _; omega, by show _ < 128 * j + 128; omega⟩

theorem pieces (f : S8192x128.Idx → Elt F .f32) : ∀ j : Fin 8, (∀ x, ((L8 f).get j).2 x = XB f (((L8 f).get j).1.emb x))
    ∧ ∀ y : S1024x1024.Idx, (y 1).val / 128 = 7 - j.val → y ∈ ((L8 f).get j).1.set
  | 0 => piece_eq f 7 (by decide) (by decide) _ rfl
  | 1 => piece_eq f 6 (by decide) (by decide) _ rfl
  | 2 => piece_eq f 5 (by decide) (by decide) _ rfl
  | 3 => piece_eq f 4 (by decide) (by decide) _ rfl
  | 4 => piece_eq f 3 (by decide) (by decide) _ rfl
  | 5 => piece_eq f 2 (by decide) (by decide) _ rfl
  | 6 => piece_eq f 1 (by decide) (by decide) _ rfl
  | 7 => piece_eq f 0 (by decide) (by decide) _ rfl

theorem L8_mem (f : S8192x128.Idx → Elt F .f32) (p : View.Piece (Elt F) S1024x1024 .bf16) (hp : p ∈ L8 f) (x : p.1.shape.Idx) : p.2 x = XB f (p.1.emb x) := by
  obtain ⟨⟨j, hj⟩, rfl⟩ := List.get_of_mem hp
  have hj' : j < 8 := hj
  exact (pieces f ⟨j, hj'⟩).1 x

theorem L8_cover (f : S8192x128.Idx → Elt F .f32) (y : S1024x1024.Idx) : ∃ p ∈ L8 f, y ∈ p.1.set := by
  have h1 : (y 1).val < 1024 := (y 1).isLt
  have h8 : 7 - (y 1).val / 128 < 8 := by omega
  have hl : (L8 f).length = 8 := rfl
  exact ⟨_, List.get_mem (L8 f) ⟨7 - (y 1).val / 128, by rw [hl]; exact h8⟩, (pieces f ⟨7 - (y 1).val / 128, h8⟩).2 y (by show _ = 7 - (7 - _); omega)⟩

theorem read_xb (g : (Memref.whole cc0_scratch1 : Memref sig .tc .vmem S1024x1024 .bf16).view.ty.Contents (Elt F)) :
    View.read (Elt F) (Memref.whole cc0_scratch1 : Memref sig .tc .vmem S1024x1024 .bf16).view g = g := rfl

/-- The eight strips fill the operand. -/
theorem strips (f : S8192x128.Idx → Elt F .f32) (X : S1024x1024.Idx → Elt F .bf16) :
    (Memref.whole cc0_scratch1 : Memref sig .tc .vmem S1024x1024 .bf16).view.writes (Elt F) X (L8 f) = XB f := by
  refine (read_xb _).symm.trans ?_
  funext y
  exact View.read_writes_apply_of_pieces (v := (Memref.whole cc0_scratch1 : Memref sig .tc .vmem S1024x1024 .bf16).view) (f := X) (XB f) (L8 f)
    (L8_mem f) y (L8_cover f y)

end Cert.Kernel2.Ffn
end
-- ==== Proof.FfnPart.lean ====
/- The first point of an expert: the gathered rows are copied into the operand, the next expert's transfers are
   issued, and the first half of the hidden columns is added up. -/
module

public import proofs.«01_k».proof.Proof.FfnStrips
public import Idealize.ShloMosaic.Lib.Pipeline.ValueKit
public import Idealize.ShloMosaic.Lib.VecWindow

@[expose] public section

noncomputable section

namespace Cert.Kernel2.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2 Cert.Kernel2.Gen

variable {F : FTy → Type} [FloatOps F]

local notation "𝕄" => MT nD τ sig Unit (Elt F) ℕ (Pipeline.UD sig nD τ) ℕ

variable (c : Dev nD) (T : S16384.Idx → BitVec 32) (hc hl : S32768x128.Idx → Elt F .f32)

/-- A staging buffer's contents. -/
abbrev wnd (a : Memref sig .tc .vmem S1x1024x1024 .f32) (f : a.view.ty.Contents (Elt F)) : sProp 𝕄 := View.loc (c : Thread nD τ) a.view ↦[a.view.set]{fullShare} f

/-- What is held when the expert's rows have arrived and five strips are copied. -/
def Part1 (e : ℕ) (X : S1024x1024.Idx → Elt F .bf16) (W : Waits sig Unit) : sProp 𝕄 :=
  iprop(Free c hc hl (G T hc hl e) ∗ tbl (F := F) c T
    ∗ xb c ((Memref.whole cc0_scratch1 : Memref sig .tc .vmem S1024x1024 .bf16).view.writes (Elt F) X (L5 (G T hc hl e)))
    ∗ owes (c : Thread nD τ) 0 (insert (SemLoc.dma gsem, ()) W))

variable (hT : ∀ j, (T j).toNat < 4096)

theorem cond2_iff : ∀ i : grid0.Coords, k0_cond2 i = 1#1 ↔ (i 0).val = 0 := by decide
theorem cond3_iff : ∀ i : grid0.Coords, k0_cond3 i = 1#1 ↔ (i 0).val + 1 < 16 := by decide

set_option maxHeartbeats 1000000 in
include hT in
theorem part1 (i : grid0.Coords) (arg5 : Memref sig .tc .vmem S1x512x128 .f32) (harg5 : arg5.IsWhole) (arg6 : Memref sig .tc .vmem S1x512x128 .f32) (harg6 : arg6.IsWhole)
    (arg7 : Memref sig .tc .vmem S1x1024x1024 .f32) (harg7 : arg7.IsWhole) (arg8 : Memref sig .tc .vmem S1x1024x1024 .f32) (harg8 : arg8.IsWhole)
    (arg9 : Memref sig .tc .vmem S1x1024x1024 .f32) (harg9 : arg9.IsWhole) (arg10 : Memref sig .tc .vmem S1x1024x1024 .bf16) (harg10 : arg10.IsWhole)
    (h1 : k0_cond1 i = 1#1) (arg0 : BitVec 32) (X : S1024x1024.Idx → Elt F .bf16) (W : Waits sig Unit) (Q : PUnit → sProp 𝕄) :
    iprop(Gath c T hc hl (i 0).val ∗ tbl (F := F) c T ∗ xb (F := F) c X ∗ owes (c : Thread nD τ) 0 W)
      ⊢ iprop((Part1 c T hc hl (i 0).val X W -∗ Q ⟨⟩) -∗ wp frame (wpE (defs₀ (F := F)) Variants.none (c : Thread nD τ) none) Set.univ
      (k0_part1 (F := F) i (Memref.whole main_arg0) (Memref.isWhole_whole _) (Memref.whole main_arg1) (Memref.isWhole_whole _)
        (Memref.whole main_arg2) (Memref.isWhole_whole _) arg5 harg5 arg6 harg6 arg7 harg7 arg8 harg8 arg9 harg9 arg10 harg10
        (Memref.whole cc0_scratch0) (Memref.isWhole_whole _) (Memref.whole cc0_scratch1) (Memref.isWhole_whole _)
        (Memref.whole cc0_scratch2) (Memref.isWhole_whole _) cc0_scratch3 arg0 h1) Q) := by
  rw [k0_part1_eq_skeleton]; unfold k0_part1_skel
  by_cases h2 : k0_cond2 i = 1#1
  · have he : (i 0).val = 0 := (cond2_iff i).1 h2
    rw [he]
    unfold Gath
    rw [if_neg (by omega)]
    iintro ⟨⟨%f, HF⟩, HT, HX, HO⟩ Hk
    sl_exec
    iapply (fetch1 c T hc hl hT i arg5 harg5 arg6 harg6 arg7 harg7 arg8 harg8 arg9 harg9 arg10 harg10 _ h1 h2 f) $$ [HF HT]
    · isplitl [HF] <;> iassumption
    iintro ⟨HF, HT⟩
    sl_exec
    iapply (wait_all_op c T hc hl 0 W) $$ [HF HO]
    · isplitl [HF] <;> iassumption
    unfold Free
    iintro ⟨⟨HE, HS, Hsem⟩, HO⟩
    sl_exec
    sl_step
    iapply Hk
    unfold Part1 Free
    isplitl [HE HS Hsem]
    · isplitl [HE]; · iexact HE
      isplitl [HS] <;> iassumption
    isplitl [HT]; · iexact HT
    isplitl [HX]; · iexact HX
    iexact HO
  · have he : 0 < (i 0).val ∧ (i 0).val < 16 := ⟨Nat.pos_of_ne_zero fun h => h2 ((cond2_iff i).2 h), (i 0).isLt⟩
    unfold Gath
    rw [if_pos he]
    iintro ⟨HF, HT, HX, HO⟩ Hk
    sl_exec
    iapply (wait_all_op c T hc hl (i 0).val W) $$ [HF HO]
    · isplitl [HF] <;> iassumption
    unfold Free
    iintro ⟨⟨HE, HS, Hsem⟩, HO⟩
    sl_exec
    sl_step
    iapply Hk
    unfold Part1 Free
    isplitl [HE HS Hsem]
    · isplitl [HE]; · iexact HE
      isplitl [HS] <;> iassumption
    isplitl [HT]; · iexact HT
    isplitl [HX]; · iexact HX
    iexact HO

theorem read_ac (g : (Memref.whole cc0_scratch2 : Memref sig .tc .vmem S1024x1024 .f32).view.ty.Contents (Elt F)) :
    View.read (Elt F) (Memref.whole cc0_scratch2 : Memref sig .tc .vmem S1024x1024 .f32).view g = g := rfl

/-- The partial result after the first slice, as the run leaves it. -/
theorem first_eq (a7 a8 a9 : Memref sig .tc .vmem S1x1024x1024 .f32) (X : Vec F S1024x1024 .bf16) (A Z : S1024x1024.Idx → Elt F .f32)
    (f2 : a7.view.ty.Contents (Elt F)) (f3 : a8.view.ty.Contents (Elt F)) (f4 : a9.view.ty.Contents (Elt F)) (L : List (View.Piece (Elt F) S1024x1024 .f32)) :
    (Memref.whole cc0_scratch2 : Memref sig .tc .vmem S1024x1024 .f32).view.writes (Elt F) A
      (⟨Rect.unit (s := S1024x1024) ![0, 0] ![1024, 1024] inb_S1024x1024_S1024x1024_0_0, k0_pay12 X
            (View.readAt (Elt F) a7.view (Rect.unit (s := S1x1024x1024) ![0, 0, 0] ![1, 1024, 256] inb_S1x1024x1024_S1x1024x256_0_0_0).toLoadRect f2)
            (View.readAt (Elt F) a8.view (Rect.unit (s := S1x1024x1024) ![0, 0, 0] ![1, 1024, 256] inb_S1x1024x1024_S1x1024x256_0_0_0).toLoadRect f3)
            Z (View.readAt (Elt F) a9.view (Rect.unit (s := S1x1024x1024) ![0, 0, 0] ![1, 256, 1024] inb_S1x1024x1024_S1x256x1024_0_0_0).toLoadRect f4)⟩ :: L)
      = s1 X (View.read (Elt F) a7.view f2) (View.read (Elt F) a8.view f3) (View.read (Elt F) a9.view f4) Z := by
  refine (read_ac _).symm.trans ?_
  exact View.read_writes_full (Memref.whole cc0_scratch2 : Memref sig .tc .vmem S1024x1024 .f32).view A _ _ L

set_option maxHeartbeats 1000000 in
include hT in
theorem part2 (i : grid0.Coords) (arg5 : Memref sig .tc .vmem S1x512x128 .f32) (harg5 : arg5.IsWhole) (arg6 : Memref sig .tc .vmem S1x512x128 .f32) (harg6 : arg6.IsWhole)
    (arg7 : Memref sig .tc .vmem S1x1024x1024 .f32) (harg7 : arg7.IsWhole) (arg8 : Memref sig .tc .vmem S1x1024x1024 .f32) (harg8 : arg8.IsWhole)
    (arg9 : Memref sig .tc .vmem S1x1024x1024 .f32) (harg9 : arg9.IsWhole) (arg10 : Memref sig .tc .vmem S1x1024x1024 .bf16) (harg10 : arg10.IsWhole)
    (h1 : k0_cond1 i = 1#1) (X : S1024x1024.Idx → Elt F .bf16) (A : S1024x1024.Idx → Elt F .f32) (W : Waits sig Unit)
    (f2 : arg7.view.ty.Contents (Elt F)) (f3 : arg8.view.ty.Contents (Elt F)) (f4 : arg9.view.ty.Contents (Elt F))
    (Q : (Σ' (arg0 : BitVec 32) (arg1 : BitVec 32), Vec F S1024x1024 .bf16) → sProp 𝕄) :
    iprop(Gath c T hc hl (i 0).val ∗ tbl (F := F) c T ∗ xb (F := F) c X ∗ ac (F := F) c A ∗ owes (c : Thread nD τ) 0 W ∗ wnd c arg7 f2 ∗ wnd c arg8 f3 ∗ wnd c arg9 f4)
      ⊢ iprop((iprop(Gath c T hc hl ((i 0).val + 1) ∗ tbl (F := F) c T ∗ xb (F := F) c (XB (G T hc hl (i 0).val))
          ∗ ac (F := F) c (s1 (XB (G T hc hl (i 0).val)) (View.read (Elt F) arg7.view f2) (View.read (Elt F) arg8.view f3) (View.read (Elt F) arg9.view f4) k0_pay11)
          ∗ owes (c : Thread nD τ) 0 (insert (SemLoc.dma gsem, ()) W) ∗ wnd c arg7 f2 ∗ wnd c arg8 f3 ∗ wnd c arg9 f4)
          -∗ Q ⟨BitVec.ofNat 32 (i 0).val, BitVec.ofNat 32 (i 1).val, XB (G T hc hl (i 0).val)⟩) -∗ wp frame (wpE (defs₀ (F := F)) Variants.none (c : Thread nD τ) none) Set.univ
      (k0_part2 (F := F) i (Memref.whole main_arg0) (Memref.isWhole_whole _) (Memref.whole main_arg1) (Memref.isWhole_whole _)
        (Memref.whole main_arg2) (Memref.isWhole_whole _) arg5 harg5 arg6 harg6 arg7 harg7 arg8 harg8 arg9 harg9 arg10 harg10
        (Memref.whole cc0_scratch0) (Memref.isWhole_whole _) (Memref.whole cc0_scratch1) (Memref.isWhole_whole _)
        (Memref.whole cc0_scratch2) (Memref.isWhole_whole _) cc0_scratch3) Q) := by
  rw [k0_part2_eq_skeleton]; unfold k0_part2_skel
  simp only [dif_pos h1]
  iintro ⟨HG, HT, HX, HA, HO, H2, H3, H4⟩ Hk
  rw [wp_bind]
  iapply (part1 c T hc hl hT i arg5 harg5 arg6 harg6 arg7 harg7 arg8 harg8 arg9 harg9 arg10 harg10 h1 _ X W) $$ [HG HT HX HO]
  · isplitl [HG]; · iexact HG
    isplitl [HT]; · iexact HT
    isplitl [HX]; · iexact HX
    iexact HO
  unfold Part1 Free
  iintro ⟨⟨HE, HS, Hsem⟩, HT, HX, HO⟩
  sl_exec
  have hs : (Memref.whole cc0_scratch1 : Memref sig .tc .vmem S1024x1024 .bf16).view.writes (Elt F) X
      (⟨Rect.unit ![0, 896] ![1024, 128] inb_S1024x1024_S1024x128_0_896, k0_pay10 (part2.sl.v155 T hc hl i)⟩ ::
        ⟨Rect.unit ![0, 768] ![1024, 128] inb_S1024x1024_S1024x128_0_768, k0_pay9 (part2.sl.v150 T hc hl i)⟩ ::
          ⟨Rect.unit ![0, 640] ![1024, 128] inb_S1024x1024_S1024x128_0_640, k0_pay8 (part2.sl.v145 T hc hl i)⟩ ::
            L5 (G T hc hl (i 0).val)) = XB (G T hc hl (i 0).val) := strips (G T hc hl (i 0).val) X
  ihave HX := (Entails.of_eq (congrArg (fun g => xb (F := F) c g) hs)) $$ HX
  by_cases h3 : k0_cond3 i = 1#1
  · have he : 0 < (i 0).val + 1 ∧ (i 0).val + 1 < 16 := ⟨by omega, (cond3_iff i).1 h3⟩
    unfold Gath
    rw [if_pos he]
    sl_exec
    iapply (fetch2 c T hc hl hT i arg5 harg5 arg6 harg6 arg7 harg7 arg8 harg8 arg9 harg9 arg10 harg10 h1 h3 (G T hc hl (i 0).val)) $$ [HE HS Hsem HT]
    · unfold Free
      isplitr [HT]
      · isplitl [HE]; · iexact HE
        isplitl [HS] <;> iassumption
      iassumption
    iintro ⟨HF, HT⟩
    sl_exec
    sl_step
    have hv : part2.sl.v3 T hc hl i = XB (G T hc hl (i 0).val) := whole_full (Memref.whole cc0_scratch1).view (off := ![0, 0]) (by decide) _ _
    have hz : part2.sl.v22 (F := F) = k0_pay11 := by
      unfold part2.sl.v22 part2.sl.HA_1
      exact View.readCov_full _ _ _ _ _
    rw [hv, hz, first_eq arg7 arg8 arg9]
    iapply Hk
    isplitl [HF]; · iexact HF
    isplitl [HT]; · iexact HT
    isplitl [HX]; · iexact HX
    isplitl [HA]; · iexact HA
    isplitl [HO]; · iexact HO
    isplitl [H2]; · iexact H2
    isplitl [H3] <;> iassumption
  · have he : ¬ (0 < (i 0).val + 1 ∧ (i 0).val + 1 < 16) := fun h => h3 ((cond3_iff i).2 h.2)
    unfold Gath
    rw [if_neg he]
    sl_exec
    sl_step
    have hv : part2.sl.v3_1 T hc hl i = XB (G T hc hl (i 0).val) := whole_full (Memref.whole cc0_scratch1).view (off := ![0, 0]) (by decide) _ _
    have hz : part2.sl.v22_1 (F := F) = k0_pay11 := by
      unfold part2.sl.v22_1 part2.sl.HA_1_1
      exact View.readCov_full _ _ _ _ _
    rw [hv, hz, first_eq arg7 arg8 arg9]
    iapply Hk
    isplitl [HE HS Hsem]
    · iexists _
      unfold Free
      isplitl [HE]; · iexact HE
      isplitl [HS] <;> iassumption
    isplitl [HT]; · iexact HT
    isplitl [HX]; · iexact HX
    isplitl [HA]; · iexact HA
    isplitl [HO]; · iexact HO
    isplitl [H2]; · iexact H2
    isplitl [H3] <;> iassumption

end Cert.Kernel2.Ffn
end
-- ==== Proof.FfnFirst.lean ====
/- The first point of an expert, whole. -/
module

public import proofs.«01_k».proof.Proof.FfnPart
public import Idealize.ShloMosaic.Lib.Pipeline.ValueKit
public import Idealize.ShloMosaic.Lib.VecWindow

@[expose] public section

noncomputable section

namespace Cert.Kernel2.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2 Cert.Kernel2.Gen

variable {F : FTy → Type} [FloatOps F]

local notation "𝕄" => MT nD τ sig Unit (Elt F) ℕ (Pipeline.UD sig nD τ) ℕ

variable (c : Dev nD) (T : S16384.Idx → BitVec 32) (hc hl : S32768x128.Idx → Elt F .f32)

/-- The partial result after the last slice, as the run leaves it. -/
theorem last_eq (a9 : Memref sig .tc .vmem S1x1024x1024 .f32) (A Z : S1024x1024.Idx → Elt F .f32) (H : FVec F S1024x256 .f32)
    (f4 : a9.view.ty.Contents (Elt F)) (L : List (View.Piece (Elt F) S1024x1024 .f32)) :
    (Memref.whole cc0_scratch2 : Memref sig .tc .vmem S1024x1024 .f32).view.writes (Elt F) A
      (⟨Rect.unit (s := S1024x1024) ![0, 0] ![1024, 1024] inb_S1024x1024_S1024x1024_0_0, k0_pay1 H Z
            (View.readAt (Elt F) a9.view (Rect.unit (s := S1x1024x1024) ![0, 768, 0] ![1, 256, 1024] inb_S1x1024x1024_S1x256x1024_0_768_0).toLoadRect f4)⟩ :: L)
      = k0_pay1 H Z (View.ld (View.read (Elt F) a9.view f4) (Rect.unit ![0, 768, 0] S1x256x1024.size inb_S1x1024x1024_S1x256x1024_0_768_0)) := by
  refine (read_ac _).symm.trans ?_
  exact View.read_writes_full (Memref.whole cc0_scratch2 : Memref sig .tc .vmem S1024x1024 .f32).view A _ _ L
variable (hT : ∀ j, (T j).toNat < 4096)

set_option maxHeartbeats 1000000 in
include hT in
/-- The first point of an expert. -/
theorem body0 (i : grid0.Coords) (arg5 : Memref sig .tc .vmem S1x512x128 .f32) (harg5 : arg5.IsWhole) (arg6 : Memref sig .tc .vmem S1x512x128 .f32) (harg6 : arg6.IsWhole)
    (arg7 : Memref sig .tc .vmem S1x1024x1024 .f32) (harg7 : arg7.IsWhole) (arg8 : Memref sig .tc .vmem S1x1024x1024 .f32) (harg8 : arg8.IsWhole)
    (arg9 : Memref sig .tc .vmem S1x1024x1024 .f32) (harg9 : arg9.IsWhole) (arg10 : Memref sig .tc .vmem S1x1024x1024 .bf16) (harg10 : arg10.IsWhole)
    (h1 : k0_cond1 i = 1#1) (h4 : ¬ k0_cond4 i = 1#1) (x2 x3 x4 : Vec F S1x1024x1024 .f32) (W : Waits sig Unit) (Q : Unit → sProp 𝕄) :
    iprop(Gath c T hc hl (i 0).val ∗ tbl (F := F) c T ∗ (∃ d, xb (F := F) c d) ∗ (∃ d, ac (F := F) c d) ∗ owes (c : Thread nD τ) 0 W
      ∗ owns (c : Thread nD τ) arg7 fullShare x2 ∗ owns (c : Thread nD τ) arg8 fullShare x3 ∗ owns (c : Thread nD τ) arg9 fullShare x4
      ∗ (iprop(Gath c T hc hl ((i 0).val + 1) ∗ tbl (F := F) c T ∗ xb (F := F) c (XB (G T hc hl (i 0).val))
          ∗ ac (F := F) c (step (XB (G T hc hl (i 0).val)) x2 x3 x4 k0_pay11) ∗ owes (c : Thread nD τ) 0 (insert (SemLoc.dma gsem, ()) W)
          ∗ owns (c : Thread nD τ) arg7 fullShare x2 ∗ owns (c : Thread nD τ) arg8 fullShare x3 ∗ owns (c : Thread nD τ) arg9 fullShare x4) -∗ Q ⟨⟩))
      ⊢ wp frame (wpE (defs₀ (F := F)) Variants.none (c : Thread nD τ) none) Set.univ
      (cc0_moe_ffn (F := F) i (Memref.whole main_arg0) (Memref.isWhole_whole _) (Memref.whole main_arg1) (Memref.isWhole_whole _)
        (Memref.whole main_arg2) (Memref.isWhole_whole _) arg5 harg5 arg6 harg6 arg7 harg7 arg8 harg8 arg9 harg9 arg10 harg10
        (Memref.whole cc0_scratch0) (Memref.isWhole_whole _) (Memref.whole cc0_scratch1) (Memref.isWhole_whole _)
        (Memref.whole cc0_scratch2) (Memref.isWhole_whole _) cc0_scratch3) Q := by
  rw [cc0_moe_ffn_eq_skeleton]; unfold cc0_moe_ffn_skel
  simp only [k0_part3_eq_skeleton, k0_part4_eq_skeleton]
  unfold owns
  iintro ⟨HG, HT, ⟨%X, HX⟩, ⟨%A, HA⟩, HO, ⟨%f2, %hf2, H2⟩, ⟨%f3, %hf3, H3⟩, ⟨%f4, %hf4, H4⟩, Hk⟩
  subst hf2 hf3 hf4
  rw [wp_bind]
  iapply (part2 c T hc hl hT i arg5 harg5 arg6 harg6 arg7 harg7 arg8 harg8 arg9 harg9 arg10 harg10 h1 X A W f2 f3 f4) $$ [HG HT HX HA HO H2 H3 H4]
  · isplitl [HG]; · iexact HG
    isplitl [HT]; · iexact HT
    isplitl [HX]; · iexact HX
    isplitl [HA]; · iexact HA
    isplitl [HO]; · iexact HO
    isplitl [H2]; · iexact H2
    isplitl [H3] <;> iassumption
  iintro ⟨HG, HT, HX, HA, HO, H2, H3, H4⟩
  sl_exec
  sl_step
  iapply Hk
  isplitl [HG]; · iexact HG
  isplitl [HT]; · iexact HT
  isplitl [HX]; · iexact HX
  have e76 : body0.sl.v76 c T hc hl i arg7 arg8 arg9 f2 f3 f4 = s2 (XB (G T hc hl (i 0).val)) (View.read (Elt F) arg7.view f2) (View.read (Elt F) arg8.view f3) (View.read (Elt F) arg9.view f4) k0_pay11 := by
    unfold body0.sl.v76 body0.sl.HA_1
    exact (View.readCov_full _ _ _ _ _).trans (congrArg (fun b => k0_pay13 (XB (G T hc hl (i 0).val)) _ _ b _)
      (whole_full (Memref.whole cc0_scratch2).view (off := ![0, 0]) (by decide) _ _))
  have e103 : body0.sl.v103 c T hc hl i arg7 arg8 arg9 f2 f3 f4 = s3 (XB (G T hc hl (i 0).val)) (View.read (Elt F) arg7.view f2) (View.read (Elt F) arg8.view f3) (View.read (Elt F) arg9.view f4) k0_pay11 := by
    unfold body0.sl.v103 body0.sl.HA_2
    exact (View.readCov_full _ _ _ _ _).trans (congrArg (fun b => k0_pay16 (XB (G T hc hl (i 0).val)) (k0_pay14 _ _) _ _ b _) e76)
  rw [e103, last_eq arg9]
  isplitl [HA]; · iexact HA
  isplitl [HO]; · iexact HO
  isplitl [H2]
  · iexists f2; isplitr; · ipureintro; rfl
    iexact H2
  isplitl [H3]
  · iexists f3; isplitr; · ipureintro; rfl
    iexact H3
  iexists f4; isplitr; · ipureintro; rfl
  iexact H4

end Cert.Kernel2.Ffn
end
-- ==== Proof.FfnRun.lean ====
/- The launch of the routed experts: the proof data of the pipeline, its body at every grid point, the run. -/
module

public import proofs.«01_k».proof.Proof.FfnFirst
public import Idealize.ShloMosaic.Lib.Pipeline.FrameBody
public import Idealize.ShloMosaic.Lib.Claim

@[expose] public section

noncomputable section

namespace Cert.Kernel2.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2 Cert.Kernel2.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers of core `c` as launched. -/
abbrev V (c : Dev nD) (b : Ref sig .tc) : Buf (Elt F) ((c : Thread nD τ).loc b) := m ((c : Thread nD τ).loc b)

/-- The table of rows. -/
abbrev tab (c : Dev nD) : S16384.Idx → BitVec 32 := m ((c : Thread nD τ).loc main_arg0)
/-- The context's activations. -/
abbrev hcB (c : Dev nD) : S32768x128.Idx → Elt F .f32 := m ((c : Thread nD τ).loc main_arg1)
/-- The latent tokens' activations. -/
abbrev hlB (c : Dev nD) : S32768x128.Idx → Elt F .f32 := m ((c : Thread nD τ).loc main_arg2)

/-- The table's contents, as the pipeline is told them. -/
def adm : (pcfg0 (F := F)).Adm :=
  ⟨fun | 0 => m (((0 : Dev nD) : Thread nD τ).loc main_arg0) | ⟨_ + 1, h⟩ => absurd h (Nat.not_lt.2 (Nat.le_add_left _ _)), trivial⟩

/-- The pipeline at those contents. -/
abbrev cfgA : Cfg sig Λ₀ := cfg0 (adm m)

/-- Window `w`'s block at point `t`. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

theorem before_0_of {c : Dev nD} (dat : Dat τ (Elt F) Unit ℕ (Pipeline.UD sig nD τ) ℕ (cfgA m) c) (hA : dat.A 0 = V m c (Pipeline.arrRef spec0 0))
    (hafter : ∀ t, dat.after 0 t = iblk m c 0 t) (t : Fin (cfgA m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (Pipeline.UD sig nD τ) ℕ (cfgA m) c) (hA : dat.A 1 = V m c (Pipeline.arrRef spec0 1))
    (hafter : ∀ t, dat.after 1 t = iblk m c 1 t) (t : Fin (cfgA m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (Pipeline.UD sig nD τ) ℕ (cfgA m) c) (hA : dat.A 2 = V m c (Pipeline.arrRef spec0 2))
    (hafter : ∀ t, dat.after 2 t = iblk m c 2 t) (t : Fin (cfgA m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (Pipeline.UD sig nD τ) ℕ (cfgA m) c) (hA : dat.A 3 = V m c (Pipeline.arrRef spec0 3))
    (hafter : ∀ t, dat.after 3 t = iblk m c 3 t) (t : Fin (cfgA m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (Pipeline.UD sig nD τ) ℕ (cfgA m) c) (hA : dat.A 4 = V m c (Pipeline.arrRef spec0 4))
    (hafter : ∀ t, dat.after 4 t = iblk m c 4 t) (t : Fin (cfgA m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The grid -/

/-- Point `n` of the grid. -/
def pt (n : ℕ) : Fin grid0.N := ⟨n % 32, by rw [N_0]; exact Nat.mod_lt _ (by decide)⟩

theorem coords_e : ∀ t : Fin grid0.N, (grid0.coords t 0).val = t.val / 2 := by decide +kernel
theorem cond1_iff : ∀ t : Fin grid0.N, k0_cond1 (grid0.coords t) = 1#1 ↔ t.val % 2 = 0 := by decide +kernel
theorem cond4_iff : ∀ t : Fin grid0.N, k0_cond4 (grid0.coords t) = 1#1 ↔ t.val % 2 = 1 := by decide +kernel

theorem flush_iff (t : Fin grid0.N) : (win0 (adm m) 5).flush t = true ↔ t.val % 2 = 1 :=
  Pipeline.Window.flush_reads (win0 (adm m) 5) rfl 0 (by decide) (show grid0.fixedAfter reads0_5 0 = true by decide)
    (Pipeline.Window.sep_of_coord cc0_transform_7 0 0 (fun _ => rfl) (by decide)) (P := 2) (by decide) (by decide) t

/-! ## The proof data -/

/-- The partial result of expert `e` after its first point. -/
def part (c : Dev nD) (e : ℕ) : S1024x1024.Idx → Elt F .f32 :=
  step (XB (G (tab m c) (hcB m c) (hlB m c) e)) (iblk m c 2 (pt (2 * e))) (iblk m c 3 (pt (2 * e))) (iblk m c 4 (pt (2 * e))) k0_pay11

/-- What the second point of an expert stores. -/
def outB (c : Dev nD) (t : Fin (cfgA m).N) : S1x1024x1024.Idx → Elt F .bf16 :=
  k0_pay2 (BitVec.ofNat 32 (grid0.coords t 0).val) (iblk m c 0 t) (iblk m c 1 t)
    (step (XB (G (tab m c) (hcB m c) (hlB m c) (t.val / 2))) (iblk m c 2 t) (iblk m c 3 t) (iblk m c 4 t) (part m c (t.val / 2)))

/-- Before the first point of expert `e`. -/
def Before (c : Dev nD) (e : ℕ) : sProp 𝕄 :=
  iprop(Gath c (tab m c) (hcB m c) (hlB m c) e ∗ (∃ d, xb (F := F) c d) ∗ ∃ d, ac (F := F) c d)

/-- Between the two points of expert `e`. -/
def Between (c : Dev nD) (e : ℕ) : sProp 𝕄 :=
  iprop(Gath c (tab m c) (hcB m c) (hlB m c) (e + 1) ∗ xb (F := F) c (XB (G (tab m c) (hcB m c) (hlB m c) e)) ∗ ac (F := F) c (part m c e))

/-- The invariant before point `n`. -/
def Phi (c : Dev nD) (n : ℕ) : sProp 𝕄 :=
  iprop(tbl (F := F) c (tab m c) ∗ (∃ r, prngReg c r) ∗ if n % 2 = 0 then Before m c (n / 2) else Between m c (n / 2))

/-- The proof data of the pipeline on core `c`. -/
def dats (_ : Fin 1) (c : Dev nD) : Dat τ (Elt F) Unit ℕ (Pipeline.UD sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB m c t
  Φ t := Phi m c t.val
  q _ := fullShare
  owed _ := 0

theorem A_eq (c : Dev nD) (w : Fin (cfgA m).W) : (dats m 0 c).A w = V m c (Pipeline.arrRef spec0 w) := by
  dsimp only [dats]
theorem after_0 (c : Dev nD) (t : Fin (cfgA m).N) : (dats m 0 c).after 0 t = iblk m c 0 t := by dsimp only [dats]; rfl
theorem after_1 (c : Dev nD) (t : Fin (cfgA m).N) : (dats m 0 c).after 1 t = iblk m c 1 t := by dsimp only [dats]; rfl
theorem after_2 (c : Dev nD) (t : Fin (cfgA m).N) : (dats m 0 c).after 2 t = iblk m c 2 t := by dsimp only [dats]; rfl
theorem after_3 (c : Dev nD) (t : Fin (cfgA m).N) : (dats m 0 c).after 3 t = iblk m c 3 t := by dsimp only [dats]; rfl
theorem after_4 (c : Dev nD) (t : Fin (cfgA m).N) : (dats m 0 c).after 4 t = iblk m c 4 t := by dsimp only [dats]; rfl
theorem after_5 (c : Dev nD) (t : Fin (cfgA m).N) : (dats m 0 c).after 5 t = outB m c t := by dsimp only [dats]; rfl
theorem before_0 (c : Dev nD) (t : Fin (cfgA m).N) (d) : (dats m 0 c).before 0 t d = iblk m c 0 t :=
  before_0_of m (dats m 0 c) (A_eq m c 0) (after_0 m c) t d
theorem before_1 (c : Dev nD) (t : Fin (cfgA m).N) (d) : (dats m 0 c).before 1 t d = iblk m c 1 t :=
  before_1_of m (dats m 0 c) (A_eq m c 1) (after_1 m c) t d
theorem before_2 (c : Dev nD) (t : Fin (cfgA m).N) (d) : (dats m 0 c).before 2 t d = iblk m c 2 t :=
  before_2_of m (dats m 0 c) (A_eq m c 2) (after_2 m c) t d
theorem before_3 (c : Dev nD) (t : Fin (cfgA m).N) (d) : (dats m 0 c).before 3 t d = iblk m c 3 t :=
  before_3_of m (dats m 0 c) (A_eq m c 3) (after_3 m c) t d
theorem before_4 (c : Dev nD) (t : Fin (cfgA m).N) (d) : (dats m 0 c).before 4 t d = iblk m c 4 t :=
  before_4_of m (dats m 0 c) (A_eq m c 4) (after_4 m c) t d

/-! ## The body at a point -/

/-- The body at point `t`. -/
abbrev bodyAt (t : Fin (cfgA m).N) : Prog (TpuEff nD τ sig (Elt F) Λ₀ .tc) PUnit :=
  cc0_moe_ffn (F := F) (grid0.coords t) (Memref.whole main_arg0) (Memref.isWhole_whole _) (Memref.whole main_arg1) (Memref.isWhole_whole _) (Memref.whole main_arg2) (Memref.isWhole_whole _)
    (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (Memref.whole cc0_scratch0) (Memref.isWhole_whole _) (Memref.whole cc0_scratch1) (Memref.isWhole_whole _) (Memref.whole cc0_scratch2) (Memref.isWhole_whole _) cc0_scratch3

theorem defs₀_row (t : Fin (cfgA m).N) :
    defs₀ (F := F) .tc (cfgA m).body ((cfgA m).bodyArgs t ((cfgA m).slots t)) = bodyAt m t := by
  unfold defs₀; rw [Defs.onTc_tc]

/-- Window 0's buffer at point `t`. -/
abbrev st0 (t : Fin (cfgA m).N) := ((cfgA m).win 0).stage ((cfgA m).slots t 0)
/-- Window 1's buffer at point `t`. -/
abbrev st1 (t : Fin (cfgA m).N) := ((cfgA m).win 1).stage ((cfgA m).slots t 1)
/-- Window 2's buffer at point `t`. -/
abbrev st2 (t : Fin (cfgA m).N) := ((cfgA m).win 2).stage ((cfgA m).slots t 2)
/-- Window 3's buffer at point `t`. -/
abbrev st3 (t : Fin (cfgA m).N) := ((cfgA m).win 3).stage ((cfgA m).slots t 3)
/-- Window 4's buffer at point `t`. -/
abbrev st4 (t : Fin (cfgA m).N) := ((cfgA m).win 4).stage ((cfgA m).slots t 4)
/-- Window 5's buffer at point `t`. -/
abbrev st5 (t : Fin (cfgA m).N) := ((cfgA m).win 5).stage ((cfgA m).slots t 5)

/-- What the body is called with; -/
def bodyPre (c : Dev nD) (t : Fin (cfgA m).N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d))
    ∗ (∃ d, owns (c : Thread nD τ) (st2 m t) fullShare ((dats m 0 c).before 2 t d))
    ∗ (∃ d, owns (c : Thread nD τ) (st3 m t) fullShare ((dats m 0 c).before 3 t d))
    ∗ (∃ d, owns (c : Thread nD τ) (st4 m t) fullShare ((dats m 0 c).before 4 t d))
    ∗ (∃ d, owns (c : Thread nD τ) (st5 m t) fullShare ((dats m 0 c).before 5 t d)))

/-- and what it returns. -/
def bodyPost (c : Dev nD) (t : Fin (cfgA m).N) : sProp 𝕄 :=
  iprop((dats m 0 c).Φ t.succ ∗ (dats m 0 c).owesAt () t.succ
    ∗ owns (c : Thread nD τ) (st0 m t) fullShare ((dats m 0 c).after 0 t)
    ∗ owns (c : Thread nD τ) (st1 m t) fullShare ((dats m 0 c).after 1 t)
    ∗ owns (c : Thread nD τ) (st2 m t) fullShare ((dats m 0 c).after 2 t)
    ∗ owns (c : Thread nD τ) (st3 m t) fullShare ((dats m 0 c).after 3 t)
    ∗ owns (c : Thread nD τ) (st4 m t) fullShare ((dats m 0 c).after 4 t)
    ∗ (dats m 0 c).leavesExact 5 t)

theorem out_first (c : Dev nD) (t : Fin (cfgA m).N) (h : t.val % 2 = 0) :
    (dats m 0 c).leavesExact 5 t = iprop(∃ d, owns (c : Thread nD τ) (st5 m t) fullShare ((dats m 0 c).before 5 t d)) :=
  (dats m 0 c).leavesExact_idle 5 t
    (show (!(k0_cond4 (grid0.coords t) == 1#1)) = true by
      have : ¬ k0_cond4 (grid0.coords t) = 1#1 := fun h' => by have := (cond4_iff t).mp h'; omega
      simp [this])
    (show (win0 (adm m) 5).flush t = false by
      have : ¬ (win0 (adm m) 5).flush t = true := fun h' => by have := (flush_iff m t).mp h'; omega
      simpa using this)

theorem out_second (c : Dev nD) (t : Fin (cfgA m).N) (h : t.val % 2 = 1) :
    (dats m 0 c).leavesExact 5 t = owns (c : Thread nD τ) (st5 m t) fullShare (outB m c t) := by
  have hi : (cfgA m).idle 5 ((cfgA m).grid.coords t) = false :=
    show (!(k0_cond4 (grid0.coords t) == 1#1)) = false by
      have := (cond4_iff t).mpr h
      simp [this]
  unfold Dat.leavesExact
  rw [hi, after_5]

variable (hT : ∀ c j, (tab m c j).toNat < 4096)

include hT in
theorem first (c : Dev nD) (t : Fin (cfgA m).N) (h : t.val % 2 = 0) :
    bodyPre m c t ⊢ wp frame (wpE (defs₀ (F := F)) Variants.none c none) Set.univ (bodyAt m t) (fun _ => bodyPost m c t) := by
  have ht : t.val < 32 := lt_of_lt_of_eq t.isLt N_0
  have hp : pt (2 * (t.val / 2)) = t := Fin.ext (by show 2 * (t.val / 2) % 32 = t.val; omega)
  unfold bodyPre bodyPost
  simp only [before_0, before_1, before_2, before_3, before_4, after_0, after_1, after_2, after_3, after_4]
  rw [out_first m c t h]
  rw [show (dats m 0 c).Φ t.castSucc = iprop(tbl (F := F) c (tab m c) ∗ (∃ r, prngReg c r) ∗ Before m c (t.val / 2)) from by
      show Phi m c t.val = _; unfold Phi; rw [if_pos h],
    show (dats m 0 c).Φ t.succ = iprop(tbl (F := F) c (tab m c) ∗ (∃ r, prngReg c r) ∗ Between m c (t.val / 2)) from by
      show Phi m c (t.val + 1) = _; unfold Phi; rw [if_neg (by omega), show (t.val + 1) / 2 = t.val / 2 by omega]]
  unfold Before Between part Dat.owesAt Pipeline.owesWithin
  rw [hp]
  iintro ⟨⟨HT, HP, HG, HX, HA⟩, ⟨%W, %hW, HO⟩, ⟨%d0, H0⟩, ⟨%d1, H1⟩, ⟨%d2, H2⟩, ⟨%d3, H3⟩, ⟨%d4, H4⟩, H5⟩
  have he := coords_e t
  iapply (body0 c (tab m c) (hcB m c) (hlB m c) (hT c) (grid0.coords t) _ (hstage0_0 _) _ (hstage0_1 _) _ (hstage0_2 _) _ (hstage0_3 _) _ (hstage0_4 _) _ (hstage0_5 _)
    ((cond1_iff t).mpr h) (fun h' => by have := (cond4_iff t).mp h'; omega) (iblk m c 2 t) (iblk m c 3 t) (iblk m c 4 t) W _)
  rw [he]
  isplitl [HG]; · iexact HG
  isplitl [HT]; · iexact HT
  isplitl [HX]; · iexact HX
  isplitl [HA]; · iexact HA
  isplitl [HO]; · iexact HO
  isplitl [H2]; · iexact H2
  isplitl [H3]; · iexact H3
  isplitl [H4]; · iexact H4
  iintro ⟨HG, HT, HX, HA, HO, H2, H3, H4⟩
  isplitl [HT HP HG HX HA]
  · isplitl [HT]; · iexact HT
    isplitl [HP]; · iexact HP
    isplitl [HG]; · iexact HG
    isplitl [HX]; · iexact HX
    iexact HA
  isplitl [HO]
  · iexists _; isplitr
    swap; · iexact HO
    ipureintro
    exact fun x _ => Or.inl trivial
  isplitl [H0]; · iexact H0
  isplitl [H1]; · iexact H1
  isplitl [H2]; · iexact H2
  isplitl [H3]; · iexact H3
  isplitl [H4]; · iexact H4
  iexact H5

theorem second (c : Dev nD) (t : Fin (cfgA m).N) (h : t.val % 2 = 1) :
    bodyPre m c t ⊢ wp frame (wpE (defs₀ (F := F)) Variants.none c none) Set.univ (bodyAt m t) (fun _ => bodyPost m c t) := by
  unfold bodyPre bodyPost
  simp only [before_0, before_1, before_2, before_3, before_4, after_0, after_1, after_2, after_3, after_4]
  rw [out_second m c t h]
  rw [show (dats m 0 c).Φ t.castSucc = iprop(tbl (F := F) c (tab m c) ∗ (∃ r, prngReg c r) ∗ Between m c (t.val / 2)) from by
      show Phi m c t.val = _; unfold Phi; rw [if_neg (by omega)],
    show (dats m 0 c).Φ t.succ = iprop(tbl (F := F) c (tab m c) ∗ (∃ r, prngReg c r) ∗ Before m c (t.val / 2 + 1)) from by
      show Phi m c (t.val + 1) = _; unfold Phi; rw [if_pos (by omega), show (t.val + 1) / 2 = t.val / 2 + 1 by omega]]
  rw [show (dats m 0 c).owesAt () t.succ = (dats m 0 c).owesAt () t.castSucc from rfl]
  unfold Before Between
  iintro ⟨⟨HT, HP, HG, HX, HA⟩, HO, ⟨%d0, H0⟩, ⟨%d1, H1⟩, ⟨%d2, H2⟩, ⟨%d3, H3⟩, ⟨%d4, H4⟩, ⟨%d5, H5⟩⟩
  iapply (body1 c (grid0.coords t) _ (hstage0_0 _) _ (hstage0_1 _) _ (hstage0_2 _) _ (hstage0_3 _) _ (hstage0_4 _) _ (hstage0_5 _)
    (fun h' => by have := (cond1_iff t).mp h'; omega) ((cond4_iff t).mpr h) (XB (G (tab m c) (hcB m c) (hlB m c) (t.val / 2))) (part m c (t.val / 2))
    (iblk m c 0 t) (iblk m c 1 t) (iblk m c 2 t) (iblk m c 3 t) (iblk m c 4 t) _)
  isplitl [HX]; · iexact HX
  isplitl [HA]; · iexact HA
  isplitl [H0]; · iexact H0
  isplitl [H1]; · iexact H1
  isplitl [H2]; · iexact H2
  isplitl [H3]; · iexact H3
  isplitl [H4]; · iexact H4
  isplitl [H5]; · iexists _; iexact H5
  iintro ⟨HX, HA, H0, H1, H2, H3, H4, H5⟩
  isplitl [HT HP HG HX HA]
  · isplitl [HT]; · iexact HT
    isplitl [HP]; · iexact HP
    isplitl [HG]; · iexact HG
    isplitl [HX]; · iexists _; iexact HX
    iexact HA
  isplitl [HO]; · iexact HO
  isplitl [H0]; · iexact H0
  isplitl [H1]; · iexact H1
  isplitl [H2]; · iexact H2
  isplitl [H3]; · iexact H3
  isplitl [H4]; · iexact H4
  iexact H5

include hT in
/-- The body at every point. -/
theorem body_obligation (c : Dev nD) : BodyObligation (dats (F := F) m 0 c) (defs₀ (F := F)) Variants.none () Set.univ := fun t => by
  rw [bigSep_W0, bigSep_W0, defs₀_row]
  exact triple_restated ((Nat.mod_two_eq_zero_or_one t.val).elim (first m hT c t) (second m c t)) rfl .rfl fun _ => .rfl

end Cert.Kernel2.Ffn
end
-- ==== Proof.FfnLaunch.lean ====
/- The routed experts: the launch, the frame, and the array that the run leaves. -/
module

public import proofs.«01_k».proof.Proof.FfnRun
public import Idealize.ShloMosaic.Lib.Pipeline.FrameBody
public import Idealize.ShloMosaic.Lib.Claim

@[expose] public section

noncomputable section

namespace Cert.Kernel2.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2 Cert.Kernel2.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own semaphore. -/
abbrev osem : Unit → SemLoc sig := fun _ => .dma gsem

/-- The arrays that the kernel reads by its own transfers. -/
abbrev HBMs : Finset (Ref sig .tc) := {main_arg1, main_arg2}

theorem osem_facts : Pipeline.OwnSemFacts spec0 osem := by decide

theorem hbm_sub : HBMs ⊆ Pipeline.restRefsP sig pre0 spec0 := by decide

theorem own_eq (c : Dev nD) :
    (Pipeline.ownSems0 (Ix := Unit) (Name := ℕ) (U := Pipeline.UD sig nD τ) (Lvl := ℕ) (Val := Elt F) (τ := τ) osem c : sProp 𝕄) = sem0 c :=
  Pipeline.ownSems0_eq_of_list c osem [()] (by decide) (by decide)

theorem hbm_eq (c : Dev nD) :
    (bigSep HBMs fun b => ((c.tc : Thread nD τ).loc b) ↦{fullShare} V m c b : sProp 𝕄) = srcs c (hcB m c) (hlB m c) := by
  unfold HBMs
  rw [bigSep_insert (by decide), bigSep_singleton]
  rfl

theorem tbl_eq (c : Dev nD) :
    (Pipeline.ΦT (U := Pipeline.UD sig nD τ) pre0 (adm m).1 c : sProp 𝕄) = tbl (F := F) c (tab m c) := by
  obtain rfl : c = 0 := Subsingleton.elim _ _
  unfold Pipeline.ΦT Pipeline.prefHeld
  exact bigSep_univ_eq_bigSepL [(0 : Fin 1)] (by decide) (by decide) _

theorem phi_in (c : Dev nD) :
    iprop(Pipeline.ΦD osem spec0 HBMs (V m) c ∗ Pipeline.ΦT pre0 (adm m).1 c) ⊢ Phi m c 0 := by
  rw [Pipeline.ΦD_eq, scopedRest0_eq, own_eq, hbm_eq, tbl_eq]
  unfold Phi Before Gath
  rw [if_pos rfl, if_neg (by decide)]
  iintro ⟨⟨⟨HX, HB, HA⟩, HP, HS, HH⟩, HT⟩
  icases HX with ⟨%f, HX⟩
  isplitl [HT]; · iexact HT
  isplitl [HP]; · iexact HP
  isplitl [HX HS HH]
  · iexists f
    unfold Free
    isplitl [HX]; · iexact HX
    isplitl [HH]; · iexact HH
    iexact HS
  isplitl [HB]; · iexact HB
  iexact HA

theorem phi_out (c : Dev nD) : Phi m c 32 ⊢ Pipeline.ΦD osem spec0 HBMs (V m) c := by
  rw [Pipeline.ΦD_eq, scopedRest0_eq, own_eq, hbm_eq]
  unfold Phi Before Gath
  rw [if_pos rfl, if_neg (by decide)]
  iintro ⟨-, HP, ⟨%f, HF⟩, HB, HA⟩
  unfold Free
  icases HF with ⟨HX, HH, HS⟩
  isplitl [HX HB HA]
  · isplitl [HX]; · iexists f; iexact HX
    isplitl [HB]; · iexact HB
    iexact HA
  isplitl [HP]; · iexact HP
  isplitl [HS]; · iexact HS
  iexact HH

variable (hT : ∀ c j, (tab m c j).toNat < 4096)

set_option backward.isDefEq.respectTransparency.types false in
set_option maxHeartbeats 800000 in
include hT in
/-- The launch. -/
theorem run_quiescent : θ_run defs (onTc (τ := τ) (main (F := F))) (s₀ m ρ)
    (fun r => Pipeline.FramePost (Pipeline.pin (pcfgs (F := F)) fun _ => adm m) (dats m) 0 (V m) r ∧ r.2.sem = fun _ => 0) :=
  Pipeline.θ_run_frameP_dma (Q' := _) (pcfgs (F := F)) (fun _ => adm m) (dats m) (0 : Fin 1) launch0 osem defs₀ Variants.none
    osem_facts HBMs hbm_sub m ρ main
    (hbody := fun c => (body_obligation m hT c).loose) (hshare := fun c => (dats m 0 c).share_full fun _ => rfl)
    (howed := fun _ _ => rfl) (V := V m)
    (hmain := Pipeline.hmainP_region (pcfgs (F := F)) 0 defs₀ Variants.none m main fun c => (main_chain c).trans rfl)
    (hA := A_eq m)
    (hpf := fun c k => by
      obtain rfl : c = 0 := Subsingleton.elim _ _
      match k with
      | ⟨0, _⟩ => rfl)
    (hin := phi_in m) (hout := phi_out m)

theorem kept0 : main_arg0 ∈ Pipeline.restRefs sig spec0 := by decide
theorem kept1 : main_arg1 ∈ Pipeline.restRefs sig spec0 := by decide
theorem kept2 : main_arg2 ∈ Pipeline.restRefs sig spec0 := by decide

include hT in
/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c).2 main_arg0 kept0, (h.1 c).2 main_arg1 kept1, (h.1 c).2 main_arg2 kept2,
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4))⟩, h.2⟩) (run_quiescent m ρ hT)

end Cert.Kernel2.Ffn
end
-- ==== Proof.FfnBlocks.lean ====
/- What the pipeline's blocks of the routed experts hold, element by element. -/
module

public import proofs.«01_k».proof.Proof.FfnLaunch
public import Idealize.ShloMosaic.Lib.Pipeline.ValueKit

@[expose] public section

set_option maxRecDepth 16384

noncomputable section

namespace Cert.Kernel2.Ffn

open Idealize.ShloMosaic Idealize.ShloMosaic.TcCoe Idealize.SL.Sem
open Cert.Kernel2 Cert.Kernel2.Gen

variable {F : FTy → Type} [FloatOps F]
variable (m : (ℓ : Loc nD τ sig) → Buf (Elt F) ℓ)

/-! ## The index maps -/

theorem ix_gates : ∀ t : Fin grid0.N, cc0_transform_2 (grid0.coords t) = ![t.val / 2, 0, 0] ∧ cc0_transform_3 (grid0.coords t) = ![t.val / 2, 0, 0] := by
  decide +kernel
theorem ix_up : ∀ t : Fin grid0.N, cc0_transform_4 (grid0.coords t) = ![16 + t.val / 2, 0, t.val % 2]
    ∧ cc0_transform_5 (grid0.coords t) = ![16 + t.val / 2, 0, t.val % 2] := by
  decide +kernel
theorem ix_down : ∀ t : Fin grid0.N, cc0_transform_6 (grid0.coords t) = ![16 + t.val / 2, t.val % 2, 0] := by
  decide +kernel
theorem ix_out : ∀ t : Fin grid0.N, cc0_transform_7 (grid0.coords t) = ![t.val / 2, 0, 0] := by
  decide +kernel

theorem index_0 (t : Fin (cfgA m).N) : ((cfgA m).win 0).index t = ![t.val / 2, 0, 0] := (ix_gates t).1
theorem index_1 (t : Fin (cfgA m).N) : ((cfgA m).win 1).index t = ![t.val / 2, 0, 0] := (ix_gates t).2
theorem index_2 (t : Fin (cfgA m).N) : ((cfgA m).win 2).index t = ![16 + t.val / 2, 0, t.val % 2] := (ix_up t).1
theorem index_3 (t : Fin (cfgA m).N) : ((cfgA m).win 3).index t = ![16 + t.val / 2, 0, t.val % 2] := (ix_up t).2
theorem index_4 (t : Fin (cfgA m).N) : ((cfgA m).win 4).index t = ![16 + t.val / 2, t.val % 2, 0] := ix_down t
theorem index_5 (t : Fin (cfgA m).N) : ((cfgA m).win 5).index t = ![t.val / 2, 0, 0] := ix_out t

/-! ## The blocks -/

variable (c : Dev nD)

theorem blk_0 (t : Fin (cfgA m).N) (e : Fin 16) (he : t.val / 2 = e) (r : Fin 512) (l : Fin 128) :
    iblk m c 0 t (ix3 0 r l) = m ((c : Thread nD τ).loc main_arg3) (ix3 e r l) := by
  blk_point [iblk, V, index_0 m t]

theorem blk_1 (t : Fin (cfgA m).N) (e : Fin 16) (he : t.val / 2 = e) (r : Fin 512) (l : Fin 128) :
    iblk m c 1 t (ix3 0 r l) = m ((c : Thread nD τ).loc main_arg4) (ix3 e r l) := by
  blk_point [iblk, V, index_1 m t]

/-- The gate projection's block: half `f` of expert `e`'s columns. -/
theorem blk_2 (t : Fin (cfgA m).N) (e : Fin 16) (f : Fin 2) (he : t.val / 2 = e) (hf : t.val % 2 = f) (k n : Fin 1024) :
    iblk m c 2 t (ix3 0 k n) = m ((c : Thread nD τ).loc main_arg5) (ix3 ⟨16 + e, by omega⟩ k ⟨1024 * f + n, by omega⟩) := by
  blk_point [iblk, V, index_2 m t]

/-- The up projection's block. -/
theorem blk_3 (t : Fin (cfgA m).N) (e : Fin 16) (f : Fin 2) (he : t.val / 2 = e) (hf : t.val % 2 = f) (k n : Fin 1024) :
    iblk m c 3 t (ix3 0 k n) = m ((c : Thread nD τ).loc main_arg6) (ix3 ⟨16 + e, by omega⟩ k ⟨1024 * f + n, by omega⟩) := by
  blk_point [iblk, V, index_3 m t]

/-- The down projection's block: half `f` of expert `e`'s rows. -/
theorem blk_4 (t : Fin (cfgA m).N) (e : Fin 16) (f : Fin 2) (he : t.val / 2 = e) (hf : t.val % 2 = f) (n d : Fin 1024) :
    iblk m c 4 t (ix3 0 n d) = m ((c : Thread nD τ).loc main_arg7) (ix3 ⟨16 + e, by omega⟩ ⟨1024 * f + n, by omega⟩ d) := by
  blk_point [iblk, V, index_4 m t]

/-- Where an element of the result's block lies in the result. -/
theorem emb_5 (t : Fin (cfgA m).N) (e : Fin 16) (he : t.val / 2 = e) (r d : Fin 1024) :
    (((cfgA m).win 5).blk t).view.emb (ix3 0 r d) = (ix3 e r d : S16x1024x1024.Idx) := by
  blk_point [index_5 m t]

end Cert.Kernel2.Ffn
-- ==== Proof.FfnSum.lean ====
/- Sums of the routed experts: one hidden unit, a row's gate, the hidden units in groups of 256. -/
module

public import Idealize.ShloMosaic.PureOps.Ideal
public import Idealize.ShloMosaic.Lib.Pointwise
public import Idealize.ShloMosaic.Lib.Pipeline.ValueKit

@[expose] public section

noncomputable section

namespace Cert.FfnSum

open Idealize.ShloMosaic

/-- One hidden unit: the gated product `silu z * w`. -/
def act (z w : EReal) : EReal := z * Ideal.div 1 (1 + Ideal.exp (-z)) * w

/-- A sum over 2048 hidden units, in two tiles of four groups of 256. -/
theorem sum_groups (t : ℕ → EReal) :
    (∑ n : Fin 2048, t n)
      = 0 + (∑ j : Fin 256, t j) + (∑ j : Fin 256, t (256 + j)) + (∑ j : Fin 256, t (512 + j)) + (∑ j : Fin 256, t (768 + j))
        + (∑ j : Fin 256, t (1024 + j)) + (∑ j : Fin 256, t (1280 + j)) + (∑ j : Fin 256, t (1536 + j)) + (∑ j : Fin 256, t (1792 + j)) := by
  rw [Fin.sum_univ_eq_sum_range t 2048, Fin.sum_univ_eq_sum_range t 256]
  rw [Fin.sum_univ_eq_sum_range (fun j => t (256 + j)) 256, Fin.sum_univ_eq_sum_range (fun j => t (512 + j)) 256,
    Fin.sum_univ_eq_sum_range (fun j => t (768 + j)) 256, Fin.sum_univ_eq_sum_range (fun j => t (1024 + j)) 256,
    Fin.sum_univ_eq_sum_range (fun j => t (1280 + j)) 256, Fin.sum_univ_eq_sum_range (fun j => t (1536 + j)) 256,
    Fin.sum_univ_eq_sum_range (fun j => t (1792 + j)) 256, zero_add]
  rw [show (2048 : ℕ) = 1792 + 256 from rfl, Finset.sum_range_add, show (1792 : ℕ) = 1536 + 256 from rfl, Finset.sum_range_add,
    show (1536 : ℕ) = 1280 + 256 from rfl, Finset.sum_range_add, show (1280 : ℕ) = 1024 + 256 from rfl, Finset.sum_range_add,
    show (1024 : ℕ) = 768 + 256 from rfl, Finset.sum_range_add, show (768 : ℕ) = 512 + 256 from rfl, Finset.sum_range_add,
    show (512 : ℕ) = 256 + 256 from rfl, Finset.sum_range_add]

/-- The lanes of expert `e` among a row's 128. -/
theorem sum_lanes (e : Fin 16) (p : Fin 128 → EReal) :
    (∑ l : Fin 128, if (l : ℕ) = 32 + e ∨ (l : ℕ) = 48 + e ∨ (l : ℕ) = 64 + e then p l else 0)
      = p ⟨32 + e, by omega⟩ + p ⟨48 + e, by omega⟩ + p ⟨64 + e, by omega⟩ := by
  have h : ∀ l : Fin 128, (if (l : ℕ) = 32 + e ∨ (l : ℕ) = 48 + e ∨ (l : ℕ) = 64 + e then p l else 0)
      = (if l = ⟨32 + e, by omega⟩ then p l else 0) + (if l = ⟨48 + e, by omega⟩ then p l else 0) + (if l = ⟨64 + e, by omega⟩ then p l else 0) := by
    intro l
    simp only [Fin.ext_iff]
    by_cases h1 : (l : ℕ) = 32 + e
    · have h2 : (l : ℕ) ≠ 48 + e := by omega
      have h3 : (l : ℕ) ≠ 64 + e := by omega
      simp [h1]
    · by_cases h2 : (l : ℕ) = 48 + e
      · have h3 : (l : ℕ) ≠ 64 + e := by omega
        simp [h2]
      · by_cases h3 : (l : ℕ) = 64 + e <;> simp [h1, h2, h3]
  rw [Finset.sum_congr rfl fun l _ => h l]
  simp only [Finset.sum_add_distrib, Finset.sum_ite_eq', Finset.mem_univ, if_true]

/-- A sum over the experts of the term of expert `e`. -/
theorem sum_one (e : Fin 16) (p : Fin 16 → EReal) : (∑ k : Fin 16, if e = k then p k else 0) = p e := by
  simp only [Finset.sum_ite_eq, Finset.mem_univ, if_true]

end Cert.FfnSum

end
-- ==== Proof.FfnPay.lean ====
/- What the payloads of the routed experts compute, element by element, over the extended reals. -/
module

public import proofs.«01_k».proof.Proof.FfnStrips
public import proofs.«01_k».proof.Proof.FfnSum
public import Idealize.ShloMosaic.Lib.Pipeline.ValueKit
public import Idealize.ShloMosaic.Lib.Pointwise

@[expose] public section

noncomputable section

namespace Cert.Kernel2.Ffn

open Idealize.ShloMosaic Idealize.SL.Sem Cert.Kernel2 Cert.Kernel2.Gen Cert.FfnSum

/-- A group of 256 hidden units added to an accumulator. -/
def group (X : FVec Ideal S1024x1024 .bf16) (g u : FVec Ideal S1x1024x256 .f32) (A : FVec Ideal S1024x1024 .f32) (d : FVec Ideal S1x256x1024 .f32)
    (r c : Fin 1024) : EReal :=
  A (ix2 r c) + ∑ j : Fin 256, act (∑ k : Fin 1024, X (ix2 r k) * g (ix3 0 k j)) (∑ k : Fin 1024, X (ix2 r k) * u (ix3 0 k j)) * d (ix3 0 j c)

variable (X : FVec Ideal S1024x1024 .bf16) (g u : FVec Ideal S1x1024x256 .f32) (A : FVec Ideal S1024x1024 .f32) (d : FVec Ideal S1x256x1024 .f32)
    (r c : Fin 1024)

theorem group_12 : k0_pay12 (F := Ideal) X g u A d (ix2 r c) = group X g u A d r c := by
  unfold group act
  pointwise [k0_pay12]
  simp only [sub_eq_add_neg, zero_add]

theorem group_13 : k0_pay13 (F := Ideal) X g u A d (ix2 r c) = group X g u A d r c := by
  unfold group act
  pointwise [k0_pay13]
  simp only [sub_eq_add_neg, zero_add]

theorem group_16 : k0_pay16 (F := Ideal) X (k0_pay14 (F := Ideal) X g) (k0_pay15 (F := Ideal) u) (constant S1024x256 .f32 0x00000000#32) A d (ix2 r c)
    = group X g u A d r c := by
  unfold group act
  pointwise [k0_pay16, k0_pay14, k0_pay15]
  simp only [sub_eq_add_neg, zero_add]

theorem group_1 : k0_pay1 (F := Ideal) (k0_pay17 (F := Ideal) X g u) A d (ix2 r c) = group X g u A d r c := by
  unfold group act
  pointwise [k0_pay1, k0_pay17]
  simp only [sub_eq_add_neg, zero_add]

/-- The term of hidden unit `n` of a tile. -/
def unit (X : FVec Ideal S1024x1024 .bf16) (g u d : FVec Ideal S1x1024x1024 .f32) (r c n : Fin 1024) : EReal :=
  act (∑ k : Fin 1024, X (ix2 r k) * g (ix3 0 k n)) (∑ k : Fin 1024, X (ix2 r k) * u (ix3 0 k n)) * d (ix3 0 n c)

/-- One tile of 1024 hidden units, added to an accumulator. -/
theorem step_at (X : FVec Ideal S1024x1024 .bf16) (g u d : FVec Ideal S1x1024x1024 .f32) (A : FVec Ideal S1024x1024 .f32) (r c : Fin 1024) :
    step (F := Ideal) X g u d A (ix2 r c)
      = A (ix2 r c) + (∑ j : Fin 256, unit X g u d r c ⟨j, by omega⟩) + (∑ j : Fin 256, unit X g u d r c ⟨256 + j, by omega⟩)
        + (∑ j : Fin 256, unit X g u d r c ⟨512 + j, by omega⟩) + (∑ j : Fin 256, unit X g u d r c ⟨768 + j, by omega⟩) := by
  unfold step
  refine (group_1 _ _ _ _ _ r c).trans ?_
  unfold group
  refine congrArg₂ (· + ·) ?_ ?_
  · unfold s3
    refine (group_16 _ _ _ _ _ r c).trans ?_
    unfold group
    refine congrArg₂ (· + ·) ?_ ?_
    · unfold s2
      refine (group_13 _ _ _ _ _ r c).trans ?_
      unfold group
      refine congrArg₂ (· + ·) ?_ ?_
      · unfold s1
        refine (group_12 _ _ _ _ _ r c).trans ?_
        unfold group unit
        pointwise
      · unfold unit
        pointwise
    · unfold unit
      pointwise
  · unfold unit
    pointwise

/-- The operand of the products: row `r` is eight rows of the buffer. -/
theorem XB_at (f : FVec Ideal S8192x128 .f32) (r k : Fin 1024) :
    XB (F := Ideal) f (ix2 r k) = f (ix2 ⟨8 * r + (k : ℕ) / 128, by omega⟩ ⟨(k : ℕ) % 128, by omega⟩) := by
  unfold XB
  pointwise [k0_pay3]
  refine congrArg f (funext fun a => ?_)
  match a with
  | 0 => rfl
  | 1 => rfl

/-- The accumulator starts at zero. -/
theorem zeros_at (r c : Fin 1024) : k0_pay11 (F := Ideal) (ix2 r c) = (0 : EReal) := by
  pointwise [k0_pay11]

/-- A row's gate for expert `e`. -/
def gate (p : FVec Ideal S1x512x128 .f32) (e : Fin 16) (r : Fin 512) : EReal :=
  p (ix3 0 r ⟨32 + e, by omega⟩) + p (ix3 0 r ⟨48 + e, by omega⟩) + p (ix3 0 r ⟨64 + e, by omega⟩)

/-- The lanes the gate selects. -/
theorem lane (e : Fin 16) (l : Fin 128) :
    IntOp.ori (IntOp.ori (IntOp.cmpi CmpIPredicate.eq (BitVec.ofNat 32 l.val) (Scalar.addi (32#32) (BitVec.ofNat 32 e.val)))
        (IntOp.cmpi CmpIPredicate.eq (BitVec.ofNat 32 l.val) (Scalar.addi (48#32) (BitVec.ofNat 32 e.val))))
      (IntOp.cmpi CmpIPredicate.eq (BitVec.ofNat 32 l.val) (Scalar.addi (64#32) (BitVec.ofNat 32 e.val)))
      = if (l : ℕ) = 32 + e ∨ (l : ℕ) = 48 + e ∨ (l : ℕ) = 64 + e then 1#1 else 0#1 := by
  revert e l
  decide +kernel

/-- The lane sum of a row is its gate. -/
theorem lanes_sum (e : Fin 16) (p : Fin 128 → EReal) :
    (∑ l : Fin 128, Scalar.select (IntOp.ori (IntOp.ori (IntOp.cmpi CmpIPredicate.eq (BitVec.ofNat 32 l.val) (Scalar.addi (32#32) (BitVec.ofNat 32 e.val)))
        (IntOp.cmpi CmpIPredicate.eq (BitVec.ofNat 32 l.val) (Scalar.addi (48#32) (BitVec.ofNat 32 e.val))))
      (IntOp.cmpi CmpIPredicate.eq (BitVec.ofNat 32 l.val) (Scalar.addi (64#32) (BitVec.ofNat 32 e.val)))) (p l) 0)
      = p ⟨32 + e, by omega⟩ + p ⟨48 + e, by omega⟩ + p ⟨64 + e, by omega⟩ := by
  rw [← sum_lanes e p]
  refine Finset.sum_congr rfl fun l _ => ?_
  rw [lane]
  split
  · rfl
  · rfl

/-- What is stored of a context row. -/
theorem out_ctx (e : Fin 16) (p q : FVec Ideal S1x512x128 .f32) (A : FVec Ideal S1024x1024 .f32) (r : Fin 512) (r' c : Fin 1024) (hr : (r' : ℕ) = r) :
    k0_pay2 (F := Ideal) (BitVec.ofNat 32 e.val) p q A (ix3 0 r' c) = A (ix2 r' c) * gate p e r := by
  have hlt : (r' : ℕ) < 512 := by omega
  have er : (⟨(r' : ℕ), hlt⟩ : Fin 512) = r := Fin.ext hr
  unfold gate
  pointwise [k0_pay2]
  rw [dif_pos hlt, er, lanes_sum e fun l => p (ix3 0 r l)]

/-- What is stored of a latent token's row. -/
theorem out_lat (e : Fin 16) (p q : FVec Ideal S1x512x128 .f32) (A : FVec Ideal S1024x1024 .f32) (r : Fin 512) (r' c : Fin 1024) (hr : (r' : ℕ) = 512 + r) :
    k0_pay2 (F := Ideal) (BitVec.ofNat 32 e.val) p q A (ix3 0 r' c) = A (ix2 r' c) * gate q e r := by
  have hlt : ¬ (r' : ℕ) < 512 := by omega
  have er : (⟨(r' : ℕ) - 512, by omega⟩ : Fin 512) = r := Fin.ext (by dsimp only; omega)
  unfold gate
  pointwise [k0_pay2]
  rw [dif_neg hlt, er, lanes_sum e fun l => q (ix3 0 r l)]

end Cert.Kernel2.Ffn

end
-- ==== Proof.FfnRef.lean ====
/- What the reference of the routed experts computes, element by element. -/
module

public import proofs.«01_k».proof.Proof.Gen.Reference2Ideal.Read
public import proofs.«01_k».proof.Proof.FfnSum
public import Idealize.ShloMosaic.Lib.Pipeline.ValueKit
public import Idealize.ShloMosaic.Lib.Pointwise

@[expose] public section

set_option maxRecDepth 16384

noncomputable section

namespace Cert.Reference2Ideal.FfnRef

open Cert.Reference2Ideal Cert.Reference2Ideal.Gen Cert.Reference2Ideal.Read Cert.FfnSum
open Idealize.ShloMosaic Idealize.ShloMosaic.TcCoe Idealize.SL.Sem

/-- Rows taken from a matrix: the row that the index names (signed, clamped into range). -/
theorem take_rows (x : FVec Ideal S4096x1024 .f32) (idx : IVec S16x512x1 32) (e : Fin 16) (r : Fin 512) (k : Fin 1024) :
    Host.gather gather_S4096x1024_S16x512x1_S16x512x1024_2_0_n_n_0_2_11024 x idx (ix3 e r k)
      = x (ix2 ⟨min (idx (ix3 e r 0)).toInt.toNat 4095, by omega⟩ k) := by
  unfold Host.gather
  refine congrArg x (funext fun a => Fin.ext ?_)
  change GatherDims.start _ _ idx a + GatherDims.batchCoord _ _ a + GatherDims.offCoord _ _ a = _
  rw [GatherDims.batchCoord_eq_zero _ _ _ (by intro h; cases h), Nat.add_zero]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (by decide), Nat.add_zero]
    unfold GatherDims.start
    rw [dif_pos (show (0 : Fin S4096x1024.rank) ∈ gather_S4096x1024_S16x512x1_S16x512x1024_2_0_n_n_0_2_11024.startIndexMap from List.mem_singleton.mpr rfl)]
    refine congrArg (fun i => min (idx i).toInt.toNat 4095) (funext fun b => Fin.ext ?_)
    match b with
    | ⟨0, _⟩ => rfl
    | ⟨1, _⟩ => rfl
    | ⟨2, _⟩ => rfl
  · unfold GatherDims.start
    rw [dif_neg (show ¬ (1 : Fin S4096x1024.rank) ∈ gather_S4096x1024_S16x512x1_S16x512x1024_2_0_n_n_0_2_11024.startIndexMap by decide), Nat.zero_add]
    unfold GatherDims.offCoord
    rw [dif_pos (by decide)]
    rfl

variable (x0 : IVec S16384 32) (x1 x2 : FVec Ideal S32768x128 .f32) (x3 x4 : FVec Ideal S16x512x128 .f32)
    (x5 x6 : FVec Ideal S64x1024x2048 .f32) (x7 : FVec Ideal S64x2048x1024 .f32)

/-- One of the 4096 rows, of 1024 columns, of an activation array that is kept as rows of 128. -/
def rowAt (h : FVec Ideal S32768x128 .f32) (R : Fin 4096) (k : Fin 1024) : EReal :=
  h (ix2 ⟨8 * R + (k : ℕ) / 128, by omega⟩ ⟨(k : ℕ) % 128, by omega⟩)

/-- A word below 4096 is the row it names. -/
theorem clamp (v : BitVec 32) (h : v.toNat < 4096) : min v.toInt.toNat 4095 = v.toNat := by
  have e : v.toInt = v.toNat := by
    rw [BitVec.toInt_eq_toNat_cond, if_pos (by omega)]
  rw [e, Int.toNat_natCast]
  omega

/-- The row of the context that slot `r` of expert `e` takes. -/
theorem row_ctx (e : Fin 16) (r : Fin 512) (k : Fin 1024) (h : (x0 (ix1 ⟨1024 * e + r, by omega⟩)).toNat < 4096) :
    val_main_v30 (F := Ideal) x0 x1 (ix3 e r k) = rowAt x1 ⟨(x0 (ix1 ⟨1024 * e + r, by omega⟩)).toNat, h⟩ k := by
  unfold val_main_v30
  rw [take_rows]
  have e1 : val_main_call3_v0 (F := Ideal) x0 (ix3 e r 0) = x0 (ix1 ⟨1024 * e + r, by omega⟩) := by
    rw [val_main_call3_v0_apply, val_main_v9_apply, val_main_v8_apply, val_main_v0_apply]
    refine congrArg x0 ?_
    blk_ext
  unfold rowAt
  rw [val_main_v29_apply]
  refine congrArg x1 ?_
  have hc : min (val_main_call3_v0 (F := Ideal) x0 (ix3 e r 0)).toInt.toNat 4095 = (x0 (ix1 ⟨1024 * e + r, by omega⟩)).toNat := by
    rw [e1]; exact clamp _ h
  funext a
  refine Fin.ext ?_
  match a with
  | ⟨0, _⟩ =>
    show (min _ 4095 * 1024 + (k : ℕ)) / 128 = 8 * (x0 (ix1 ⟨1024 * e + r, by omega⟩)).toNat + (k : ℕ) / 128
    rw [hc]; omega
  | ⟨1, _⟩ =>
    show (min _ 4095 * 1024 + (k : ℕ)) % 128 = (k : ℕ) % 128
    rw [hc]; omega

/-- The row of the latent tokens that slot `r` of expert `e` takes. -/
theorem row_lat (e : Fin 16) (r : Fin 512) (k : Fin 1024) (h : (x0 (ix1 ⟨1024 * e + 512 + r, by omega⟩)).toNat < 4096) :
    val_main_v64 (F := Ideal) x0 x2 (ix3 e r k) = rowAt x2 ⟨(x0 (ix1 ⟨1024 * e + 512 + r, by omega⟩)).toNat, h⟩ k := by
  unfold val_main_v64
  rw [take_rows]
  have e1 : val_main_call8_v0 (F := Ideal) x0 (ix3 e r 0) = x0 (ix1 ⟨1024 * e + 512 + r, by omega⟩) := by
    rw [val_main_call8_v0_apply, val_main_v43_apply, val_main_v42_apply, val_main_v0_apply]
    refine congrArg x0 ?_
    blk_ext
  unfold rowAt
  rw [val_main_v63_apply]
  refine congrArg x2 ?_
  have hc : min (val_main_call8_v0 (F := Ideal) x0 (ix3 e r 0)).toInt.toNat 4095 = (x0 (ix1 ⟨1024 * e + 512 + r, by omega⟩)).toNat := by
    rw [e1]; exact clamp _ h
  funext a
  refine Fin.ext ?_
  match a with
  | ⟨0, _⟩ =>
    show (min _ 4095 * 1024 + (k : ℕ)) / 128 = 8 * (x0 (ix1 ⟨1024 * e + 512 + r, by omega⟩)).toNat + (k : ℕ) / 128
    rw [hc]; omega
  | ⟨1, _⟩ =>
    show (min _ 4095 * 1024 + (k : ℕ)) % 128 = (k : ℕ) % 128
    rw [hc]; omega

theorem eye_word (e k : Fin 16) :
    IntOp.cmpi CmpIPredicate.eq (IntOp.addi (BitVec.ofNat 32 e.val) 0#32) (BitVec.ofNat 32 k.val) = if e = k then 1#1 else 0#1 := by
  revert e k
  decide +kernel

/-- The eye selects expert `e` of expert `e`. -/
theorem eye (e k : Fin 16) : (val_main_v7 (F := Ideal) (ix3 e 0 k) : EReal) = if e = k then 1 else 0 := by
  have h : (val_main_v7 (F := Ideal) (ix3 e 0 k) : EReal) = val_main_v6 (F := Ideal) (ix2 e k) := by
    rw [val_main_v7_apply]
    exact congrArg _ (by blk_ext)
  rw [h, val_main_v6_apply, val_main_v5_apply, val_main_v4_apply, val_main_v3_apply, val_main_v1_apply, val_main_v2_apply, val_main_c_apply]
  refine (congrArg (FloatOps.uitofp (F := Ideal) .f32) (eye_word e k)).trans ?_
  split
  · show (((1#1 : BitVec 1).toNat : ℝ) : EReal) = 1
    simp
  · show (((0#1 : BitVec 1).toNat : ℝ) : EReal) = 0
    simp

/-- The gate of a row for expert `e`: its weights for the expert in three groups of lanes. -/
def gateAt (p : FVec Ideal S16x512x128 .f32) (e : Fin 16) (r : Fin 512) : EReal :=
  p (ix3 e r ⟨32 + e, by omega⟩) + p (ix3 e r ⟨48 + e, by omega⟩) + p (ix3 e r ⟨64 + e, by omega⟩)

/-- A sum over the experts, masked by the eye's row `e`. -/
theorem sum_eye (e : Fin 16) (p : Fin 16 → EReal) :
    (∑ k : Fin 16, if (0 : EReal) < val_main_v7 (F := Ideal) (ix3 e 0 k) then p k else 0) = p e := by
  rw [← sum_one e p]
  refine Finset.sum_congr rfl fun k _ => ?_
  rw [eye]
  by_cases h : e = k <;> simp [h]

/-! The three groups of lanes of a gate, of the context and of the latent tokens. -/

theorem c32 (e : Fin 16) (r : Fin 512) : (val_main_v16 (F := Ideal) x3 (ix2 e r) : EReal) = x3 (ix3 e r ⟨32 + e, by omega⟩) := by
  refine Eq.trans ?_ (sum_eye e fun k => x3 (ix3 e r ⟨32 + k, by omega⟩))
  pointwise [val_main_v16, val_main_v15, val_main_call0_v1, val_main_v14, val_main_v13, val_main_cst, val_main_v10, val_main_call0_v2, val_main_call0_v0,
    val_main_cst_0, val_main_cst_1, id]

theorem c48 (e : Fin 16) (r : Fin 512) : (val_main_v22 (F := Ideal) x3 (ix2 e r) : EReal) = x3 (ix3 e r ⟨48 + e, by omega⟩) := by
  refine Eq.trans ?_ (sum_eye e fun k => x3 (ix3 e r ⟨48 + k, by omega⟩))
  pointwise [val_main_v22, val_main_v21, val_main_call1_v1, val_main_v20, val_main_v19, val_main_cst_3, val_main_v11, val_main_call1_v2, val_main_call1_v0,
    val_main_cst_4, val_main_cst_5, id]

theorem c64 (e : Fin 16) (r : Fin 512) : (val_main_v27 (F := Ideal) x3 (ix2 e r) : EReal) = x3 (ix3 e r ⟨64 + e, by omega⟩) := by
  refine Eq.trans ?_ (sum_eye e fun k => x3 (ix3 e r ⟨64 + k, by omega⟩))
  pointwise [val_main_v27, val_main_v26, val_main_call2_v1, val_main_v25, val_main_v24, val_main_cst_6, val_main_v12, val_main_call2_v2, val_main_call2_v0,
    val_main_cst_7, val_main_cst_8, id]

theorem l32 (e : Fin 16) (r : Fin 512) : (val_main_v50 (F := Ideal) x4 (ix2 e r) : EReal) = x4 (ix3 e r ⟨32 + e, by omega⟩) := by
  refine Eq.trans ?_ (sum_eye e fun k => x4 (ix3 e r ⟨32 + k, by omega⟩))
  pointwise [val_main_v50, val_main_v49, val_main_call5_v1, val_main_v48, val_main_v47, val_main_cst_9, val_main_v44, val_main_call5_v2, val_main_call5_v0,
    val_main_cst_10, val_main_cst_11, id]

theorem l48 (e : Fin 16) (r : Fin 512) : (val_main_v56 (F := Ideal) x4 (ix2 e r) : EReal) = x4 (ix3 e r ⟨48 + e, by omega⟩) := by
  refine Eq.trans ?_ (sum_eye e fun k => x4 (ix3 e r ⟨48 + k, by omega⟩))
  pointwise [val_main_v56, val_main_v55, val_main_call6_v1, val_main_v54, val_main_v53, val_main_cst_13, val_main_v45, val_main_call6_v2, val_main_call6_v0,
    val_main_cst_14, val_main_cst_15, id]

theorem l64 (e : Fin 16) (r : Fin 512) : (val_main_v61 (F := Ideal) x4 (ix2 e r) : EReal) = x4 (ix3 e r ⟨64 + e, by omega⟩) := by
  refine Eq.trans ?_ (sum_eye e fun k => x4 (ix3 e r ⟨64 + k, by omega⟩))
  pointwise [val_main_v61, val_main_v60, val_main_call7_v1, val_main_v59, val_main_v58, val_main_cst_16, val_main_v46, val_main_call7_v2, val_main_call7_v0,
    val_main_cst_17, val_main_cst_18, id]

/-- The context's gate. -/
theorem gate_ctx (e : Fin 16) (r : Fin 512) : (val_main_v28 (F := Ideal) x3 (ix2 e r) : EReal) = gateAt x3 e r := by
  have h : (val_main_v28 (F := Ideal) x3 (ix2 e r) : EReal)
      = val_main_v16 (F := Ideal) x3 (ix2 e r) + val_main_v22 (F := Ideal) x3 (ix2 e r) + val_main_v27 (F := Ideal) x3 (ix2 e r) := by
    pointwise [val_main_v28, val_main_v23, val_main_v18, val_main_v17, val_main_cst_2]
  rw [h, c32, c48, c64]
  rfl

/-- The latent tokens' gate. -/
theorem gate_lat (e : Fin 16) (r : Fin 512) : (val_main_v62 (F := Ideal) x4 (ix2 e r) : EReal) = gateAt x4 e r := by
  have h : (val_main_v62 (F := Ideal) x4 (ix2 e r) : EReal)
      = val_main_v50 (F := Ideal) x4 (ix2 e r) + val_main_v56 (F := Ideal) x4 (ix2 e r) + val_main_v61 (F := Ideal) x4 (ix2 e r) := by
    pointwise [val_main_v62, val_main_v57, val_main_v52, val_main_v51, val_main_cst_12]
  rw [h, l32, l48, l64]
  rfl

/-- Expert `e`'s feed-forward product of one row, at column `c`: its weights are those of the layer's second group of 16 experts. -/
def expert (x5 x6 : FVec Ideal S64x1024x2048 .f32) (x7 : FVec Ideal S64x2048x1024 .f32) (x : Fin 1024 → EReal) (e : Fin 16) (c : Fin 1024) : EReal :=
  ∑ n : Fin 2048, act (∑ k : Fin 1024, x k * x5 (ix3 ⟨16 + e, by omega⟩ k n)) (∑ k : Fin 1024, x k * x6 (ix3 ⟨16 + e, by omega⟩ k n))
    * x7 (ix3 ⟨16 + e, by omega⟩ n c)

theorem ffn_ctx (e : Fin 16) (r : Fin 512) (c : Fin 1024) :
    val_main_v38 (F := Ideal) x0 x1 x5 x6 x7 (ix3 e r c) = expert x5 x6 x7 (fun k => val_main_v30 (F := Ideal) x0 x1 (ix3 e r k)) e c := by
  unfold expert act
  pointwise [val_main_v38, val_main_v36, val_main_v33, val_main_call4_v5, val_main_call4_v4, val_main_call4_cst_0, val_main_call4_v3,
    val_main_call4_v2, val_main_call4_cst, val_main_call4_v1, val_main_call4_v0, val_main_v32, val_main_v31, val_main_v35, val_main_v34, val_main_v37]

theorem ffn_lat (e : Fin 16) (r : Fin 512) (c : Fin 1024) :
    val_main_v72 (F := Ideal) x0 x2 x5 x6 x7 (ix3 e r c) = expert x5 x6 x7 (fun k => val_main_v64 (F := Ideal) x0 x2 (ix3 e r k)) e c := by
  unfold expert act
  pointwise [val_main_v72, val_main_v70, val_main_v67, val_main_call9_v5, val_main_call9_v4, val_main_call9_cst_0, val_main_call9_v3,
    val_main_call9_v2, val_main_call9_cst, val_main_call9_v1, val_main_call9_v0, val_main_v66, val_main_v65, val_main_v69, val_main_v68, val_main_v71]

/-- The reference at a row of the context. -/
theorem out_ctx (e : Fin 16) (r' c : Fin 1024) (r : Fin 512) (hr : (r' : ℕ) = r) (h : (x0 (ix1 ⟨1024 * e + r, by omega⟩)).toNat < 4096) :
    val_main_v77 (F := Ideal) x0 x1 x2 x3 x4 x5 x6 x7 (ix3 e r' c)
      = expert x5 x6 x7 (rowAt x1 ⟨(x0 (ix1 ⟨1024 * e + r, by omega⟩)).toNat, h⟩) e c * gateAt x3 e r := by
  have hlt : (r' : ℕ) < 512 := by omega
  have er : (⟨(r' : ℕ), hlt⟩ : Fin 512) = r := Fin.ext hr
  have e1 : val_main_v77 (F := Ideal) x0 x1 x2 x3 x4 x5 x6 x7 (ix3 e r' c)
      = val_main_v38 (F := Ideal) x0 x1 x5 x6 x7 (ix3 e r c) * val_main_v28 (F := Ideal) x3 (ix2 e r) := by
    pointwise [val_main_v77, val_main_v76, val_main_v41, val_main_v40, val_main_v39]
    rw [dif_pos hlt, er]
  rw [e1, gate_ctx, ffn_ctx]
  refine congrArg (fun x => expert x5 x6 x7 x e c * gateAt x3 e r) (funext fun k => ?_)
  exact row_ctx x0 x1 e r k h

/-- The reference at a row of the latent tokens. -/
theorem out_lat (e : Fin 16) (r' c : Fin 1024) (r : Fin 512) (hr : (r' : ℕ) = 512 + r) (h : (x0 (ix1 ⟨1024 * e + 512 + r, by omega⟩)).toNat < 4096) :
    val_main_v77 (F := Ideal) x0 x1 x2 x3 x4 x5 x6 x7 (ix3 e r' c)
      = expert x5 x6 x7 (rowAt x2 ⟨(x0 (ix1 ⟨1024 * e + 512 + r, by omega⟩)).toNat, h⟩) e c * gateAt x4 e r := by
  have hlt : ¬ (r' : ℕ) < 512 := by omega
  have er : (⟨(r' : ℕ) - 512, by omega⟩ : Fin 512) = r := Fin.ext (by dsimp only; omega)
  have e1 : val_main_v77 (F := Ideal) x0 x1 x2 x3 x4 x5 x6 x7 (ix3 e r' c)
      = val_main_v72 (F := Ideal) x0 x2 x5 x6 x7 (ix3 e r c) * val_main_v62 (F := Ideal) x4 (ix2 e r) := by
    pointwise [val_main_v77, val_main_v76, val_main_v75, val_main_v74, val_main_v73]
    rw [dif_neg hlt, er]
  rw [e1, gate_lat, ffn_lat]
  refine congrArg (fun x => expert x5 x6 x7 x e c * gateAt x4 e r) (funext fun k => ?_)
  exact row_lat x0 x2 e r k h

end Cert.Reference2Ideal.FfnRef

end
-- ==== Proof.FfnTiles.lean ====
/- An expert's two tiles of hidden units together, and the rows that they read. -/
module

public import proofs.«01_k».proof.Proof.FfnPay
public import proofs.«01_k».proof.Proof.FfnRef

@[expose] public section

set_option maxRecDepth 16384

noncomputable section

namespace Cert.Kernel2.Ffn

open Idealize.ShloMosaic Idealize.ShloMosaic.TcCoe Idealize.SL.Sem
open Cert.Kernel2 Cert.Kernel2.Gen Cert.FfnSum
open Cert.Reference2Ideal.FfnRef (expert rowAt gateAt)

/-- The term of hidden unit `n` (wrapped, so that it is total) in expert `e`'s product of the row `x`, at column `c`. -/
def term (x5 x6 : FVec Ideal S64x1024x2048 .f32) (x7 : FVec Ideal S64x2048x1024 .f32) (x : Fin 1024 → EReal) (e : Fin 16) (c : Fin 1024) (n : ℕ) : EReal :=
  act (∑ k : Fin 1024, x k * x5 (ix3 ⟨16 + e, by omega⟩ k ⟨n % 2048, Nat.mod_lt _ (by decide)⟩))
      (∑ k : Fin 1024, x k * x6 (ix3 ⟨16 + e, by omega⟩ k ⟨n % 2048, Nat.mod_lt _ (by decide)⟩))
    * x7 (ix3 ⟨16 + e, by omega⟩ ⟨n % 2048, Nat.mod_lt _ (by decide)⟩ c)

theorem expert_eq (x5 x6 : FVec Ideal S64x1024x2048 .f32) (x7 : FVec Ideal S64x2048x1024 .f32) (x : Fin 1024 → EReal) (e : Fin 16) (c : Fin 1024) :
    expert x5 x6 x7 x e c = ∑ n : Fin 2048, term x5 x6 x7 x e c n := by
  unfold expert term
  refine Finset.sum_congr rfl fun n _ => ?_
  have hn : (⟨(n : ℕ) % 2048, Nat.mod_lt _ (by decide)⟩ : Fin 2048) = n := Fin.ext (Nat.mod_eq_of_lt n.isLt)
  rw [hn]

/-- The term of a tile's hidden unit is the term of the expert's hidden unit. -/
theorem unit_term (X : FVec Ideal S1024x1024 .bf16) (g u d : FVec Ideal S1x1024x1024 .f32)
    (x5 x6 : FVec Ideal S64x1024x2048 .f32) (x7 : FVec Ideal S64x2048x1024 .f32) (x : Fin 1024 → EReal) (e : Fin 16) (f : Fin 2) (r c : Fin 1024)
    (hx : ∀ k, X (ix2 r k) = x k)
    (hg : ∀ k n : Fin 1024, g (ix3 0 k n) = x5 (ix3 ⟨16 + e, by omega⟩ k ⟨1024 * f + n, by omega⟩))
    (hu : ∀ k n : Fin 1024, u (ix3 0 k n) = x6 (ix3 ⟨16 + e, by omega⟩ k ⟨1024 * f + n, by omega⟩))
    (hd : ∀ n c : Fin 1024, d (ix3 0 n c) = x7 (ix3 ⟨16 + e, by omega⟩ ⟨1024 * f + n, by omega⟩ c))
    (n : Fin 1024) (n' : ℕ) (hn' : n' = 1024 * f + n) : unit X g u d r c n = term x5 x6 x7 x e c n' := by
  have hn : (⟨n' % 2048, Nat.mod_lt _ (by decide)⟩ : Fin 2048) = ⟨1024 * f + n, by omega⟩ := Fin.ext (by dsimp only; omega)
  unfold unit term
  rw [hn, hd]
  simp only [hx, hg, hu]

/-- Both tiles, from zero: the expert's product of the row. -/
theorem two_tiles (X : FVec Ideal S1024x1024 .bf16) (g0 u0 d0 g1 u1 d1 : FVec Ideal S1x1024x1024 .f32)
    (x5 x6 : FVec Ideal S64x1024x2048 .f32) (x7 : FVec Ideal S64x2048x1024 .f32) (x : Fin 1024 → EReal) (e : Fin 16) (r c : Fin 1024)
    (h0 : ∀ (n : Fin 1024) (n' : ℕ), n' = 1024 * (0 : Fin 2) + n → unit X g0 u0 d0 r c n = term x5 x6 x7 x e c n')
    (h1 : ∀ (n : Fin 1024) (n' : ℕ), n' = 1024 * (1 : Fin 2) + n → unit X g1 u1 d1 r c n = term x5 x6 x7 x e c n') :
    step (F := Ideal) X g1 u1 d1 (step (F := Ideal) X g0 u0 d0 (k0_pay11 (F := Ideal))) (ix2 r c) = expert x5 x6 x7 x e c := by
  rw [step_at, step_at, zeros_at, expert_eq, sum_groups]
  have s0 : ∀ (o : ℕ) (ho : o + 256 ≤ 1024), (∑ j : Fin 256, unit X g0 u0 d0 r c ⟨o + j, by omega⟩) = ∑ j : Fin 256, term x5 x6 x7 x e c (o + j) :=
    fun o ho => Finset.sum_congr rfl fun j _ => h0 _ _ (by show o + (j : ℕ) = 1024 * 0 + (o + j); omega)
  have s1 : ∀ (o : ℕ) (ho : o + 256 ≤ 1024), (∑ j : Fin 256, unit X g1 u1 d1 r c ⟨o + j, by omega⟩) = ∑ j : Fin 256, term x5 x6 x7 x e c (1024 + o + j) :=
    fun o ho => Finset.sum_congr rfl fun j _ => h1 _ _ (by show 1024 + o + (j : ℕ) = 1024 * 1 + (o + j); omega)
  have z0 : (∑ j : Fin 256, unit X g0 u0 d0 r c ⟨(j : ℕ), by omega⟩) = ∑ j : Fin 256, term x5 x6 x7 x e c j :=
    Finset.sum_congr rfl fun j _ => h0 _ _ (by show (j : ℕ) = 1024 * 0 + j; omega)
  have z1 : (∑ j : Fin 256, unit X g1 u1 d1 r c ⟨(j : ℕ), by omega⟩) = ∑ j : Fin 256, term x5 x6 x7 x e c (1024 + j) :=
    Finset.sum_congr rfl fun j _ => h1 _ _ (by show 1024 + (j : ℕ) = 1024 * 1 + j; omega)
  rw [z0, z1, s0 256 (by decide), s0 512 (by decide), s0 768 (by decide), s1 256 (by decide), s1 512 (by decide), s1 768 (by decide)]

/-! ## The rows -/

variable (T : IVec S16384 32) (hc hl : FVec Ideal S32768x128 .f32) (e : Fin 16)

/-- A gathered row of the context, 1024 columns wide. -/
theorem row_ctx (r : Fin 512) (r' : Fin 1024) (hr : (r' : ℕ) = r) (h : (T (ix1 ⟨1024 * e + r, by omega⟩)).toNat < 4096) (k : Fin 1024) :
    XB (F := Ideal) (G (F := Ideal) T hc hl e) (ix2 r' k) = rowAt hc ⟨(T (ix1 ⟨1024 * e + r, by omega⟩)).toNat, h⟩ k := by
  rw [XB_at]
  unfold G rowAt
  have e1 : (8 * (r' : ℕ) + (k : ℕ) / 128) / 8 = r := by omega
  have e2 : (8 * (r' : ℕ) + (k : ℕ) / 128) % 8 = (k : ℕ) / 128 := by omega
  have e3 : rowOf T (1024 * e + r) = (T (ix1 ⟨1024 * e + r, by omega⟩)).toNat := by
    have e4 : tIx (1024 * (e : ℕ) + r) = (ix1 ⟨1024 * e + r, by omega⟩ : S16384.Idx) := by
      funext a
      match a with
      | ⟨0, _⟩ => exact Fin.ext (show (1024 * (e : ℕ) + r) % 16384 = 1024 * e + r by omega)
    unfold rowOf
    rw [e4, Nat.mod_eq_of_lt h]
  show (if (8 * (r' : ℕ) + (k : ℕ) / 128) / 8 < 512 then hc else hl)
    (hIx (8 * rowOf T (1024 * e + (8 * (r' : ℕ) + (k : ℕ) / 128) / 8) + (8 * (r' : ℕ) + (k : ℕ) / 128) % 8) ⟨(k : ℕ) % 128, by omega⟩) = _
  rw [e1, e2, e3, if_pos r.isLt]
  refine congrArg hc (funext fun a => ?_)
  match a with
  | ⟨0, _⟩ => exact Fin.ext (Nat.mod_eq_of_lt (by omega))
  | ⟨1, _⟩ => rfl

/-- A gathered row of the latent tokens. -/
theorem row_lat (r : Fin 512) (r' : Fin 1024) (hr : (r' : ℕ) = 512 + r) (h : (T (ix1 ⟨1024 * e + 512 + r, by omega⟩)).toNat < 4096) (k : Fin 1024) :
    XB (F := Ideal) (G (F := Ideal) T hc hl e) (ix2 r' k) = rowAt hl ⟨(T (ix1 ⟨1024 * e + 512 + r, by omega⟩)).toNat, h⟩ k := by
  rw [XB_at]
  unfold G rowAt
  have e1 : (8 * (r' : ℕ) + (k : ℕ) / 128) / 8 = 512 + r := by omega
  have e2 : (8 * (r' : ℕ) + (k : ℕ) / 128) % 8 = (k : ℕ) / 128 := by omega
  have e3 : rowOf T (1024 * e + (512 + r)) = (T (ix1 ⟨1024 * e + 512 + r, by omega⟩)).toNat := by
    have e4 : tIx (1024 * (e : ℕ) + (512 + r)) = (ix1 ⟨1024 * e + 512 + r, by omega⟩ : S16384.Idx) := by
      funext a
      match a with
      | ⟨0, _⟩ => exact Fin.ext (show (1024 * (e : ℕ) + (512 + r)) % 16384 = 1024 * e + 512 + r by omega)
    unfold rowOf
    rw [e4, Nat.mod_eq_of_lt h]
  show (if (8 * (r' : ℕ) + (k : ℕ) / 128) / 8 < 512 then hc else hl)
    (hIx (8 * rowOf T (1024 * e + (8 * (r' : ℕ) + (k : ℕ) / 128) / 8) + (8 * (r' : ℕ) + (k : ℕ) / 128) % 8) ⟨(k : ℕ) % 128, by omega⟩) = _
  rw [e1, e2, e3, if_neg (by omega)]
  refine congrArg hl (funext fun a => ?_)
  match a with
  | ⟨0, _⟩ => exact Fin.ext (Nat.mod_eq_of_lt (by omega))
  | ⟨1, _⟩ => rfl

end Cert.Kernel2.Ffn
-- ==== Proof.FfnFinal.lean ====
/- The result of the routed experts' launch is the reference's. -/
module

public import proofs.«01_k».proof.Proof.FfnBlocks
public import proofs.«01_k».proof.Proof.FfnTiles

@[expose] public section

set_option maxRecDepth 16384

noncomputable section

namespace Cert.Kernel2.Ffn

open Idealize.ShloMosaic Idealize.ShloMosaic.TcCoe Idealize.SL.Sem
open Cert.Kernel2 Cert.Kernel2.Gen
open Cert.Reference2Ideal.FfnRef (expert rowAt gateAt)

variable (m : (ℓ : Loc nD τ sig) → Buf (Elt Ideal) ℓ) (c : Dev nD)

/-- The reference's result, of the launch's arguments. -/
abbrev res : FVec Ideal S16x1024x1024 .bf16 :=
  Cert.Reference2Ideal.Read.val_main_v77 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The accumulator after an expert's second point: the expert's product of the gathered row. -/
theorem acc_at (t : Fin (cfgA m).N) (e : Fin 16) (he : t.val / 2 = e) (ht : t.val % 2 = 1) (x : Fin 1024 → EReal) (r d : Fin 1024)
    (hx : ∀ k, XB (F := Ideal) (G (F := Ideal) (tab m c) (hcB m c) (hlB m c) e) (ix2 r k) = x k) :
    step (F := Ideal) (XB (G (tab m c) (hcB m c) (hlB m c) (t.val / 2))) (iblk m c 2 t) (iblk m c 3 t) (iblk m c 4 t) (part m c (t.val / 2)) (ix2 r d)
      = expert (m ((c : Thread nD τ).loc main_arg5)) (m ((c : Thread nD τ).loc main_arg6)) (m ((c : Thread nD τ).loc main_arg7)) x e d := by
  rw [he]
  unfold part
  have p0 : (pt (2 * (e : ℕ))).val / 2 = e := by show (2 * (e : ℕ)) % 32 / 2 = e; omega
  have p1 : (pt (2 * (e : ℕ))).val % 2 = (0 : Fin 2) := by show (2 * (e : ℕ)) % 32 % 2 = 0; omega
  refine two_tiles _ _ _ _ _ _ _ _ _ _ x e r d (fun n n' hn => ?_) (fun n n' hn => ?_)
  · exact unit_term _ _ _ _ _ _ _ x e 0 r d hx (blk_2 m c _ e 0 p0 p1) (blk_3 m c _ e 0 p0 p1) (blk_4 m c _ e 0 p0 p1) n n' hn
  · exact unit_term _ _ _ _ _ _ _ x e 1 r d hx (blk_2 m c t e 1 he ht) (blk_3 m c t e 1 he ht) (blk_4 m c t e 1 he ht) n n' hn

variable (hT : ∀ c j, (tab m c j).toNat < 4096)

include hT in
/-- What an expert's second point stores is the reference's rows of that expert. -/
theorem out_at (t : Fin (cfgA m).N) (e : Fin 16) (he : t.val / 2 = e) (ht : t.val % 2 = 1) (r' d : Fin 1024) :
    outB m c t (ix3 0 r' d) = res m c (ix3 e r' d) := by
  unfold outB
  rw [coords_e t, he]
  by_cases h : (r' : ℕ) < 512
  · have hr : (r' : ℕ) = (⟨(r' : ℕ), h⟩ : Fin 512) := rfl
    have hw := hT c (ix1 ⟨1024 * e + (⟨(r' : ℕ), h⟩ : Fin 512), by omega⟩)
    refine (out_ctx e _ _ _ ⟨(r' : ℕ), h⟩ r' d hr).trans ?_
    refine Eq.trans ?_ (Cert.Reference2Ideal.FfnRef.out_ctx _ _ _ _ _ _ _ _ e r' d ⟨(r' : ℕ), h⟩ hr hw).symm
    refine congrArg₂ (· * ·) ?_ ?_
    · have := acc_at m c t e he ht _ r' d (row_ctx (tab m c) (hcB m c) (hlB m c) e ⟨(r' : ℕ), h⟩ r' hr hw)
      rw [he] at this
      exact this
    · unfold gate gateAt
      rw [blk_0 m c t e he, blk_0 m c t e he, blk_0 m c t e he]
  · have hr : (r' : ℕ) = 512 + (⟨(r' : ℕ) - 512, by omega⟩ : Fin 512) := by show (r' : ℕ) = 512 + ((r' : ℕ) - 512); omega
    have hw := hT c (ix1 ⟨1024 * e + 512 + (⟨(r' : ℕ) - 512, by omega⟩ : Fin 512), by omega⟩)
    refine (out_lat e _ _ _ ⟨(r' : ℕ) - 512, by omega⟩ r' d hr).trans ?_
    refine Eq.trans ?_ (Cert.Reference2Ideal.FfnRef.out_lat _ _ _ _ _ _ _ _ e r' d ⟨(r' : ℕ) - 512, by omega⟩ hr hw).symm
    refine congrArg₂ (· * ·) ?_ ?_
    · have := acc_at m c t e he ht _ r' d (row_lat (tab m c) (hcB m c) (hlB m c) e ⟨(r' : ℕ) - 512, by omega⟩ r' hr hw)
      rw [he] at this
      exact this
    · unfold gate gateAt
      rw [blk_1 m c t e he, blk_1 m c t e he, blk_1 m c t e he]

theorem mem_of_emb {sig : RefSig} {κ : Kind} {σ : Space} {s : Shape} {e : EltTy} {v : View sig κ σ s e} {x : s.Idx} {i : v.ty.Idx} (h : v.emb x = i) : i ∈ v.set :=
  h ▸ v.emb_mem_set x

/-- Every element of the result lies in the block that an expert's second point writes back. -/
theorem cover (i : S16x1024x1024.Idx) : ∃ t : Fin (cfgA m).N, (win0 (adm m) 5).flush t = true ∧ i ∈ (((cfgA m).win 5).blk t).view.set := by
  have h0 : (i 0).val < 16 := (i 0).isLt
  have h1 : (i 1).val < 1024 := (i 1).isLt
  have h2 : (i 2).val < 1024 := (i 2).isLt
  have hN : grid0.N = 32 := N_0
  refine ⟨⟨2 * (i 0).val + 1, by show _ < grid0.N; omega⟩, (flush_iff m _).mpr (by show (2 * (i 0).val + 1) % 2 = 1; omega), ?_⟩
  have := emb_5 m ⟨2 * (i 0).val + 1, by show _ < grid0.N; omega⟩ ⟨(i 0).val, h0⟩ (by show (2 * (i 0).val + 1) / 2 = (i 0).val; omega) ⟨(i 1).val, h1⟩ ⟨(i 2).val, h2⟩
  exact mem_of_emb (this.trans (ix3_eta i))

include hT in
/-- The launch's result is the reference's. -/
theorem final : (dats m 0 c).arrAt 5 (cfgA m).N = res m c := by
  refine (dats m 0 c).arrAt_eq_of_emb 5 (res m c) (fun t hf y => ?_) (cover m)
  have ht : t.val % 2 = 1 := (flush_iff m t).mp hf
  have hN : t.val < 32 := lt_of_lt_of_eq t.isLt N_0
  rw [after_5]
  have key : ∀ y : S1x1024x1024.Idx, outB m c t y = res m c ((((cfgA m).win 5).blk t).view.emb y) := by
    intro y
    have hy : y = ix3 0 (y 1) (y 2) := by
      refine (eq_ix3 y).trans ?_
      exact congrArg (fun z : Fin 1 => (ix3 z (y 1) (y 2) : S1x1024x1024.Idx)) (Subsingleton.elim (α := Fin 1) _ _)
    rw [hy]
    exact (out_at m c hT t ⟨t.val / 2, by omega⟩ rfl ht (y 1) (y 2)).trans
      (congrArg (res m c) (emb_5 m t ⟨t.val / 2, by omega⟩ rfl (y 1) (y 2)).symm)
  exact key y

end Cert.Kernel2.Ffn
-- ==== Proof.FfnIdeal.lean ====
/- The idealized program of the routed experts is the same program as the kernel: its frame, and its run at the extended reals. -/
module

public import proofs.«01_k».proof.Proof.FfnFinal
public import proofs.«01_k».proof.Proof.Gen.Kernel2Ideal

@[expose] public section

noncomputable section

namespace Cert.Kernel2Ideal.Ffn

open Idealize.ShloMosaic Idealize.ShloMosaic.TcCoe Idealize.SL Idealize.SL.Sem

variable {F : FTy → Type} [FloatOps F]

set_option maxHeartbeats 4000000 in
theorem main_eq : (Cert.Kernel2Ideal.main (F := F)) = Cert.Kernel2.main (F := F) := rfl

theorem defs₀_eq : (Cert.Kernel2Ideal.defs₀ (F := F)) = Cert.Kernel2.defs₀ (F := F) := by
  unfold Cert.Kernel2Ideal.defs₀ Cert.Kernel2.defs₀
  refine congrArg Defs.onTc ?_
  funext l x
  match l, x with
  | 0, (t, s) => rfl

theorem defs_eq : (Cert.Kernel2Ideal.defs (F := F)) = Cert.Kernel2.defs (F := F) := by
  unfold Cert.Kernel2Ideal.defs Cert.Kernel2.defs
  exact congrArg (Pipeline.defs (Cert.Kernel2.pcfgs (F := F))) defs₀_eq

end Cert.Kernel2Ideal.Ffn

namespace Cert.Kernel2.Ffn

open Idealize.ShloMosaic Idealize.ShloMosaic.TcCoe Idealize.SL Idealize.SL.Sem
open Cert.Kernel2 Cert.Kernel2.Gen

/-- The run at the extended reals: the result is the reference's, the arguments end unchanged. -/
theorem run (m : (ℓ : Loc nD τ sig) → Buf (Elt Ideal) ℓ) (ρ : Dev nD → PrngReg) (hT : ∀ c j, (tab m c j).toNat < 4096) :
    θ_run defs (onTc (τ := τ) (main (F := Ideal))) ⟨m, fun _ => 0, ρ⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 5).trans (final m c hT), (h.1 c).2 main_arg0 kept0, (h.1 c).2 main_arg1 kept1, (h.1 c).2 main_arg2 kept2,
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4))⟩)
    (run_quiescent m ρ hT)

end Cert.Kernel2.Ffn

namespace Cert.Kernel2Ideal.Ffn

open Idealize.ShloMosaic Idealize.ShloMosaic.TcCoe Idealize.SL Idealize.SL.Sem
open Cert.Kernel2Ideal

variable (m : (ℓ : Loc nD τ sig) → Buf (Elt Ideal) ℓ) (ρ : Dev nD → PrngReg)
  (hT : ∀ (c : Dev nD) (j : S16384.Idx), ((m ((c.tc : Thread nD τ).loc main_arg0) : S16384.Idx → BitVec 32) j).toNat < 4096)

include hT in
/-- The frame of the idealized program. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  have h := Cert.Kernel2.Ffn.frame (F := Ideal) m ρ hT
  rw [← defs_eq, ← main_eq] at h
  exact h

include hT in
/-- Its run: the result is the reference's. -/
theorem run : θ_run (defs (F := Ideal)) (onTc (τ := τ) (main (F := Ideal))) ⟨m, fun _ => 0, ρ⟩ (fun r => ∀ c : Dev nD,
      r.2.mem ((c.tc : Thread nD τ).loc main_v0)
        = Cert.Reference2Ideal.Read.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have h := Cert.Kernel2.Ffn.run m ρ hT
  rw [← defs_eq, ← main_eq] at h
  exact h

end Cert.Kernel2Ideal.Ffn

end
-- ==== Proof.Ffn.lean ====
/-  The claims about the routed experts' feed-forward. -/
module

public import proofs.«01_k».proof.Defs
public import proofs.«01_k».proof.Proof.FfnPre
public import proofs.«01_k».proof.Proof.FfnIdeal
public import proofs.«01_k».proof.Proof.Gen.Kernel2
public import proofs.«01_k».proof.Proof.Gen.Pre_idx_in_range
public import Idealize.ShloMosaic.Lib.Claim

@[expose] public section

noncomputable section

namespace Cert.Proof.Ffn

open Idealize.ShloMosaic Idealize.SL.Sem

/-- The kernel runs, whatever its floats are, on a table of rows in range. -/
theorem frameP : Cert.quiescent_Kernel2 := fun m ρ hpre =>
  Cert.Kernel2.Ffn.frame (F := Bits) m ρ fun c j => Cert.Pre_idx_in_range.FfnPre.rows_of_fn (hpre c) j

/-- The ideal kernel runs. -/
theorem framePI : Cert.quiescent_Kernel2Ideal := fun m ρ hpre =>
  Cert.Kernel2Ideal.Ffn.frame m ρ fun c j => Cert.Pre_idx_in_range.FfnPre.rows_of_fn (hpre c) j

/-- The ideal reference runs. -/
theorem frameRI : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- Over the extended reals the kernel and the reference compute the same products of the routed experts. -/
theorem algebraic : Cert.algebraic_Kernel2Ideal_Reference2Ideal := by
  pair_intro
  · run_from Cert.Kernel2Ideal.Ffn.run m g fun c j => Cert.Pre_idx_in_range.FfnPre.rows_of_fn (hpre c) j
  · run_from Cert.Reference2Ideal.Value.run m' g'
    obtain ⟨h0, h1, h2, h3, h4, h5, h6, h7⟩ := hagree c
    refine (Cert.Reference2Ideal.Read.val_main_v77_eq m' c).trans ?_
    rw [h0, h1, h2, h3, h4, h5, h6, h7]

end Cert.Proof.Ffn

end
-- ==== Proof.GmMath.lean ====
/-  The chunked gated multi-layer perceptron, one element of it, over the extended reals. -/
module

public import Idealize.ShloMosaic.PureOps.Ideal
public import Idealize.ShloMosaic.PureOps.Ideal.Laws
public import Idealize.ShloMosaic.Lib.Pointwise

@[expose] public section

noncomputable section

namespace Cert.Gm

open Idealize.ShloMosaic

/-- The argument of the hyperbolic tangent in the activation. -/
def tanhArg (z : EReal) : EReal :=
  Ideal.ofBits .f32 0x3F4C422A#32 * (z + Ideal.ofBits .f32 0x3D372713#32 * (z * z * z))

/-- The activation: the Gaussian error linear unit, by its hyperbolic tangent. -/
def gel (z : EReal) : EReal :=
  Ideal.ofBits .f32 0x3F000000#32 * z * (Ideal.ofBits .f32 0x3F800000#32 + Ideal.tanh (tanhArg z))

/-- A mean over the 3072 gate channels. -/
def mean (z : Fin 3072 → EReal) : EReal := Ideal.div (∑ j, z j) (Ideal.ofBits .f32 0x45400000#32)

/-- The normalised gate channel `j`, with its gain. -/
def laynorm (z gain : Fin 3072 → EReal) (j : Fin 3072) : EReal :=
  (z j - mean z) * Ideal.rsqrt (mean (fun k => (z k - mean z) * (z k - mean z)) + Ideal.ofBits .f32 0x358637BD#32) * gain j

/-- One row times one column of the input projection. -/
def proj (h : Fin 1024 → EReal) (w : Fin 1024 → Fin 6144 → EReal) (j : Fin 6144) : EReal := ∑ k, h k * w k j

/-- The result's element at the row `n` of a chunk and the channel `j`: the chunk's rows are `h`, the mixing weights of
    the row `n` are `ws` and its bias `bs`. -/
def mlp (h : Fin 128 → Fin 1024 → EReal) (w : Fin 1024 → Fin 6144 → EReal) (gain : Fin 3072 → EReal) (ws : Fin 128 → EReal)
    (bs : EReal) (n : Fin 128) (j : Fin 3072) : EReal :=
  gel (proj (h n) w ⟨j, by omega⟩)
    * (∑ m, ws m * laynorm (fun i => gel (proj (h m) w ⟨3072 + i, by omega⟩)) gain j + bs)

/-- The activation, its factor one half taken last. -/
theorem gel_half (z : EReal) :
    z * (Ideal.ofBits .f32 0x3F000000#32 * (Ideal.ofBits .f32 0x3F800000#32 + Ideal.tanh (tanhArg z))) = gel z := by
  unfold gel
  rw [← mul_assoc, mul_comm z]

end Cert.Gm

end
-- ==== Proof.GmHead.lean ====
/-  What one grid point of the gated multi-layer perceptron stores, element by element. -/
module

public import proofs.«01_k».proof.Proof.Gen.Kernel3Ideal.Value
public import proofs.«01_k».proof.Proof.GmMath
public import Idealize.ShloMosaic.Lib.Pipeline.ValueKit
public import Idealize.ShloMosaic.Lib.Pointwise

@[expose] public section

set_option maxRecDepth 16384

noncomputable section

namespace Cert.Kernel3Ideal.GmHead

open Cert.Kernel3Ideal Cert.Kernel3Ideal.Gen Cert.Gm
open Idealize.ShloMosaic Idealize.ShloMosaic.TcCoe Idealize.SL.Sem

/-- The scaled and shifted row. -/
theorem row_at (v0 : Vec Ideal S256x1024 .f32) (v1 v7 : Vec Ideal S1x1x1024 .f32) (r : Fin 256) (k : Fin 1024) :
    k0_pay1 v0 v1 v7 (ix2 r k) = v0 (ix2 r k) * (Ideal.ofBits .f32 0x3F800000#32 + v1 (ix3 0 0 k)) + v7 (ix3 0 0 k) := by
  pointwise [k0_pay1]

/-- Two groups of the ungated half. -/
theorem pair_at (v11 : FVec Ideal S256x1024 .bf16) (w : Vec Ideal S1024x768 .bf16) (r : Fin 256) (d : Fin 768) :
    k0_pay5 (F := Ideal) v11 w (ix2 r d) = gel (∑ k : Fin 1024, v11 (ix2 r k) * w (ix2 k d)) := by
  unfold gel tanhArg
  pointwise [k0_pay5]

/-- The gate half, less its mean. -/
theorem dev_at (v0 : Vec Ideal S256x1024 .f32) (v1 v7 : Vec Ideal S1x1x1024 .f32) (w : Vec Ideal S1024x3072 .bf16) (r : Fin 256) (j : Fin 3072) :
    k0_pay2 (F := Ideal) v0 v1 v7 w (ix2 r j)
      = gel (∑ k : Fin 1024, k0_pay1 (F := Ideal) v0 v1 v7 (ix2 r k) * w (ix2 k j))
        - mean fun j => gel (∑ k : Fin 1024, k0_pay1 (F := Ideal) v0 v1 v7 (ix2 r k) * w (ix2 k j)) := by
  unfold k0_pay2 mean gel tanhArg
  generalize k0_pay1 (F := Ideal) v0 v1 v7 = H
  pointwise

/-- The gate half's variance. -/
theorem var_at (v0 : Vec Ideal S256x1024 .f32) (v1 v7 : Vec Ideal S1x1x1024 .f32) (w : Vec Ideal S1024x3072 .bf16) (r : Fin 256) :
    k0_pay3 (F := Ideal) v0 v1 v7 w (ix2 r 0)
      = mean fun j => k0_pay2 (F := Ideal) v0 v1 v7 w (ix2 r j) * k0_pay2 (F := Ideal) v0 v1 v7 w (ix2 r j) := by
  unfold k0_pay3 mean
  generalize k0_pay2 (F := Ideal) v0 v1 v7 w = D
  pointwise

/-- The normalised gate half from its deviation and variance. -/
theorem scaled_at (D : FVec Ideal S256x3072 .f32) (V : FVec Ideal S256x1 .f32) (e : EReal) (gain : Vec Ideal S1x3072 .f32) (r : Fin 256) (j : Fin 3072) :
    k0_pay4 (F := Ideal) D V e gain (ix2 r j) = D (ix2 r j) * Ideal.rsqrt (V (ix2 r 0) + e) * gain (ix2 0 j) := by
  pointwise [k0_pay4]

/-- One group: the gate's two chunks `va` and `vb` mixed, the bias added, times the ungated part `u`. -/
def grp (u : FVec Ideal S256x384 .f32) (va vb : FVec Ideal S128x384 .bf16) (ws : Vec Ideal S1x128x128 .bf16) (bs : Vec Ideal S1x128x1 .f32) :
    FVec Ideal S256x384 .bf16 :=
  have w : FVec Ideal S128x128 .bf16 := shapeCast S128x128 ws shapeCasts_S1x128x128_S128x128
  have z : FVec Ideal S128x384 .f32 := constant S128x384 .f32 0x00000000#32
  have a : FVec Ideal S128x384 .f32 := matmul dot_S128x128_S128x384_S128x384_1_0_0_1_n_n none w va z
  have b : FVec Ideal S128x384 .f32 := matmul dot_S128x128_S128x384_S128x384_1_0_0_1_n_n none w vb z
  have ab : FVec Ideal S256x384 .f32 := concatenate S256x384 0 [⟨S128x384, a⟩, ⟨S128x384, b⟩] concatenates_S128x384_S128x384_S256x384_d0
  have c : FVec Ideal S128x1 .f32 := shapeCast S128x1 bs shapeCasts_S1x128x1_S128x1
  have cc : FVec Ideal S256x1 .f32 := concatenate S256x1 0 [⟨S128x1, c⟩, ⟨S128x1, c⟩] concatenates_S128x1_S128x1_S256x1_d0
  truncf .bf16 (mulf u (addf ab (broadcastTo S256x384 cc broadcasts_S256x1_S256x384))) bitsLt_bf16_f32

variable (u : FVec Ideal S256x384 .f32) (va vb : FVec Ideal S128x384 .bf16) (ws : Vec Ideal S1x128x128 .bf16) (bs : Vec Ideal S1x128x1 .f32)

theorem grp_lo (r : Fin 256) (d : Fin 384) (n : Fin 128) (h : (r : ℕ) = n) :
    grp u va vb ws bs (ix2 r d) = u (ix2 r d) * (∑ m : Fin 128, ws (ix3 0 n m) * va (ix2 m d) + bs (ix3 0 n 0)) := by
  have hlt : (r : ℕ) < 128 := by omega
  pointwise [grp]
  have hlt' : (n : ℕ) < 128 := by omega
  simp only [h, hlt', dif_pos]

theorem grp_hi (r : Fin 256) (d : Fin 384) (n : Fin 128) (h : (r : ℕ) = 128 + n) :
    grp u va vb ws bs (ix2 r d) = u (ix2 r d) * (∑ m : Fin 128, ws (ix3 0 n m) * vb (ix2 m d) + bs (ix3 0 n 0)) := by
  have hlt : ¬ (r : ℕ) < 128 := by omega
  have he : (r : ℕ) - 128 = n := by omega
  pointwise [grp]
  simp only [hlt, dif_neg, not_false_eq_true, he]

/-- The rows of chunk `c` of a block, scaled and shifted. -/
def rows (x0 : Vec Ideal S256x1024 .f32) (x1 x2 : Vec Ideal S1x1x1024 .f32) (c : Fin 2) (n : Fin 128) (k : Fin 1024) : EReal :=
  x0 (ix2 ⟨c * 128 + n, by omega⟩ k) * (Ideal.ofBits .f32 0x3F800000#32 + x1 (ix3 0 0 k)) + x2 (ix3 0 0 k)

/-- The element at the row `n` of chunk `c` and the channel `j`, of group `g`, of a block's output, from the blocks. -/
def elem (x0 : Vec Ideal S256x1024 .f32) (x1 x2 : Vec Ideal S1x1x1024 .f32) (x3 : Vec Ideal S1024x6144 .bf16) (x4 : Vec Ideal S1x3072 .f32)
    (x5 : Vec Ideal S8x128x128 .bf16) (x6 : Vec Ideal S8x128x1 .f32) (c : Fin 2) (n : Fin 128) (g : Fin 8) (j : Fin 3072) : EReal :=
  mlp (rows x0 x1 x2 c) (fun k j => x3 (ix2 k j)) (fun j => x4 (ix2 0 j)) (fun m => x5 (ix3 g n m)) (x6 (ix3 g n 0)) n j

variable (x0 : Vec Ideal S256x1024 .f32) (x1 x2 : Vec Ideal S1x1x1024 .f32) (x3 : Vec Ideal S1024x6144 .bf16) (x4 : Vec Ideal S1x3072 .f32)
  (x5 : Vec Ideal S8x128x128 .bf16) (x6 : Vec Ideal S8x128x1 .f32)

/-- The block's scaled and shifted rows. -/
theorem rows_at (r : Fin 256) (c : Fin 2) (n : Fin 128) (k : Fin 1024) (h : (r : ℕ) = c * 128 + n) :
    k0_pay22 x0 x1 x2 x3 x4 x5 x6 (ix2 r k) = rows x0 x1 x2 c n k := by
  have e : (⟨c * 128 + n, by omega⟩ : Fin 256) = r := Fin.ext h.symm
  unfold k0_pay22 rows
  rw [row_at, e, View.ld_unit_zero (by decide), View.ld_unit_zero (by decide), View.ld_unit_zero (by decide)]

/-- The block's normalised gate half. -/
theorem gate_at (r : Fin 256) (c : Fin 2) (n : Fin 128) (j : Fin 3072) (h : (r : ℕ) = c * 128 + n) :
    k0_pay25 x0 x1 x2 x3 x4 x5 x6 (ix2 r j)
      = laynorm (fun i => gel (proj (rows x0 x1 x2 c n) (fun k j => x3 (ix2 k j)) ⟨3072 + i, by omega⟩)) (fun j => x4 (ix2 0 j)) j := by
  have e : ∀ i : Fin 3072, (∑ k : Fin 1024, k0_pay1 (View.ld x0 r0_0) (View.ld x1 r0_1) (View.ld x2 r0_1) (ix2 r k) * View.ld x3 r0_2 (ix2 k i))
      = proj (rows x0 x1 x2 c n) (fun k j => x3 (ix2 k j)) ⟨3072 + i, by omega⟩ := by
    intro i
    unfold proj
    refine Finset.sum_congr rfl fun k _ => congrArg₂ (· * ·) (rows_at x0 x1 x2 x3 x4 x5 x6 r c n k h) ?_
    rw [View.ld_unit]
    pointwise
  have e4 : ∀ j : Fin 3072, View.ld x4 r0_3 (ix2 0 j) = x4 (ix2 0 j) := by
    intro j
    rw [View.ld_unit_zero (by decide)]
  unfold k0_pay25 k0_pay23 k0_pay24
  rw [scaled_at, var_at, e4]
  simp only [dev_at, e]
  rfl

/-- A group's element at the slices of the blocks that the group `g` reads. -/
theorem grp_elem (g : Fin 8) (r : Fin 256) (d : Fin 384)
    (hu : ∀ (r : Fin 256) (d : Fin 384), u (ix2 r d) = gel (∑ k : Fin 1024, k0_pay22 x0 x1 x2 x3 x4 x5 x6 (ix2 r k) * x3 (ix2 k ⟨g * 384 + d, by omega⟩)))
    (ha : ∀ (m : Fin 128) (d : Fin 384), va (ix2 m d) = k0_pay25 x0 x1 x2 x3 x4 x5 x6 (ix2 ⟨m, by omega⟩ ⟨g * 384 + d, by omega⟩))
    (hb : ∀ (m : Fin 128) (d : Fin 384), vb (ix2 m d) = k0_pay25 x0 x1 x2 x3 x4 x5 x6 (ix2 ⟨128 + m, by omega⟩ ⟨g * 384 + d, by omega⟩))
    (hw : ∀ (n m : Fin 128), ws (ix3 0 n m) = x5 (ix3 g n m)) (hs : ∀ n : Fin 128, bs (ix3 0 n 0) = x6 (ix3 g n 0)) :
    grp u va vb ws bs (ix2 r d) = elem x0 x1 x2 x3 x4 x5 x6 ⟨(r : ℕ) / 128, by omega⟩ ⟨(r : ℕ) % 128, by omega⟩ g ⟨g * 384 + d, by omega⟩ := by
  have hR : ∀ k, k0_pay22 x0 x1 x2 x3 x4 x5 x6 (ix2 r k) = rows x0 x1 x2 ⟨(r : ℕ) / 128, by omega⟩ ⟨(r : ℕ) % 128, by omega⟩ k :=
    fun k => rows_at x0 x1 x2 x3 x4 x5 x6 r _ _ k (by dsimp only; omega)
  unfold elem mlp
  by_cases hc : (r : ℕ) < 128
  · rw [grp_lo u va vb ws bs r d ⟨(r : ℕ) % 128, by omega⟩ (by dsimp only; omega), hu, hs]
    simp only [hR, hw, ha]
    refine congrArg₂ (· * ·) rfl (congrArg (· + _) (Finset.sum_congr rfl fun m _ => congrArg (_ * ·) ?_))
    exact gate_at x0 x1 x2 x3 x4 x5 x6 _ _ m _ (by dsimp only; omega)
  · rw [grp_hi u va vb ws bs r d ⟨(r : ℕ) % 128, by omega⟩ (by dsimp only; omega), hu, hs]
    simp only [hR, hw, hb]
    refine congrArg₂ (· * ·) rfl (congrArg (· + _) (Finset.sum_congr rfl fun m _ => congrArg (_ * ·) ?_))
    exact gate_at x0 x1 x2 x3 x4 x5 x6 _ _ m _ (by dsimp only; omega)

/-- A group's element at the row `y 0` and the column `y 1` of the output block, whose group is `g`. -/
theorem piece (y : S256x3072.Idx) (x : S256x384.Idx) (g : Fin 8) (h0 : (y 0 : ℕ) = x 0) (h1 : (y 1 : ℕ) = g * 384 + x 1)
    (hu : ∀ (r : Fin 256) (d : Fin 384), u (ix2 r d) = gel (∑ k : Fin 1024, k0_pay22 x0 x1 x2 x3 x4 x5 x6 (ix2 r k) * x3 (ix2 k ⟨g * 384 + d, by omega⟩)))
    (ha : ∀ (m : Fin 128) (d : Fin 384), va (ix2 m d) = k0_pay25 x0 x1 x2 x3 x4 x5 x6 (ix2 ⟨m, by omega⟩ ⟨g * 384 + d, by omega⟩))
    (hb : ∀ (m : Fin 128) (d : Fin 384), vb (ix2 m d) = k0_pay25 x0 x1 x2 x3 x4 x5 x6 (ix2 ⟨128 + m, by omega⟩ ⟨g * 384 + d, by omega⟩))
    (hw : ∀ (n m : Fin 128), ws (ix3 0 n m) = x5 (ix3 g n m)) (hs : ∀ n : Fin 128, bs (ix3 0 n 0) = x6 (ix3 g n 0)) :
    grp u va vb ws bs x
      = elem x0 x1 x2 x3 x4 x5 x6 ⟨(y 0 : ℕ) / 128, by have := (y 0).isLt; simp at this; omega⟩ ⟨(y 0 : ℕ) % 128, by omega⟩
          ⟨(y 1 : ℕ) / 384, by have := (y 1).isLt; simp at this; omega⟩ (y 1) := by
  have hx : (x 1 : ℕ) < 384 := (x 1).isLt
  have e : x = ix2 (x 0) (x 1) := by ext i; fin_cases i <;> rfl
  have hx0 : (x 0 : ℕ) < 256 := (x 0).isLt
  have e1 : (⟨(y 1 : ℕ) / 384, by have := (y 1).isLt; simp at this; omega⟩ : Fin 8) = g := Fin.ext (by dsimp only; omega)
  have e2 : y 1 = (⟨g * 384 + (x 1 : ℕ), by omega⟩ : Fin 3072) := Fin.ext h1
  have a0 : ∀ h h', (⟨(y 0 : ℕ) / 128, h⟩ : Fin 2) = ⟨(x 0 : ℕ) / 128, h'⟩ := fun _ _ => Fin.ext (by dsimp only; omega)
  have a1 : ∀ h h', (⟨(y 0 : ℕ) % 128, h⟩ : Fin 128) = ⟨(x 0 : ℕ) % 128, h'⟩ := fun _ _ => Fin.ext (by dsimp only; omega)
  rw [e1, e2, a0 _ (by omega), a1 _ (by omega)]
  exact (congrArg _ e).trans (grp_elem u va vb ws bs x0 x1 x2 x3 x4 x5 x6 g (x 0) (x 1) hu ha hb hw hs)

theorem group7 (v11 : FVec Ideal S256x1024 .bf16) (v46 : FVec Ideal S256x3072 .bf16) (w : Vec Ideal S1024x768 .bf16) :
    k0_pay21 v46 (k0_pay17 v11 w) ws ws bs
      = grp (extractStridedSlice S256x384 ![0, 384] (k0_pay5 v11 w) slices_S256x768_o0_384_S256x384)
          (extractStridedSlice S128x384 ![0, 2688] v46 slices_S256x3072_o0_2688_S128x384)
          (extractStridedSlice S128x384 ![128, 2688] v46 slices_S256x3072_o128_2688_S128x384) ws bs := rfl
theorem group6 (v11 : FVec Ideal S256x1024 .bf16) (v46 : FVec Ideal S256x3072 .bf16) (w : Vec Ideal S1024x768 .bf16) :
    k0_pay20 v46 (k0_pay18 v11 w) (k0_pay19 v46 ws) ws bs
      = grp (extractStridedSlice S256x384 ![0, 0] (k0_pay5 v11 w) slices_S256x768_o0_0_S256x384)
          (extractStridedSlice S128x384 ![0, 2304] v46 slices_S256x3072_o0_2304_S128x384)
          (extractStridedSlice S128x384 ![128, 2304] v46 slices_S256x3072_o128_2304_S128x384) ws bs := rfl
theorem group5 (v11 : FVec Ideal S256x1024 .bf16) (v46 : FVec Ideal S256x3072 .bf16) (w : Vec Ideal S1024x768 .bf16) :
    k0_pay16 v46 (k0_pay15 v11 w) ws ws bs
      = grp (extractStridedSlice S256x384 ![0, 384] (k0_pay5 v11 w) slices_S256x768_o0_384_S256x384)
          (extractStridedSlice S128x384 ![0, 1920] v46 slices_S256x3072_o0_1920_S128x384)
          (extractStridedSlice S128x384 ![128, 1920] v46 slices_S256x3072_o128_1920_S128x384) ws bs := rfl
theorem group4 (v11 : FVec Ideal S256x1024 .bf16) (v46 : FVec Ideal S256x3072 .bf16) (w : Vec Ideal S1024x768 .bf16) :
    k0_pay14 v11 v46 w ws ws bs
      = grp (extractStridedSlice S256x384 ![0, 0] (k0_pay5 v11 w) slices_S256x768_o0_0_S256x384)
          (extractStridedSlice S128x384 ![0, 1536] v46 slices_S256x3072_o0_1536_S128x384)
          (extractStridedSlice S128x384 ![128, 1536] v46 slices_S256x3072_o128_1536_S128x384) ws bs := rfl
theorem group3 (v11 : FVec Ideal S256x1024 .bf16) (v46 : FVec Ideal S256x3072 .bf16) (w : Vec Ideal S1024x768 .bf16) :
    k0_pay12 v46 (k0_pay9 v11 w) ws ws bs
      = grp (extractStridedSlice S256x384 ![0, 384] (k0_pay5 v11 w) slices_S256x768_o0_384_S256x384)
          (extractStridedSlice S128x384 ![0, 1152] v46 slices_S256x3072_o0_1152_S128x384)
          (extractStridedSlice S128x384 ![128, 1152] v46 slices_S256x3072_o128_1152_S128x384) ws bs := rfl
theorem group2 (v11 : FVec Ideal S256x1024 .bf16) (v46 : FVec Ideal S256x3072 .bf16) (w : Vec Ideal S1024x768 .bf16) :
    k0_pay11 v46 (k0_pay10 v11 w) ws ws bs
      = grp (extractStridedSlice S256x384 ![0, 0] (k0_pay5 v11 w) slices_S256x768_o0_0_S256x384)
          (extractStridedSlice S128x384 ![0, 768] v46 slices_S256x3072_o0_768_S128x384)
          (extractStridedSlice S128x384 ![128, 768] v46 slices_S256x3072_o128_768_S128x384) ws bs := rfl
theorem group1 (v11 : FVec Ideal S256x1024 .bf16) (v46 : FVec Ideal S256x3072 .bf16) (w : Vec Ideal S1024x768 .bf16) :
    k0_pay8 v46 (k0_pay5 v11 w) ws ws bs
      = grp (extractStridedSlice S256x384 ![0, 384] (k0_pay5 v11 w) slices_S256x768_o0_384_S256x384)
          (extractStridedSlice S128x384 ![0, 384] v46 slices_S256x3072_o0_384_S128x384)
          (extractStridedSlice S128x384 ![128, 384] v46 slices_S256x3072_o128_384_S128x384) ws bs := rfl
theorem group0 (v11 : FVec Ideal S256x1024 .bf16) (D : FVec Ideal S256x3072 .f32) (V : FVec Ideal S256x1 .f32) (e : EReal) (gain : Vec Ideal S1x3072 .f32)
    (w : Vec Ideal S1024x768 .bf16) :
    k0_pay7 (k0_pay6 (F := Ideal) v11 D V e gain w ws ws bs)
      = grp (extractStridedSlice S256x384 ![0, 0] (k0_pay5 v11 w) slices_S256x768_o0_0_S256x384)
          (extractStridedSlice S128x384 ![0, 0] (k0_pay4 (F := Ideal) D V e gain) slices_S256x3072_o0_0_S128x384)
          (extractStridedSlice S128x384 ![128, 0] (k0_pay4 (F := Ideal) D V e gain) slices_S256x3072_o128_0_S128x384) ws bs := rfl

/-- Every element of a block's output. -/
theorem out_elem (y : S256x3072.Idx) :
    out0_7 x0 x1 x2 x3 x4 x5 x6 y
      = elem x0 x1 x2 x3 x4 x5 x6 ⟨(y 0 : ℕ) / 128, by have := (y 0).isLt; simp at this; omega⟩ ⟨(y 0 : ℕ) % 128, by omega⟩
          ⟨(y 1 : ℕ) / 384, by have := (y 1).isLt; simp at this; omega⟩ (y 1) := by
  unfold out0_7
  canon_tiles x h
  · refine (congrFun (group7 _ _ _ _ _) x).trans ?_
    refine piece _ _ _ _ _ x0 x1 x2 x3 x4 x5 x6 y x 7 h0 (by exact h1) (fun r d => ?_) (fun m d => ?_) (fun m d => ?_) (fun n m => ?_) fun n => ?_
    · pointwise [pair_at, View.ld_unit]
      simp only [← Nat.add_assoc, Nat.reduceAdd]
    · pointwise
    · pointwise
    · rw [View.ld_unit]; pointwise
    · rw [View.ld_unit]; pointwise
  · refine (congrFun (group6 _ _ _ _ _) x).trans ?_
    refine piece _ _ _ _ _ x0 x1 x2 x3 x4 x5 x6 y x 6 h0 (by exact h1) (fun r d => ?_) (fun m d => ?_) (fun m d => ?_) (fun n m => ?_) fun n => ?_
    · pointwise [pair_at, View.ld_unit]
    · pointwise
    · pointwise
    · rw [View.ld_unit]; pointwise
    · rw [View.ld_unit]; pointwise
  · refine (congrFun (group5 _ _ _ _ _) x).trans ?_
    refine piece _ _ _ _ _ x0 x1 x2 x3 x4 x5 x6 y x 5 h0 (by exact h1) (fun r d => ?_) (fun m d => ?_) (fun m d => ?_) (fun n m => ?_) fun n => ?_
    · pointwise [pair_at, View.ld_unit]
      simp only [← Nat.add_assoc, Nat.reduceAdd]
    · pointwise
    · pointwise
    · rw [View.ld_unit]; pointwise
    · rw [View.ld_unit]; pointwise
  · refine (congrFun (group4 _ _ _ _ _) x).trans ?_
    refine piece _ _ _ _ _ x0 x1 x2 x3 x4 x5 x6 y x 4 h0 (by exact h1) (fun r d => ?_) (fun m d => ?_) (fun m d => ?_) (fun n m => ?_) fun n => ?_
    · pointwise [pair_at, View.ld_unit]
    · pointwise
    · pointwise
    · rw [View.ld_unit]; pointwise
    · rw [View.ld_unit]; pointwise
  · refine (congrFun (group3 _ _ _ _ _) x).trans ?_
    refine piece _ _ _ _ _ x0 x1 x2 x3 x4 x5 x6 y x 3 h0 (by exact h1) (fun r d => ?_) (fun m d => ?_) (fun m d => ?_) (fun n m => ?_) fun n => ?_
    · pointwise [pair_at, View.ld_unit]
      simp only [← Nat.add_assoc, Nat.reduceAdd]
    · pointwise
    · pointwise
    · rw [View.ld_unit]; pointwise
    · rw [View.ld_unit]; pointwise
  · refine (congrFun (group2 _ _ _ _ _) x).trans ?_
    refine piece _ _ _ _ _ x0 x1 x2 x3 x4 x5 x6 y x 2 h0 (by exact h1) (fun r d => ?_) (fun m d => ?_) (fun m d => ?_) (fun n m => ?_) fun n => ?_
    · pointwise [pair_at, View.ld_unit]
    · pointwise
    · pointwise
    · rw [View.ld_unit]; pointwise
    · rw [View.ld_unit]; pointwise
  · refine (congrFun (group1 _ _ _ _ _) x).trans ?_
    refine piece _ _ _ _ _ x0 x1 x2 x3 x4 x5 x6 y x 1 h0 (by exact h1) (fun r d => ?_) (fun m d => ?_) (fun m d => ?_) (fun n m => ?_) fun n => ?_
    · pointwise [pair_at, View.ld_unit]
    · pointwise
    · pointwise
    · rw [View.ld_unit]; pointwise
    · rw [View.ld_unit]; pointwise
  · refine (congrFun (group0 _ _ _ _ _ _ _ _) x).trans ?_
    refine piece _ _ _ _ _ x0 x1 x2 x3 x4 x5 x6 y x 0 h0 (by simpa using h1) (fun r d => ?_) (fun m d => ?_) (fun m d => ?_) (fun n m => ?_) fun n => ?_
    · pointwise [pair_at, View.ld_unit]
    · pointwise; rfl
    · pointwise; rfl
    · rw [View.ld_unit]; pointwise
    · rw [View.ld_unit]; pointwise

end Cert.Kernel3Ideal.GmHead

end
-- ==== Proof.GmRef.lean ====
/-  What the gated multi-layer perceptron's reference computes, element by element. -/
module

public import proofs.«01_k».proof.Proof.Gen.Reference3Ideal.Read
public import proofs.«01_k».proof.Proof.GmMath
public import Idealize.ShloMosaic.Lib.Pipeline.ValueKit
public import Idealize.ShloMosaic.Lib.Pointwise

@[expose] public section

set_option maxRecDepth 16384

noncomputable section

namespace Cert.Reference3Ideal.GmRef

open Cert.Reference3Ideal Cert.Reference3Ideal.Gen Cert.Reference3Ideal.Read Cert.Gm
open Idealize.ShloMosaic Idealize.ShloMosaic.TcCoe Idealize.SL.Sem

variable (x0 : FVec Ideal S4096x1024 .f32) (x1 x2 : FVec Ideal S4x1x1024 .f32) (x3 : FVec Ideal S1024x6144 .bf16)
  (x4 : FVec Ideal S1x3072 .f32) (x5 : FVec Ideal S8x128x128 .bf16) (x6 : FVec Ideal S8x128x1 .f32)

/-- A row of sequence `b`, scaled and shifted. -/
def row (b : Fin 4) (q k : Fin 1024) : EReal :=
  x0 (ix2 ⟨b * 1024 + q, by omega⟩ k) * (Ideal.ofBits .f32 0x3F800000#32 + x1 (ix3 b 0 k)) + x2 (ix3 b 0 k)

theorem row_at (b : Fin 4) (q k : Fin 1024) : val_main_v6 (F := Ideal) x0 x1 x2 (ix3 b q k) = row x0 x1 x2 b q k := by
  unfold row
  pointwise [val_main_v6, val_main_v5, val_main_v4, val_main_v3, val_main_v2, val_main_v1, val_main_v0, val_main_cst]

/-- The input projection. -/
theorem proj_at (b : Fin 4) (q : Fin 1024) (j : Fin 6144) :
    val_main_v8 (F := Ideal) x0 x1 x2 x3 (ix3 b q j) = proj (row x0 x1 x2 b q) (fun k j => x3 (ix2 k j)) j := by
  unfold proj
  simp only [← row_at]
  unfold val_main_v8
  generalize val_main_v6 (F := Ideal) x0 x1 x2 = H
  pointwise [val_main_v7]

/-- The activation. -/
theorem gel_at (b : Fin 4) (q : Fin 1024) (j : Fin 6144) :
    val_main_v21 (F := Ideal) x0 x1 x2 x3 (ix3 b q j) = gel (proj (row x0 x1 x2 b q) (fun k j => x3 (ix2 k j)) j) := by
  rw [← gel_half, ← proj_at]
  unfold tanhArg val_main_v21 val_main_v20 val_main_v19 val_main_v18 val_main_v17 val_main_v16 val_main_v15 val_main_v14
    val_main_v13 val_main_v12 val_main_v11 val_main_v10 val_main_v9
  generalize val_main_v8 (F := Ideal) x0 x1 x2 x3 = Z
  pointwise [val_main_cst_0, val_main_cst_1, val_main_cst_2, val_main_cst_3]

/-- The gate half. -/
def gate (b : Fin 4) (q : Fin 1024) (j : Fin 3072) : EReal :=
  gel (proj (row x0 x1 x2 b q) (fun k j => x3 (ix2 k j)) ⟨3072 + j, by omega⟩)

theorem gate_at (b : Fin 4) (q : Fin 1024) (j : Fin 3072) :
    val_main_v23 (F := Ideal) x0 x1 x2 x3 (ix3 b q j) = gate x0 x1 x2 x3 b q j := by
  unfold gate
  rw [← gel_at]
  unfold val_main_v23
  generalize val_main_v21 (F := Ideal) x0 x1 x2 x3 = Z
  pointwise

theorem first_at (b : Fin 4) (q : Fin 1024) (j : Fin 3072) :
    val_main_v22 (F := Ideal) x0 x1 x2 x3 (ix3 b q j) = gel (proj (row x0 x1 x2 b q) (fun k j => x3 (ix2 k j)) ⟨j, by omega⟩) := by
  rw [← gel_at]
  unfold val_main_v22
  generalize val_main_v21 (F := Ideal) x0 x1 x2 x3 = Z
  pointwise

/-- The normalised gate half. -/
theorem norm_at (b : Fin 4) (q : Fin 1024) (j : Fin 3072) :
    val_main_v45 (F := Ideal) x0 x1 x2 x3 x4 (ix3 b q j) = laynorm (gate x0 x1 x2 x3 b q) (fun j => x4 (ix2 0 j)) j := by
  have e : gate x0 x1 x2 x3 b q = fun j => val_main_v23 (F := Ideal) x0 x1 x2 x3 (ix3 b q j) := funext fun j => (gate_at x0 x1 x2 x3 b q j).symm
  rw [e]
  unfold laynorm mean val_main_v45 val_main_v41 val_main_v40 val_main_v39 val_main_v38 val_main_v36 val_main_v35 val_main_v34 val_main_v32
    val_main_v31 val_main_v30 val_main_v29 val_main_v28 val_main_v27 val_main_v25 val_main_v24
  generalize val_main_v23 (F := Ideal) x0 x1 x2 x3 = Z
  pointwise [val_main_v26, val_main_v33, val_main_v37, val_main_v42, val_main_v43, val_main_v44, val_main_cst_4, val_main_cst_5, val_main_cst_6,
    val_main_cst_7, val_main_cst_8]

/-- The normalised gate half mixed over the rows of its chunk. -/
theorem mix_at (b : Fin 4) (c : Fin 8) (n : Fin 128) (g : Fin 8) (d : Fin 384) :
    val_main_v54 (F := Ideal) x0 x1 x2 x3 x4 x5 x6 (ix5 b c n g d)
      = ∑ m : Fin 128, x5 (ix3 g n m) * val_main_v45 (F := Ideal) x0 x1 x2 x3 x4 (ix3 b ⟨c * 128 + m, by omega⟩ ⟨g * 384 + d, by omega⟩)
        + x6 (ix3 g n 0) := by
  unfold val_main_v54 val_main_v49 val_main_v48 val_main_v46
  generalize val_main_v45 (F := Ideal) x0 x1 x2 x3 x4 = Z
  simp only [mul_comm (x5 _)]
  pointwise [val_main_v47, val_main_v50, val_main_v51, val_main_v52, val_main_v53]

/-- The reference's element at the row `n` of chunk `c` of sequence `b` and the channel `d` of group `g`. -/
theorem out_at (r : Fin 4096) (j : Fin 3072) (b : Fin 4) (c : Fin 8) (n : Fin 128) (g : Fin 8) (d : Fin 384)
    (hr : (r : ℕ) = b * 1024 + (c * 128 + n)) (hj : (j : ℕ) = g * 384 + d) :
    val_main_v58 (F := Ideal) x0 x1 x2 x3 x4 x5 x6 (ix2 r j)
      = mlp (fun m => row x0 x1 x2 b ⟨c * 128 + m, by omega⟩) (fun k j => x3 (ix2 k j)) (fun j => x4 (ix2 0 j)) (fun m => x5 (ix3 g n m))
          (x6 (ix3 g n 0)) n j := by
  have e1 : val_main_v58 (F := Ideal) x0 x1 x2 x3 x4 x5 x6 (ix2 r j)
      = val_main_v22 (F := Ideal) x0 x1 x2 x3 (ix3 b ⟨c * 128 + n, by omega⟩ j) * val_main_v54 (F := Ideal) x0 x1 x2 x3 x4 x5 x6 (ix5 b c n g d) := by
    unfold val_main_v58 val_main_v57 val_main_v56 val_main_v55
    generalize val_main_v54 (F := Ideal) x0 x1 x2 x3 x4 x5 x6 = Y
    generalize val_main_v22 (F := Ideal) x0 x1 x2 x3 = X
    have a1 : (r : ℕ) / 1024 = b := by omega
    have a2 : (r : ℕ) % 1024 = c * 128 + n := by omega
    have a3 : ((c : ℕ) * 128 + n) / 128 = c := by omega
    have a4 : ((c : ℕ) * 128 + n) % 128 = n := by omega
    have a5 : (j : ℕ) / 384 = g := by omega
    have a6 : (j : ℕ) % 384 = d := by omega
    pointwise
    simp only [a1, a2, a3, a4, a5, a6]
  have ej : (⟨g * 384 + d, by omega⟩ : Fin 3072) = j := Fin.ext hj.symm
  rw [e1, first_at, mix_at]
  unfold mlp
  simp only [norm_at, ej]
  rfl

end Cert.Reference3Ideal.GmRef

end
-- ==== Proof.GmFinal.lean ====
/-  The gated multi-layer perceptron's output array: every block is a block of the reference. -/
module

public import proofs.«01_k».proof.Proof.GmHead
public import proofs.«01_k».proof.Proof.GmRef
public import proofs.«01_k».proof.Proof.Gen.Kernel3Ideal.Value

@[expose] public section

set_option maxRecDepth 16384

noncomputable section

namespace Cert.Kernel3Ideal.GmFinal

open Idealize.ShloMosaic Idealize.SL.Sem Cert.Kernel3Ideal Cert.Kernel3Ideal.Gen Cert.Kernel3Ideal.GmHead Cert.Gm
open Cert.Reference3Ideal.GmRef (out_at row)

variable (m : (ℓ : Loc nD τ sig) → Buf (Elt Ideal) ℓ)

/-- The blocks of a grid point `t`: 256 rows, of sequence `t / 4`. -/
theorem idx : ∀ t : Fin cfg0.N, win0_0.index t = ![t.val, 0] ∧ win0_1.index t = ![t.val / 4, 0, 0] ∧ win0_2.index t = ![t.val / 4, 0, 0]
    ∧ win0_3.index t = ![0, 0] ∧ win0_4.index t = ![0, 0] ∧ win0_5.index t = ![0, 0, 0] ∧ win0_6.index t = ![0, 0, 0]
    ∧ win0_7.index t = ![t.val, 0] :=
  (by decide +kernel : ∀ t : Fin grid0.N, _)

/-- One element of one block, against the reference. -/
theorem point (c : Dev nD) (t : Fin cfg0.N) (y : S256x3072.Idx)
    (j : S4096x3072.Idx) (hj0 : (j 0 : ℕ) = t.val * 256 + y 0) (hj1 : (j 1 : ℕ) = y 1) :
    elem (iblk m c 0 t) (iblk m c 1 t) (iblk m c 2 t) (iblk m c 3 t) (iblk m c 4 t) (iblk m c 5 t) (iblk m c 6 t)
        ⟨(y 0 : ℕ) / 128, by have := (y 0).isLt; simp at this; omega⟩ ⟨(y 0 : ℕ) % 128, by omega⟩
        ⟨(y 1 : ℕ) / 384, by have := (y 1).isLt; simp at this; omega⟩ (y 1)
      = Cert.Reference3Ideal.Read.val_main_v58 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) j := by
  have ht : t.val < 16 := lt_of_lt_of_eq t.isLt N_0
  have hy0 : (y 0 : ℕ) < 256 := (y 0).isLt
  have hy1 : (y 1 : ℕ) < 3072 := (y 1).isLt
  have ej : j = ix2 (j 0) (j 1) := by ext i; fin_cases i <;> rfl
  have ey : y 1 = j 1 := Fin.ext hj1.symm
  refine Eq.trans ?_ ((congrArg _ ej).trans (out_at _ _ _ _ _ _ _ (j 0) (j 1) ⟨t.val / 4, by omega⟩ ⟨t.val % 4 * 2 + (y 0 : ℕ) / 128, by omega⟩
    ⟨(y 0 : ℕ) % 128, by omega⟩ ⟨(y 1 : ℕ) / 384, by omega⟩ ⟨(y 1 : ℕ) % 384, by omega⟩ (by dsimp only; omega) (by dsimp only; omega))).symm
  unfold elem
  have key : ∀ {h h' : Fin 128 → Fin 1024 → EReal} {w w' : Fin 1024 → Fin 6144 → EReal} {g g' : Fin 3072 → EReal} {s s' : Fin 128 → EReal}
      {b b' : EReal} {n : Fin 128} {i i' : Fin 3072}, h = h' → w = w' → g = g' → s = s' → b = b' → i = i' → mlp h w g s b n i = mlp h' w' g' s' b' n i' := by
    rintro _ _ _ _ _ _ _ _ _ _ _ _ _ rfl rfl rfl rfl rfl rfl
    rfl
  refine key (funext fun n => funext fun k => ?_) (funext fun k => funext fun i => ?_) (funext fun i => ?_) (funext fun i => ?_) ?_ ey
  · unfold rows row
    blk_point [iblk, V, idx t]
  · blk_point [iblk, V, idx t]
  · blk_point [iblk, V, idx t]
  · blk_point [iblk, V, idx t]
  · blk_point [iblk, V, idx t]

/-- The output array is the reference's result. -/
theorem final (c : Dev nD) :
    (dats m 0 c).arrAt 7 cfg0.N
      = Cert.Reference3Ideal.Read.val_main_v58 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  refine (dats m 0 c).arrAt_eq_of_covers 7 _ (by decide +kernel) fun t _ y => ?_
  blk_simp
  rw [after0_7, out_elem]
  refine point m c t y _ ?_ ?_ <;> (blk_simp [idx t] <;> try omega)

end Cert.Kernel3Ideal.GmFinal

end
-- ==== Proof.Gm.lean ====
/-  The claims about the gated multi-layer perceptron. -/
module

public import proofs.«01_k».proof.Defs
public import proofs.«01_k».proof.Proof.GmFinal
public import proofs.«01_k».proof.Proof.Gen.Kernel3
public import proofs.«01_k».proof.Proof.Gen.Kernel3.Frame
public import Idealize.ShloMosaic.Lib.Claim

@[expose] public section

noncomputable section

namespace Cert.Proof.Gm

open Idealize.ShloMosaic Idealize.SL.Sem

/-- The kernel runs, whatever its floats are. -/
theorem frameP : Cert.quiescent_Kernel3 := fun m ρ _ => Cert.Kernel3.Gen.frame m ρ

/-- The ideal kernel runs. -/
theorem framePI : Cert.quiescent_Kernel3Ideal := fun m ρ _ => Cert.Kernel3Ideal.Gen.frame m ρ

/-- The ideal reference runs. -/
theorem frameRI : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- Over the extended reals the kernel and the reference compute the same gated perceptron. -/
theorem algebraic : Cert.algebraic_Kernel3Ideal_Reference3Ideal := by
  pair_intro
  · run_from Cert.Kernel3Ideal.Gen.run_main m g
  · run_from Cert.Reference3Ideal.Value.run m' g'
    obtain ⟨h0, h1, h2, h3, h4, h5, h6⟩ := hagree c
    refine (Cert.Reference3Ideal.Read.val_main_v58_eq m' c).trans ?_
    refine Eq.trans ?_ (Cert.Kernel3Ideal.GmFinal.final m c).symm
    rw [h0, h1, h2, h3, h4, h5, h6]

end Cert.Proof.Gm

end
-- ==== Proof.PjMath.lean ====
/-  The latent attention's projections, one element of each, over the extended reals. -/
module

public import Idealize.ShloMosaic.PureOps.Ideal
public import Idealize.ShloMosaic.PureOps.Ideal.Laws
public import Idealize.ShloMosaic.Lib.Pointwise

@[expose] public section

noncomputable section

namespace Cert.Pj

open Idealize.ShloMosaic

/-- The word 0 is the number 0. -/
theorem zero_word : FloatOps.sitofp (F := Ideal) .f32 (0#32) = (0 : EReal) := by
  simp [FloatOps.sitofp]

/-- One row times one column. -/
def col {n k : ℕ} (h : Fin k → EReal) (w : Fin k → Fin n → EReal) (j : Fin n) : EReal := ∑ i, h i * w i j

/-- An entry of a row divided by its root mean square, with its gain; `c` is the row's length. -/
def rms {n : ℕ} (c : EReal) (t gain : Fin n → EReal) (j : Fin n) : EReal :=
  t j * Ideal.rsqrt (Ideal.div (∑ i, t i * t i) c + Ideal.ofBits .f32 0x358637BD#32) * gain j

/-- The normalised compressed query of the row `h`. -/
def cq (h : Fin 1024 → EReal) (w : Fin 1024 → Fin 768 → EReal) (gain : Fin 384 → EReal) : Fin 384 → EReal :=
  rms (Ideal.ofBits .f32 0x43C00000#32) (fun i => col h w ⟨i, by omega⟩) gain

/-- The normalised compressed key and value of the row `h`. -/
def ckv (h : Fin 1024 → EReal) (w : Fin 1024 → Fin 768 → EReal) (gain : Fin 256 → EReal) : Fin 256 → EReal :=
  rms (Ideal.ofBits .f32 0x43800000#32) (fun i => col h w ⟨384 + i, by omega⟩) gain

/-- The input weights with 64 columns of zeros after them. -/
def padIn (w : Fin 1024 → Fin 704 → EReal) (k : Fin 1024) (j : Fin 768) : EReal := if h : (j : ℕ) < 704 then w k ⟨j, h⟩ else 0

/-- The query weights, each head's 192 columns with 64 columns of zeros after them. -/
def padQ (w : Fin 384 → Fin 8 → Fin 192 → EReal) (i : Fin 384) (d : Fin 2048) : EReal :=
  if h : (d : ℕ) % 256 < 192 then w i ⟨d / 256, by omega⟩ ⟨d % 256, h⟩ else 0

theorem col_padIn (h : Fin 1024 → EReal) (w : Fin 1024 → Fin 704 → EReal) (j : Fin 768) (hj : (j : ℕ) < 704) :
    col h (padIn w) j = col h w ⟨j, hj⟩ := by
  simp only [col, padIn, dif_pos hj]

theorem col_padIn_zero (h : Fin 1024 → EReal) (w : Fin 1024 → Fin 704 → EReal) (j : Fin 768) (hj : ¬(j : ℕ) < 704) :
    col h (padIn w) j = 0 := by
  simp only [col, padIn, dif_neg hj, mul_zero, Finset.sum_const_zero]

theorem col_padQ (h : Fin 384 → EReal) (w : Fin 384 → Fin 8 → Fin 192 → EReal) (d : Fin 2048) (hd : (d : ℕ) % 256 < 192) :
    col h (padQ w) d = ∑ i, h i * w i ⟨d / 256, by omega⟩ ⟨d % 256, hd⟩ := by
  simp only [col, padQ, dif_pos hd]

theorem col_padQ_zero (h : Fin 384 → EReal) (w : Fin 384 → Fin 8 → Fin 192 → EReal) (d : Fin 2048) (hd : ¬(d : ℕ) % 256 < 192) :
    col h (padQ w) d = 0 := by
  simp only [col, padQ, dif_neg hd, mul_zero, Finset.sum_const_zero]

end Cert.Pj

end
-- ==== Proof.PjHead.lean ====
/-  What one grid point of the latent attention's projections stores, element by element. -/
module

public import proofs.«01_k».proof.Proof.Gen.Kernel4Ideal.Value
public import proofs.«01_k».proof.Proof.PjMath
public import Idealize.ShloMosaic.Lib.Pipeline.ValueKit
public import Idealize.ShloMosaic.Lib.Pointwise

@[expose] public section

set_option maxRecDepth 16384

noncomputable section

namespace Cert.Kernel4Ideal.PjHead

open Cert.Kernel4Ideal Cert.Kernel4Ideal.Gen Cert.Pj
open Idealize.ShloMosaic Idealize.ShloMosaic.TcCoe Idealize.SL.Sem

variable (x0 : Vec Ideal S512x1024 .f32) (x1 x2 : Vec Ideal S1x1x1024 .f32) (x3 : Vec Ideal S1024x768 .bf16) (x4 : Vec Ideal S1x384 .f32)
  (x5 : Vec Ideal S1x256 .f32) (x6 : Vec Ideal S384x2048 .bf16) (x7 : Vec Ideal S256x2048 .bf16)

/-- A block's row, scaled and shifted. -/
def rows (r : Fin 512) (k : Fin 1024) : EReal := x0 (ix2 r k) * (Ideal.ofBits .f32 0x3F800000#32 + x1 (ix3 0 0 k)) + x2 (ix3 0 0 k)

/-- The input projection. -/
theorem in_at (r : Fin 512) (j : Fin 768) :
    k0_pay7 (F := Ideal) x0 x1 x2 x3 (ix2 r j) = col (rows x0 x1 x2 r) (fun k j => x3 (ix2 k j)) j := by
  unfold col rows
  pointwise [k0_pay7]

/-- The normalised compressed query. -/
theorem cq_at (r : Fin 512) (i : Fin 384) :
    k0_pay8 (F := Ideal) x0 x1 x2 x3 x4 (ix2 r i) = cq (rows x0 x1 x2 r) (fun k j => x3 (ix2 k j)) (fun j => x4 (ix2 0 j)) i := by
  unfold cq rms
  simp only [← in_at]
  unfold k0_pay8
  generalize k0_pay7 (F := Ideal) x0 x1 x2 x3 = Z
  pointwise

/-- The normalised compressed key and value. -/
theorem ckv_at (r : Fin 512) (i : Fin 256) :
    k0_pay1 (F := Ideal) (k0_pay9 x0 x1 x2 x3) (k0_pay10 x5) (k0_pay11 x0 x1 x2 x3) (ix2 r i)
      = ckv (rows x0 x1 x2 r) (fun k j => x3 (ix2 k j)) (fun j => x5 (ix2 0 j)) i := by
  unfold ckv rms
  simp only [← in_at]
  unfold k0_pay1 k0_pay10 k0_pay11 k0_pay9
  generalize k0_pay7 (F := Ideal) x0 x1 x2 x3 = Z
  pointwise

/-- A block of the queries. -/
theorem out8 (r : Fin 512) (d : Fin 2048) :
    out0_8 x0 x1 x2 x3 x4 x5 x6 x7 (ix2 r d)
      = col (cq (rows x0 x1 x2 r) (fun k j => x3 (ix2 k j)) (fun j => x4 (ix2 0 j))) (fun i d => x6 (ix2 i d)) d := by
  unfold out0_8
  rw [View.ld_unit_zero (by decide), View.ld_unit_zero (by decide), View.ld_unit_zero (by decide), View.ld_unit_zero (by decide),
    View.ld_unit_zero (by decide), View.ld_unit_zero (by decide), View.canon_unit_zero (by decide)]
  unfold col
  simp only [← cq_at]
  unfold k0_pay5
  generalize k0_pay8 (F := Ideal) x0 x1 x2 x3 x4 = Z
  pointwise

/-- A block of the keys and values. -/
theorem out9 (r : Fin 512) (d : Fin 2048) :
    out0_9 x0 x1 x2 x3 x4 x5 x6 x7 (ix2 r d)
      = col (ckv (rows x0 x1 x2 r) (fun k j => x3 (ix2 k j)) (fun j => x5 (ix2 0 j))) (fun i d => x7 (ix2 i d)) d := by
  unfold out0_9 k0_pay13 k0_pay14 k0_pay15
  rw [View.ld_unit_zero (by decide), View.ld_unit_zero (by decide), View.ld_unit_zero (by decide), View.ld_unit_zero (by decide),
    View.ld_unit_zero (by decide), View.ld_unit_zero (by decide), View.canon_unit_zero (by decide)]
  unfold col
  simp only [← ckv_at]
  unfold k0_pay4
  generalize k0_pay1 (F := Ideal) (k0_pay9 x0 x1 x2 x3) (k0_pay10 x5) (k0_pay11 x0 x1 x2 x3) = Z
  pointwise

/-- A block of the rotary keys, in lanes of 128. -/
theorem out10 (r : Fin 512) (d : Fin 128) :
    out0_10 x0 x1 x2 x3 x4 x5 x6 x7 (ix2 r d)
      = col (rows x0 x1 x2 r) (fun k j => x3 (ix2 k j)) ⟨640 + d, by omega⟩ := by
  unfold out0_10 k0_pay12
  rw [View.ld_unit_zero (by decide), View.ld_unit_zero (by decide), View.ld_unit_zero (by decide), View.ld_unit_zero (by decide),
    View.canon_unit_zero (by decide), ← in_at]
  unfold k0_pay6 k0_pay2
  generalize k0_pay7 (F := Ideal) x0 x1 x2 x3 = Z
  pointwise

/-- A block of the compressed keys and values. -/
theorem out11 (r : Fin 512) (d : Fin 256) :
    out0_11 x0 x1 x2 x3 x4 x5 x6 x7 (ix2 r d) = ckv (rows x0 x1 x2 r) (fun k j => x3 (ix2 k j)) (fun j => x5 (ix2 0 j)) d := by
  unfold out0_11 k0_pay13 k0_pay14 k0_pay15
  rw [View.ld_unit_zero (by decide), View.ld_unit_zero (by decide), View.ld_unit_zero (by decide), View.ld_unit_zero (by decide),
    View.ld_unit_zero (by decide), View.canon_unit_zero (by decide), ← ckv_at]

/-- A block of the rotary keys. -/
theorem out12 (r : Fin 512) (d : Fin 64) :
    out0_12 x0 x1 x2 x3 x4 x5 x6 x7 (ix2 r d)
      = col (rows x0 x1 x2 r) (fun k j => x3 (ix2 k j)) ⟨640 + d, by omega⟩ := by
  unfold out0_12 k0_pay12
  rw [View.ld_unit_zero (by decide), View.ld_unit_zero (by decide), View.ld_unit_zero (by decide), View.ld_unit_zero (by decide),
    View.canon_unit_zero (by decide), ← in_at]
  unfold k0_pay3 k0_pay2
  generalize k0_pay7 (F := Ideal) x0 x1 x2 x3 = Z
  pointwise

end Cert.Kernel4Ideal.PjHead

end
-- ==== Proof.PjHost.lean ====
/-  The latent attention's weights as the kernel's region finds them. -/
module

public import proofs.«01_k».proof.Proof.Gen.Kernel4Ideal.Value
public import proofs.«01_k».proof.Proof.PjMath
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.PjHost

open Cert.Kernel4Ideal Cert.Kernel4Ideal.Gen Cert.Pj
open Idealize.ShloMosaic Idealize.ShloMosaic.TcCoe Idealize.SL.Sem

variable (m : (ℓ : Loc nD τ sig) → Buf (Elt Ideal) ℓ) (c : Dev nD)

/-- The input weights, padded on the host. -/
theorem pad_in (x : FVec Ideal S1024x704 .f32) (k : Fin 1024) (j : Fin 768) :
    truncf (F := Ideal) .bf16 (pad S1024x768 ![0, 0] ![0, 64] ![0, 0] x (sitofp (F := Ideal) .f32 (constantI S_ 32 0#32))
      pads_S1024x704_S1024x768_000_0640 h_S_) bitsLt_bf16_f32 (ix2 k j) = padIn (fun k j => x (ix2 k j)) k j := by
  unfold padIn
  rw [← zero_word]
  pointwise

/-- The query weights, padded on the host. -/
theorem pad_q (x : FVec Ideal S384x8x192 .f32) (i : Fin 384) (d : Fin 2048) :
    truncf (F := Ideal) .bf16 (shapeCast S384x2048 (pad S384x8x256 ![0, 0, 0] ![0, 0, 64] ![0, 0, 0]
      x (sitofp (F := Ideal) .f32 (constantI S_ 32 0#32)) pads_S384x8x192_S384x8x256_000_000_0640 h_S_)
      shapeCasts_S384x8x256_S384x2048) bitsLt_bf16_f32 (ix2 i d) = padQ (fun i h d => x (ix3 i h d)) i d := by
  have hd : (d : ℕ) / 256 < 8 := by omega
  unfold padQ
  rw [← zero_word]
  pointwise
  simp only [hd, true_and]

/-- The input weights. -/
theorem win_at (k : Fin 1024) (j : Fin 768) :
    V m c main_v1 (ix2 k j) = padIn (fun k j => m ((c.tc : Thread nD τ).loc main_arg3) (ix2 k j)) k j := by
  have e : V m c main_v1 = truncf (F := Ideal) .bf16 (pad S1024x768 ![0, 0] ![0, 64] ![0, 0] (m ((c.tc : Thread nD τ).loc main_arg3))
      (sitofp (F := Ideal) .f32 (constantI S_ 32 0#32)) pads_S1024x704_S1024x768_000_0640 h_S_) bitsLt_bf16_f32 := by
    simp only [V, hostOps0, hostOps0_1, hostOps0_2, hostOps0_3, hostOps0_4, List.flatten_cons, List.flatten_nil, List.cons_append, List.nil_append,
      List.append_nil]
    after_results
    rfl
  rw [e]
  exact pad_in _ k j

/-- The query weights. -/
theorem wq_at (i : Fin 384) (d : Fin 2048) :
    V m c main_v6 (ix2 i d) = padQ (fun i h d => m ((c.tc : Thread nD τ).loc main_arg6) (ix3 i h d)) i d := by
  have e : V m c main_v6 = truncf (F := Ideal) .bf16 (shapeCast S384x2048 (pad S384x8x256 ![0, 0, 0] ![0, 0, 64] ![0, 0, 0]
      (m ((c.tc : Thread nD τ).loc main_arg6)) (sitofp (F := Ideal) .f32 (constantI S_ 32 0#32)) pads_S384x8x192_S384x8x256_000_000_0640 h_S_)
      shapeCasts_S384x8x256_S384x2048) bitsLt_bf16_f32 := by
    simp only [V, hostOps0, hostOps0_1, hostOps0_2, hostOps0_3, hostOps0_4, List.flatten_cons, List.flatten_nil, List.cons_append, List.nil_append,
      List.append_nil]
    after_results
    rfl
  rw [e]
  exact pad_q _ i d

/-- The key and value weights. -/
theorem wkv_at (i : Fin 256) (d : Fin 2048) :
    V m c main_v8 (ix2 i d) = m ((c.tc : Thread nD τ).loc main_arg7) (ix3 i ⟨d / 256, by omega⟩ ⟨d % 256, by omega⟩) := by
  have e : V m c main_v8 = truncf (F := Ideal) .bf16 (shapeCast S256x2048 (m ((c.tc : Thread nD τ).loc main_arg7))
      shapeCasts_S256x8x256_S256x2048) bitsLt_bf16_f32 := by
    simp only [V, hostOps0, hostOps0_1, hostOps0_2, hostOps0_3, hostOps0_4, List.flatten_cons, List.flatten_nil, List.cons_append, List.nil_append,
      List.append_nil]
    after_results
    rfl
  rw [e]
  pointwise

/-- The query's gain. -/
theorem gq_at (i : Fin 384) : V m c main_v2 (ix2 0 i) = m ((c.tc : Thread nD τ).loc main_arg4) (ix1 i) := by
  have e : V m c main_v2 = broadcastInDim S1x384 ![1] bcast_S384_S1x384_1 (m ((c.tc : Thread nD τ).loc main_arg4)) := by
    simp only [V, hostOps0, hostOps0_1, hostOps0_2, hostOps0_3, hostOps0_4, List.flatten_cons, List.flatten_nil, List.cons_append, List.nil_append,
      List.append_nil]
    after_results
  rw [e]
  pointwise

/-- The key's gain. -/
theorem gkv_at (i : Fin 256) : V m c main_v3 (ix2 0 i) = m ((c.tc : Thread nD τ).loc main_arg5) (ix1 i) := by
  have e : V m c main_v3 = broadcastInDim S1x256 ![1] bcast_S256_S1x256_1 (m ((c.tc : Thread nD τ).loc main_arg5)) := by
    simp only [V, hostOps0, hostOps0_1, hostOps0_2, hostOps0_3, hostOps0_4, List.flatten_cons, List.flatten_nil, List.cons_append, List.nil_append,
      List.append_nil]
    after_results
  rw [e]
  pointwise

end Cert.Kernel4Ideal.PjHost

end
-- ==== Proof.PjRef.lean ====
/-  What the latent attention's projections are in the reference, element by element. -/
module

public import proofs.«01_k».proof.Proof.Gen.Reference4Ideal.Read
public import proofs.«01_k».proof.Proof.PjMath
public import Idealize.ShloMosaic.Lib.Pipeline.ValueKit
public import Idealize.ShloMosaic.Lib.Pointwise

@[expose] public section

set_option maxRecDepth 16384

noncomputable section

namespace Cert.Reference4Ideal.PjRef

open Cert.Reference4Ideal Cert.Reference4Ideal.Gen Cert.Reference4Ideal.Read Cert.Pj
open Idealize.ShloMosaic Idealize.ShloMosaic.TcCoe Idealize.SL.Sem

variable (x0 : FVec Ideal S4096x1024 .f32) (x1 x2 : FVec Ideal S1x1x1024 .f32) (x3 : FVec Ideal S1024x704 .f32)
  (x4 : FVec Ideal S384 .f32) (x5 : FVec Ideal S256 .f32) (x6 : FVec Ideal S384x8x192 .f32) (x7 : FVec Ideal S256x8x256 .f32)

/-- The row `r`, scaled and shifted. -/
def row (r : Fin 4096) (k : Fin 1024) : EReal :=
  x0 (ix2 r k) * (Ideal.ofBits .f32 0x3F800000#32 + x1 (ix3 0 0 k)) + x2 (ix3 0 0 k)

/-- The input weights with zeros after them. -/
abbrev win : Fin 1024 → Fin 768 → EReal := padIn fun k j => x3 (ix2 k j)

theorem row_at (b : Fin 16) (s : Fin 256) (k : Fin 1024) (r : Fin 4096) (h : (r : ℕ) = b * 256 + s) :
    val_main_v6 (F := Ideal) x0 x1 x2 (ix3 b s k) = row x0 x1 x2 r k := by
  have e : (⟨b * 256 + s, by omega⟩ : Fin 4096) = r := Fin.ext h.symm
  unfold row
  rw [← e]
  pointwise [val_main_v6, val_main_v5, val_main_v4, val_main_v3, val_main_v2, val_main_v1, val_main_v0, val_main_cst]

/-- The input projection. -/
theorem in_at (b : Fin 16) (s : Fin 256) (j : Fin 704) (r : Fin 4096) (h : (r : ℕ) = b * 256 + s) :
    val_main_v7 (F := Ideal) x0 x1 x2 x3 (ix3 b s j) = col (row x0 x1 x2 r) (win x3) ⟨j, by omega⟩ := by
  rw [col_padIn _ _ _ (by exact j.isLt)]
  unfold col
  simp only [← row_at x0 x1 x2 b s _ r h]
  unfold val_main_v7
  generalize val_main_v6 (F := Ideal) x0 x1 x2 = H
  pointwise

/-- The normalised compressed query. -/
theorem cq_at (b : Fin 16) (s : Fin 256) (i : Fin 384) (r : Fin 4096) (h : (r : ℕ) = b * 256 + s) :
    val_main_v23 (F := Ideal) x0 x1 x2 x3 x4 (ix3 b s i) = cq (row x0 x1 x2 r) (win x3) (fun j => x4 (ix1 j)) i := by
  have z : ∀ i : Fin 384, col (row x0 x1 x2 r) (win x3) ⟨i, by omega⟩ = val_main_v7 (F := Ideal) x0 x1 x2 x3 (ix3 b s ⟨i, by omega⟩) :=
    fun i => (in_at x0 x1 x2 x3 b s ⟨i, by omega⟩ r h).symm
  unfold cq rms
  simp only [z]
  unfold val_main_v23 val_main_v22 val_main_v21 val_main_v20 val_main_v19 val_main_v18 val_main_v17 val_main_v16 val_main_v15 val_main_v14 val_main_v13
    val_main_v12 val_main_v11 val_main_v8 val_main_cst_0 val_main_cst_1 val_main_cst_2
  generalize val_main_v7 (F := Ideal) x0 x1 x2 x3 = Z
  pointwise

/-- The normalised compressed key and value. -/
theorem ckv_at (b : Fin 16) (s : Fin 256) (i : Fin 256) (r : Fin 4096) (h : (r : ℕ) = b * 256 + s) :
    val_main_v37 (F := Ideal) x0 x1 x2 x3 x5 (ix3 b s i) = ckv (row x0 x1 x2 r) (win x3) (fun j => x5 (ix1 j)) i := by
  have z : ∀ i : Fin 256, col (row x0 x1 x2 r) (win x3) ⟨384 + i, by omega⟩ = val_main_v7 (F := Ideal) x0 x1 x2 x3 (ix3 b s ⟨384 + i, by omega⟩) :=
    fun i => (in_at x0 x1 x2 x3 b s ⟨384 + i, by omega⟩ r h).symm
  unfold ckv rms
  simp only [z]
  unfold val_main_v37 val_main_v36 val_main_v35 val_main_v34 val_main_v33 val_main_v32 val_main_v31 val_main_v30 val_main_v29 val_main_v28 val_main_v27
    val_main_v26 val_main_v25 val_main_v9 val_main_cst_3 val_main_cst_4 val_main_cst_5
  generalize val_main_v7 (F := Ideal) x0 x1 x2 x3 = Z
  pointwise

/-- The queries, each head's with zeros after them. -/
theorem q_out (r : Fin 4096) (d : Fin 2048) :
    val_main_v42 (F := Ideal) x0 x1 x2 x3 x4 x6 (ix2 r d)
      = col (cq (row x0 x1 x2 r) (win x3) fun j => x4 (ix1 j)) (padQ fun i h d => x6 (ix3 i h d)) d := by
  have hd : (d : ℕ) / 256 < 8 := by omega
  have z : ∀ i : Fin 384, cq (row x0 x1 x2 r) (win x3) (fun j => x4 (ix1 j)) i
      = val_main_v23 (F := Ideal) x0 x1 x2 x3 x4 (ix3 ⟨r / 256, by omega⟩ ⟨r % 256, by omega⟩ i) :=
    fun i => (cq_at x0 x1 x2 x3 x4 _ _ i r (by dsimp only; omega)).symm
  by_cases h : (d : ℕ) % 256 < 192
  · rw [col_padQ _ _ _ h]
    simp only [z]
    unfold val_main_v42 val_main_v41 val_main_v39 val_main_v24
    generalize val_main_v23 (F := Ideal) x0 x1 x2 x3 x4 = C
    pointwise [val_main_call0_v0, val_main_c]
    rw [dif_pos (by omega)]
  · rw [col_padQ_zero _ _ _ h]
    unfold val_main_v42 val_main_v41 val_main_v39
    generalize val_main_v24 (F := Ideal) x0 x1 x2 x3 x4 x6 = C
    pointwise [val_main_call0_v0, val_main_c]
    rw [dif_neg (by omega)]
    exact zero_word

/-- The keys and values. -/
theorem kv_out (r : Fin 4096) (d : Fin 2048) :
    val_main_v44 (F := Ideal) x0 x1 x2 x3 x5 x7 (ix2 r d)
      = col (ckv (row x0 x1 x2 r) (win x3) fun j => x5 (ix1 j)) (fun i d => x7 (ix3 i ⟨d / 256, by omega⟩ ⟨d % 256, by omega⟩)) d := by
  have z : ∀ i : Fin 256, ckv (row x0 x1 x2 r) (win x3) (fun j => x5 (ix1 j)) i
      = val_main_v37 (F := Ideal) x0 x1 x2 x3 x5 (ix3 ⟨r / 256, by omega⟩ ⟨r % 256, by omega⟩ i) :=
    fun i => (ckv_at x0 x1 x2 x3 x5 _ _ i r (by dsimp only; omega)).symm
  unfold col
  simp only [z]
  unfold val_main_v44 val_main_v43 val_main_v38
  generalize val_main_v37 (F := Ideal) x0 x1 x2 x3 x5 = C
  pointwise

/-- The compressed keys and values. -/
theorem ckv_out (r : Fin 4096) (d : Fin 256) :
    val_main_v47 (F := Ideal) x0 x1 x2 x3 x5 (ix2 r d) = ckv (row x0 x1 x2 r) (win x3) (fun j => x5 (ix1 j)) d := by
  rw [← ckv_at x0 x1 x2 x3 x5 ⟨r / 256, by omega⟩ ⟨r % 256, by omega⟩ d r (by dsimp only; omega)]
  unfold val_main_v47
  generalize val_main_v37 (F := Ideal) x0 x1 x2 x3 x5 = C
  pointwise

/-- The rotary keys. -/
theorem kr_out (r : Fin 4096) (d : Fin 64) :
    val_main_v48 (F := Ideal) x0 x1 x2 x3 (ix2 r d) = col (row x0 x1 x2 r) (win x3) ⟨640 + d, by omega⟩ := by
  rw [← in_at x0 x1 x2 x3 ⟨r / 256, by omega⟩ ⟨r % 256, by omega⟩ ⟨640 + d, by omega⟩ r (by dsimp only; omega)]
  unfold val_main_v48 val_main_v10
  generalize val_main_v7 (F := Ideal) x0 x1 x2 x3 = Z
  pointwise

/-- The rotary keys, with zeros after them. -/
theorem kp_out (r : Fin 4096) (d : Fin 128) :
    val_main_v46 (F := Ideal) x0 x1 x2 x3 (ix2 r d) = col (row x0 x1 x2 r) (win x3) ⟨640 + d, by omega⟩ := by
  by_cases h : (d : ℕ) < 64
  · rw [← in_at x0 x1 x2 x3 ⟨r / 256, by omega⟩ ⟨r % 256, by omega⟩ ⟨640 + d, by omega⟩ r (by dsimp only; omega)]
    unfold val_main_v46 val_main_v45 val_main_v40 val_main_v10
    generalize val_main_v7 (F := Ideal) x0 x1 x2 x3 = Z
    pointwise [val_main_call1_v0, val_main_c_6]
    rw [dif_pos (by omega)]
  · rw [col_padIn_zero _ _ _ (by dsimp only; omega)]
    unfold val_main_v46 val_main_v45 val_main_v40
    generalize val_main_v10 (F := Ideal) x0 x1 x2 x3 = Z
    pointwise [val_main_call1_v0, val_main_c_6]
    rw [dif_neg (by omega)]
    exact zero_word

end Cert.Reference4Ideal.PjRef

end
-- ==== Proof.PjFinal.lean ====
/-  The arrays of the latent attention's projections: every block is a block of the reference. -/
module

public import proofs.«01_k».proof.Proof.PjHead
public import proofs.«01_k».proof.Proof.PjHost
public import proofs.«01_k».proof.Proof.PjRef
public import proofs.«01_k».proof.Proof.Gen.Kernel4Ideal.Value

@[expose] public section

set_option maxRecDepth 16384

noncomputable section

namespace Cert.Kernel4Ideal.PjFinal

open Idealize.ShloMosaic Idealize.SL.Sem Cert.Kernel4Ideal Cert.Kernel4Ideal.Gen Cert.Kernel4Ideal.PjHead Cert.Kernel4Ideal.PjHost Cert.Pj
open Cert.Reference4Ideal.PjRef (row win)

variable (m : (ℓ : Loc nD τ sig) → Buf (Elt Ideal) ℓ) (c : Dev nD)

/-- The kernel's arguments. -/
abbrev a0 : FVec Ideal S4096x1024 .f32 := m ((c.tc : Thread nD τ).loc main_arg0)
abbrev a1 : FVec Ideal S1x1x1024 .f32 := m ((c.tc : Thread nD τ).loc main_arg1)
abbrev a2 : FVec Ideal S1x1x1024 .f32 := m ((c.tc : Thread nD τ).loc main_arg2)
abbrev a3 : FVec Ideal S1024x704 .f32 := m ((c.tc : Thread nD τ).loc main_arg3)
abbrev a4 : FVec Ideal S384 .f32 := m ((c.tc : Thread nD τ).loc main_arg4)
abbrev a5 : FVec Ideal S256 .f32 := m ((c.tc : Thread nD τ).loc main_arg5)
abbrev a6 : FVec Ideal S384x8x192 .f32 := m ((c.tc : Thread nD τ).loc main_arg6)
abbrev a7 : FVec Ideal S256x8x256 .f32 := m ((c.tc : Thread nD τ).loc main_arg7)

/-- The blocks of a grid point `t`: 512 rows. -/
theorem idx : ∀ t : Fin cfg0.N, win0_0.index t = ![t.val, 0] ∧ win0_1.index t = ![0, 0, 0] ∧ win0_2.index t = ![0, 0, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] :=
  (by decide +kernel : ∀ t : Fin grid0.N, _)

/-- A block's row is a row of the array. -/
theorem rows_eq (t : Fin cfg0.N) (r : Fin 512) (q : Fin 4096) (h : (q : ℕ) = t.val * 512 + r) :
    rows (iblk m c 0 t) (iblk m c 1 t) (iblk m c 2 t) r = row (a0 m c) (a1 m c) (a2 m c) q := by
  funext k
  have e0 : iblk m c 0 t (ix2 r k) = V m c main_arg0 (ix2 q k) := by blk_point [iblk, idx t]
  have e1 : iblk m c 1 t (ix3 0 0 k) = V m c main_arg1 (ix3 0 0 k) := by blk_point [iblk, idx t]
  have e2 : iblk m c 2 t (ix3 0 0 k) = V m c main_arg2 (ix3 0 0 k) := by blk_point [iblk, idx t]
  unfold rows row
  rw [e0, e1, e2, V_main_arg0, V_main_arg1, V_main_arg2]

theorem w_eq (t : Fin cfg0.N) : (fun k j => iblk m c 3 t (ix2 k j)) = win (a3 m c) := by
  funext k j
  exact Eq.trans (by blk_point [iblk, idx t]) (win_at m c k j)

theorem gq_eq (t : Fin cfg0.N) : (fun j => iblk m c 4 t (ix2 0 j)) = fun j => a4 m c (ix1 j) := by
  funext j
  exact Eq.trans (by blk_point [iblk, idx t]) (gq_at m c j)

theorem gkv_eq (t : Fin cfg0.N) : (fun j => iblk m c 5 t (ix2 0 j)) = fun j => a5 m c (ix1 j) := by
  funext j
  exact Eq.trans (by blk_point [iblk, idx t]) (gkv_at m c j)

theorem wq_eq (t : Fin cfg0.N) : (fun i d => iblk m c 6 t (ix2 i d)) = padQ fun i h d => a6 m c (ix3 i h d) := by
  funext i d
  exact Eq.trans (by blk_point [iblk, idx t]) (wq_at m c i d)

theorem wkv_eq (t : Fin cfg0.N) :
    (fun i d => iblk m c 7 t (ix2 i d)) = fun i (d : Fin 2048) => a7 m c (ix3 i ⟨d / 256, by omega⟩ ⟨d % 256, by omega⟩) := by
  funext i d
  exact Eq.trans (by blk_point [iblk, idx t]) (wkv_at m c i d)

/-- One element of one block of the queries, against the reference. -/
theorem point8 (t : Fin cfg0.N) (y : S512x2048.Idx) (j : S4096x2048.Idx) (hj0 : (j 0 : ℕ) = t.val * 512 + y 0) (hj1 : (j 1 : ℕ) = y 1) :
    out0_8 (iblk m c 0 t) (iblk m c 1 t) (iblk m c 2 t) (iblk m c 3 t) (iblk m c 4 t) (iblk m c 5 t) (iblk m c 6 t) (iblk m c 7 t) y
      = Cert.Reference4Ideal.Read.val_main_v42 (F := Ideal) (a0 m c) (a1 m c) (a2 m c) (a3 m c) (a4 m c) (a6 m c) j := by
  refine (congrArg _ (eq_ix2 y)).trans (Eq.trans ?_ ((congrArg _ (eq_ix2 j)).trans (Cert.Reference4Ideal.PjRef.q_out _ _ _ _ _ _ (j 0) (j 1))).symm)
  refine (out8 _ _ _ _ _ _ _ _ _ _).trans ?_
  rw [rows_eq m c t _ (j 0) hj0, w_eq, gq_eq, wq_eq]
  exact congrArg _ (Fin.ext hj1.symm)

/-- The queries are the reference's. -/
theorem final8 : (dats m 0 c).arrAt 8 cfg0.N
    = Cert.Reference4Ideal.Read.val_main_v42 (F := Ideal) (a0 m c) (a1 m c) (a2 m c) (a3 m c) (a4 m c) (a6 m c) := by
  refine (dats m 0 c).arrAt_eq_of_covers 8 _ (by decide +kernel) fun t _ y => ?_
  blk_simp
  rw [after0_8]
  refine point8 m c t y _ ?_ ?_ <;> (blk_simp [idx t] <;> try omega)

/-- One element of one block of the keys and values, against the reference. -/
theorem point9 (t : Fin cfg0.N) (y : S512x2048.Idx) (j : S4096x2048.Idx) (hj0 : (j 0 : ℕ) = t.val * 512 + y 0) (hj1 : (j 1 : ℕ) = y 1) :
    out0_9 (iblk m c 0 t) (iblk m c 1 t) (iblk m c 2 t) (iblk m c 3 t) (iblk m c 4 t) (iblk m c 5 t) (iblk m c 6 t) (iblk m c 7 t) y
      = Cert.Reference4Ideal.Read.val_main_v44 (F := Ideal) (a0 m c) (a1 m c) (a2 m c) (a3 m c) (a5 m c) (a7 m c) j := by
  refine (congrArg _ (eq_ix2 y)).trans (Eq.trans ?_ ((congrArg _ (eq_ix2 j)).trans (Cert.Reference4Ideal.PjRef.kv_out _ _ _ _ _ _ (j 0) (j 1))).symm)
  refine (out9 _ _ _ _ _ _ _ _ _ _).trans ?_
  rw [rows_eq m c t _ (j 0) hj0, w_eq, gkv_eq, wkv_eq]
  exact congrArg _ (Fin.ext hj1.symm)

/-- The keys and values are the reference's. -/
theorem final9 : (dats m 0 c).arrAt 9 cfg0.N
    = Cert.Reference4Ideal.Read.val_main_v44 (F := Ideal) (a0 m c) (a1 m c) (a2 m c) (a3 m c) (a5 m c) (a7 m c) := by
  refine (dats m 0 c).arrAt_eq_of_covers 9 _ (by decide +kernel) fun t _ y => ?_
  blk_simp
  rw [after0_9]
  refine point9 m c t y _ ?_ ?_ <;> (blk_simp [idx t] <;> try omega)

/-- One element of one block of the rotary keys in lanes, against the reference. -/
theorem point10 (t : Fin cfg0.N) (y : S512x128.Idx) (j : S4096x128.Idx) (hj0 : (j 0 : ℕ) = t.val * 512 + y 0) (hj1 : (j 1 : ℕ) = y 1) :
    out0_10 (iblk m c 0 t) (iblk m c 1 t) (iblk m c 2 t) (iblk m c 3 t) (iblk m c 4 t) (iblk m c 5 t) (iblk m c 6 t) (iblk m c 7 t) y
      = Cert.Reference4Ideal.Read.val_main_v46 (F := Ideal) (a0 m c) (a1 m c) (a2 m c) (a3 m c) j := by
  refine (congrArg _ (eq_ix2 y)).trans (Eq.trans ?_ ((congrArg _ (eq_ix2 j)).trans (Cert.Reference4Ideal.PjRef.kp_out _ _ _ _ (j 0) (j 1))).symm)
  refine (out10 _ _ _ _ _ _ _ _ _ _).trans ?_
  rw [rows_eq m c t _ (j 0) hj0, w_eq]
  exact congrArg _ (Fin.ext (congrArg (640 + ·) hj1.symm))

/-- The rotary keys in lanes are the reference's. -/
theorem final10 : (dats m 0 c).arrAt 10 cfg0.N
    = Cert.Reference4Ideal.Read.val_main_v46 (F := Ideal) (a0 m c) (a1 m c) (a2 m c) (a3 m c) := by
  refine (dats m 0 c).arrAt_eq_of_covers 10 _ (by decide +kernel) fun t _ y => ?_
  blk_simp
  rw [after0_10]
  refine point10 m c t y _ ?_ ?_ <;> (blk_simp [idx t] <;> try omega)

/-- One element of one block of the compressed keys and values, against the reference. -/
theorem point11 (t : Fin cfg0.N) (y : S512x256.Idx) (j : S4096x256.Idx) (hj0 : (j 0 : ℕ) = t.val * 512 + y 0) (hj1 : (j 1 : ℕ) = y 1) :
    out0_11 (iblk m c 0 t) (iblk m c 1 t) (iblk m c 2 t) (iblk m c 3 t) (iblk m c 4 t) (iblk m c 5 t) (iblk m c 6 t) (iblk m c 7 t) y
      = Cert.Reference4Ideal.Read.val_main_v47 (F := Ideal) (a0 m c) (a1 m c) (a2 m c) (a3 m c) (a5 m c) j := by
  refine (congrArg _ (eq_ix2 y)).trans (Eq.trans ?_ ((congrArg _ (eq_ix2 j)).trans (Cert.Reference4Ideal.PjRef.ckv_out _ _ _ _ _ (j 0) (j 1))).symm)
  refine (out11 _ _ _ _ _ _ _ _ _ _).trans ?_
  rw [rows_eq m c t _ (j 0) hj0, w_eq, gkv_eq]
  exact congrArg _ (Fin.ext hj1.symm)

/-- The compressed keys and values are the reference's. -/
theorem final11 : (dats m 0 c).arrAt 11 cfg0.N
    = Cert.Reference4Ideal.Read.val_main_v47 (F := Ideal) (a0 m c) (a1 m c) (a2 m c) (a3 m c) (a5 m c) := by
  refine (dats m 0 c).arrAt_eq_of_covers 11 _ (by decide +kernel) fun t _ y => ?_
  blk_simp
  rw [after0_11]
  refine point11 m c t y _ ?_ ?_ <;> (blk_simp [idx t] <;> try omega)

/-- One element of one block of the rotary keys, against the reference. -/
theorem point12 (t : Fin cfg0.N) (y : S512x64.Idx) (j : S4096x64.Idx) (hj0 : (j 0 : ℕ) = t.val * 512 + y 0) (hj1 : (j 1 : ℕ) = y 1) :
    out0_12 (iblk m c 0 t) (iblk m c 1 t) (iblk m c 2 t) (iblk m c 3 t) (iblk m c 4 t) (iblk m c 5 t) (iblk m c 6 t) (iblk m c 7 t) y
      = Cert.Reference4Ideal.Read.val_main_v48 (F := Ideal) (a0 m c) (a1 m c) (a2 m c) (a3 m c) j := by
  refine (congrArg _ (eq_ix2 y)).trans (Eq.trans ?_ ((congrArg _ (eq_ix2 j)).trans (Cert.Reference4Ideal.PjRef.kr_out _ _ _ _ (j 0) (j 1))).symm)
  refine (out12 _ _ _ _ _ _ _ _ _ _).trans ?_
  rw [rows_eq m c t _ (j 0) hj0, w_eq]
  exact congrArg _ (Fin.ext (congrArg (640 + ·) hj1.symm))

/-- The rotary keys are the reference's. -/
theorem final12 : (dats m 0 c).arrAt 12 cfg0.N
    = Cert.Reference4Ideal.Read.val_main_v48 (F := Ideal) (a0 m c) (a1 m c) (a2 m c) (a3 m c) := by
  refine (dats m 0 c).arrAt_eq_of_covers 12 _ (by decide +kernel) fun t _ y => ?_
  blk_simp
  rw [after0_12]
  refine point12 m c t y _ ?_ ?_ <;> (blk_simp [idx t] <;> try omega)

end Cert.Kernel4Ideal.PjFinal

end
-- ==== Proof.Pj.lean ====
/-  The claims about the latent attention's projections. -/
module

public import proofs.«01_k».proof.Defs
public import proofs.«01_k».proof.Proof.PjFinal
public import proofs.«01_k».proof.Proof.Gen.Kernel4
public import proofs.«01_k».proof.Proof.Gen.Kernel4.Frame
public import Idealize.ShloMosaic.Lib.Claim

@[expose] public section

noncomputable section

namespace Cert.Proof.Pj

open Idealize.ShloMosaic Idealize.SL.Sem
open Cert.Kernel4Ideal.PjFinal Cert.Kernel4Ideal.Value Cert.Reference4Ideal.Read

/-- The kernel runs, whatever its floats are. -/
theorem frameP : Cert.quiescent_Kernel4 := fun m ρ _ => Cert.Kernel4.Gen.frame m ρ

/-- The ideal kernel runs. -/
theorem framePI : Cert.quiescent_Kernel4Ideal := fun m ρ _ => Cert.Kernel4Ideal.Gen.frame m ρ

/-- The ideal reference runs. -/
theorem frameRI : Cert.quiescent_Reference4Ideal := fun m g _ =>
  (θ_run Cert.Reference4Ideal.defs _ _).mono (fun r h => ⟨fun c => (h c).2.2.2.2.2, sem_eq_zero_of_no_sems (by decide) r.2⟩)
    (Cert.Reference4Ideal.Value.run (F := Ideal) m g)

/-- Over the extended reals the kernel and the reference compute the same projections. -/
theorem algebraic : Cert.algebraic_Kernel4Ideal_Reference4Ideal := by
  intro m g m' g' hpre hagree
  refine ⟨fun c => val_main_v42 (F := Ideal) (a0 m c) (a1 m c) (a2 m c) (a3 m c) (a4 m c) (a6 m c),
    fun c => val_main_v44 (F := Ideal) (a0 m c) (a1 m c) (a2 m c) (a3 m c) (a5 m c) (a7 m c),
    fun c => val_main_v46 (F := Ideal) (a0 m c) (a1 m c) (a2 m c) (a3 m c),
    fun c => val_main_v47 (F := Ideal) (a0 m c) (a1 m c) (a2 m c) (a3 m c) (a5 m c),
    fun c => val_main_v48 (F := Ideal) (a0 m c) (a1 m c) (a2 m c) (a3 m c), ?_, ?_⟩
  · refine (θ_run _ _ _).mono (fun r h c => ?_) (Cert.Kernel4Ideal.Gen.run_main m g)
    exact ⟨(post8 m r h c).trans (final8 m c),
      (post9 m r h c).trans (final9 m c),
      (post10 m r h c).trans (final10 m c),
      (post11 m r h c).trans (final11 m c),
      (post12 m r h c).trans (final12 m c),
      kept_main_arg0 m r h c, kept_main_arg1 m r h c, kept_main_arg2 m r h c, kept_main_arg3 m r h c, kept_main_arg4 m r h c, kept_main_arg5 m r h c, kept_main_arg6 m r h c, kept_main_arg7 m r h c⟩
  · refine (θ_run _ _ _).mono (fun r h c => ?_) (Cert.Reference4Ideal.Value.run m' g')
    obtain ⟨h0, h1, h2, h3, h4, h5, h6, h7⟩ := hagree c
    obtain ⟨e0, e1, e2, e3, e4, e⟩ := h c
    refine ⟨?_, ?_, ?_, ?_, ?_, e⟩
    · refine e0.trans ((val_main_v42_eq _ _ _ _ _ _).trans ?_)
      rw [h0, h1, h2, h3, h4, h6]
    · refine e1.trans ((val_main_v44_eq _ _ _ _ _ _).trans ?_)
      rw [h0, h1, h2, h3, h5, h7]
    · refine e2.trans ((val_main_v46_eq _ _ _ _).trans ?_)
      rw [h0, h1, h2, h3]
    · refine e3.trans ((val_main_v47_eq _ _ _ _ _).trans ?_)
      rw [h0, h1, h2, h3, h5]
    · refine e4.trans ((val_main_v48_eq _ _ _ _).trans ?_)
      rw [h0, h1, h2, h3]

end Cert.Proof.Pj

end
-- ==== Proof.SwMath.lean ====
/-  The windowed attention's projection, one element, over the extended reals. -/
module

public import proofs.«01_k».proof.Proof.PjMath

@[expose] public section

noncomputable section

namespace Cert.Sw

open Idealize.ShloMosaic Cert.Pj

/-- The weights' columns in lanes: the queries' 1024, then 256 of each key head (its 64 columns, 128 zeros, its 64 columns),
    then 128 of each value head (its 64 columns twice). -/
def ext (w : Fin 1024 → Fin 1536 → EReal) (k : Fin 1024) (j : Fin 2560) : EReal :=
  if h : (j : ℕ) < 1024 then w k ⟨j, by omega⟩
  else if h2 : (j : ℕ) < 2048 then
    if (j : ℕ) % 256 < 64 ∨ 192 ≤ (j : ℕ) % 256 then w k ⟨1024 + ((j - 1024) / 256 * 64 + j % 64), by omega⟩ else 0
  else w k ⟨1280 + ((j - 2048) / 128 * 64 + j % 64), by omega⟩

variable (h : Fin 1024 → EReal) (w : Fin 1024 → Fin 1536 → EReal)

/-- A lane of the queries. -/
theorem ext_q (j : Fin 2560) (i : Fin 1536) (hj : (j : ℕ) < 1024) (hi : (i : ℕ) = j) : col h (ext w) j = col h w i := by
  rw [show i = ⟨j, by omega⟩ from Fin.ext hi]
  simp only [col, ext, dif_pos hj]

/-- A lane that holds a key. -/
theorem ext_k (j : Fin 2560) (i : Fin 1536) (h1 : 1024 ≤ (j : ℕ)) (h2 : (j : ℕ) < 2048)
    (hl : (j : ℕ) % 256 < 64 ∨ 192 ≤ (j : ℕ) % 256) (hi : (i : ℕ) = 1024 + ((j - 1024) / 256 * 64 + j % 64)) :
    col h (ext w) j = col h w i := by
  rw [show i = ⟨1024 + ((j - 1024) / 256 * 64 + j % 64), by omega⟩ from Fin.ext hi]
  simp only [col, ext, dif_neg (not_lt.mpr h1), dif_pos h2, if_pos hl]

/-- A lane of zeros between the two copies of a key. -/
theorem ext_zero (j : Fin 2560) (h1 : 1024 ≤ (j : ℕ)) (h2 : (j : ℕ) < 2048)
    (hl : ¬((j : ℕ) % 256 < 64 ∨ 192 ≤ (j : ℕ) % 256)) : col h (ext w) j = 0 := by
  simp only [col, ext, dif_neg (not_lt.mpr h1), dif_pos h2, if_neg hl, mul_zero, Finset.sum_const_zero]

/-- A lane that holds a value. -/
theorem ext_v (j : Fin 2560) (i : Fin 1536) (h1 : 2048 ≤ (j : ℕ)) (hi : (i : ℕ) = 1280 + ((j - 2048) / 128 * 64 + j % 64)) :
    col h (ext w) j = col h w i := by
  rw [show i = ⟨1280 + ((j - 2048) / 128 * 64 + j % 64), by omega⟩ from Fin.ext hi]
  simp only [col, ext, dif_neg (show ¬(j : ℕ) < 1024 by omega), dif_neg (not_lt.mpr h1)]

end Cert.Sw

end
-- ==== Proof.SwHead.lean ====
/-  What one grid point of the windowed attention's projection stores, element by element. -/
module

public import proofs.«01_k».proof.Proof.Gen.Kernel5Ideal.Value
public import proofs.«01_k».proof.Proof.SwMath
public import Idealize.ShloMosaic.Lib.Pipeline.ValueKit
public import Idealize.ShloMosaic.Lib.Pointwise

@[expose] public section

set_option maxRecDepth 16384

noncomputable section

namespace Cert.Kernel5Ideal.SwHead

open Cert.Kernel5Ideal Cert.Kernel5Ideal.Gen Cert.Pj
open Idealize.ShloMosaic Idealize.ShloMosaic.TcCoe Idealize.SL.Sem

variable (x0 : Vec Ideal S512x1024 .f32) (x1 x2 : Vec Ideal S1x1x1024 .f32) (x3 : Vec Ideal S1024x2560 .bf16)

/-- A block's row, scaled and shifted. -/
def rows (r : Fin 512) (k : Fin 1024) : EReal := x0 (ix2 r k) * (Ideal.ofBits .f32 0x3F800000#32 + x1 (ix3 0 0 k)) + x2 (ix3 0 0 k)

/-- The projection. -/
theorem z_at (r : Fin 512) (j : Fin 2560) :
    k0_pay4 (F := Ideal) x0 x1 x2 x3 (ix2 r j) = col (rows x0 x1 x2 r) (fun k j => x3 (ix2 k j)) j := by
  unfold col rows
  pointwise [k0_pay4]

/-- A block of the queries. -/
theorem out4 (r : Fin 512) (d : Fin 1024) :
    out0_4 x0 x1 x2 x3 (ix2 r d) = col (rows x0 x1 x2 r) (fun k j => x3 (ix2 k j)) ⟨d, by omega⟩ := by
  unfold out0_4 k0_pay10
  rw [View.ld_unit_zero (by decide), View.ld_unit_zero (by decide), View.ld_unit_zero (by decide), View.ld_unit_zero (by decide),
    View.canon_unit_zero (by decide), ← z_at]
  unfold k0_pay2
  generalize k0_pay4 (F := Ideal) x0 x1 x2 x3 = Z
  pointwise

/-- A block of the keys in lanes. -/
theorem out5 (r : Fin 512) (d : Fin 1024) :
    out0_5 x0 x1 x2 x3 (ix2 r d) = col (rows x0 x1 x2 r) (fun k j => x3 (ix2 k j)) ⟨1024 + d, by omega⟩ := by
  unfold out0_5 k0_pay10
  rw [View.ld_unit_zero (by decide), View.ld_unit_zero (by decide), View.ld_unit_zero (by decide), View.ld_unit_zero (by decide),
    View.canon_unit_zero (by decide), ← z_at]
  unfold k0_pay3
  generalize k0_pay4 (F := Ideal) x0 x1 x2 x3 = Z
  pointwise

/-- A block of the values in lanes. -/
theorem out6 (r : Fin 512) (d : Fin 512) :
    out0_6 x0 x1 x2 x3 (ix2 r d) = col (rows x0 x1 x2 r) (fun k j => x3 (ix2 k j)) ⟨2048 + d, by omega⟩ := by
  unfold out0_6 k0_pay10
  rw [View.ld_unit_zero (by decide), View.ld_unit_zero (by decide), View.ld_unit_zero (by decide), View.ld_unit_zero (by decide),
    View.canon_unit_zero (by decide), ← z_at]
  unfold k0_pay1
  generalize k0_pay4 (F := Ideal) x0 x1 x2 x3 = Z
  pointwise

/-- The first half of the lanes. -/
theorem half_at (r : Fin 512) (d : Fin 128) : (k0_pay5 (ix2 r d) = 1#1) ↔ (d : ℕ) < 64 := by
  unfold k0_pay5
  pointwise
  revert d
  decide

/-- A choice between two lanes of the projection, by the half of the 128 lanes that the entry lies in. -/
theorem pick (Z : FVec Ideal S512x2560 .f32) (o p : ℕ) (ho : S512x2560.Slices ![0, o] S512x128) (hp : S512x2560.Slices ![0, p] S512x128)
    (x : S512x128.Idx) (r : Fin 512) (j : Fin 2560) (h0 : (r : ℕ) = x 0) (h : (j : ℕ) = (if (x 1 : ℕ) < 64 then o else p) + x 1) :
    select k0_pay5 (extractStridedSlice S512x128 ![0, o] Z ho) (extractStridedSlice S512x128 ![0, p] Z hp) x = Z (ix2 r j) := by
  obtain ⟨a, b, rfl⟩ : ∃ a b, x = ix2 a b := ⟨x 0, x 1, eq_ix2 x⟩
  have hb := half_at a b
  generalize k0_pay5 = M at hb ⊢
  pointwise
  replace h0 : (r : ℕ) = a := h0
  replace h : (j : ℕ) = (if (b : ℕ) < 64 then o else p) + b := h
  obtain rfl : r = a := Fin.ext h0
  unfold Scalar.select
  by_cases hl : (b : ℕ) < 64
  · rw [if_pos hl] at h
    exact (if_pos (hb.mpr hl)).trans <| congrArg (fun i => Z (ix2 r i)) (Fin.ext h.symm)
  · rw [if_neg hl] at h
    exact (if_neg (mt hb.mp hl)).trans <| congrArg (fun i => Z (ix2 r i)) (Fin.ext h.symm)

/-- A block of the keys: the lane where the projection holds each. -/
theorem out7 (y : S512x256.Idx) (r : Fin 512) (j : Fin 2560) (hr : (r : ℕ) = y 0)
    (hj : (j : ℕ) = 1024 + ((y 1 : ℕ) / 128 * 512 + (if (y 1 : ℕ) % 128 < 64 then 0 else 384) + (y 1 : ℕ) % 128)) :
    out0_7 x0 x1 x2 x3 y = col (rows x0 x1 x2 r) (fun k j => x3 (ix2 k j)) j := by
  rw [← z_at]
  unfold out0_7
  rw [View.ld_unit_zero (by decide), View.ld_unit_zero (by decide), View.ld_unit_zero (by decide), View.ld_unit_zero (by decide)]
  canon_tiles x h
  · exact pick _ 1536 1920 _ _ x _ j (by omega) (by split_ifs at hj ⊢ <;> omega)
  · exact pick _ 1024 1408 _ _ x _ j (by omega) (by split_ifs at hj ⊢ <;> omega)

/-- A block of the values: the lane where the projection holds each. -/
theorem out8 (y : S512x256.Idx) (r : Fin 512) (j : Fin 2560) (hr : (r : ℕ) = y 0)
    (hj : (j : ℕ) = 2048 + ((y 1 : ℕ) / 128 * 256 + (if (y 1 : ℕ) % 128 < 64 then 0 else 128) + (y 1 : ℕ) % 128)) :
    out0_8 x0 x1 x2 x3 y = col (rows x0 x1 x2 r) (fun k j => x3 (ix2 k j)) j := by
  rw [← z_at]
  unfold out0_8
  rw [View.ld_unit_zero (by decide), View.ld_unit_zero (by decide), View.ld_unit_zero (by decide), View.ld_unit_zero (by decide)]
  canon_tiles x h
  · exact pick _ 2304 2432 _ _ x _ j (by omega) (by split_ifs at hj ⊢ <;> omega)
  · exact pick _ 2048 2176 _ _ x _ j (by omega) (by split_ifs at hj ⊢ <;> omega)

end Cert.Kernel5Ideal.SwHead

end
-- ==== Proof.SwHost.lean ====
/-  The windowed attention's weights as the kernel's region finds them. -/
module

public import proofs.«01_k».proof.Proof.Gen.Kernel5Ideal.Value
public import proofs.«01_k».proof.Proof.SwMath
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.SwHost

open Cert.Kernel5Ideal Cert.Kernel5Ideal.Gen Cert.Sw
open Idealize.ShloMosaic Idealize.ShloMosaic.TcCoe Idealize.SL.Sem

variable (m : (ℓ : Loc nD τ sig) → Buf (Elt Ideal) ℓ) (c : Dev nD) (x : FVec Ideal S1024x1536 .f32)

/-- The key weights, one head per row of a head. -/
def keys : FVec Ideal S1024x4x64 .f32 :=
  shapeCast S1024x4x64 (extractStridedSlice S1024x256 ![0, 1024] x slices_S1024x1536_S1024x256_0_1024) shapeCasts_S1024x256_S1024x4x64

/-- The value weights, one head per row of a head. -/
def vals : FVec Ideal S1024x4x64 .f32 :=
  shapeCast S1024x4x64 (extractStridedSlice S1024x256 ![0, 1280] x slices_S1024x1536_S1024x256_0_1280) shapeCasts_S1024x256_S1024x4x64

/-- A copy of a head's weights as one of several. -/
def part (y : FVec Ideal S1024x4x64 .f32) : FVec Ideal S1024x4x1x64 .f32 :=
  broadcastInDim S1024x4x1x64 ![0, 1, 3] bcast_S1024x4x64_S1024x4x1x64_0_1_3 y

/-- Zeros in the shape of a head's weights. -/
def zeros : FVec Ideal S1024x4x64 .f32 :=
  broadcastInDim S1024x4x64 ![] bcast_S_S1024x4x64 (constant (F := Ideal) S_ .f32 0x00000000#32)

/-- The key weights in lanes. -/
def keyLanes : FVec Ideal S1024x1024 .f32 :=
  shapeCast S1024x1024 (concatenate S1024x4x4x64 2 [⟨S1024x4x1x64, part (keys x)⟩, ⟨S1024x4x1x64, part zeros⟩, ⟨S1024x4x1x64, part zeros⟩,
    ⟨S1024x4x1x64, part (keys x)⟩] concatenates_S1024x4x1x64_S1024x4x1x64_S1024x4x1x64_S1024x4x1x64_S1024x4x4x64_d2)
    shapeCasts_S1024x4x4x64_S1024x1024

/-- The value weights in lanes. -/
def valLanes : FVec Ideal S1024x512 .f32 :=
  shapeCast S1024x512 (concatenate S1024x4x2x64 2 [⟨S1024x4x1x64, part (vals x)⟩, ⟨S1024x4x1x64, part (vals x)⟩]
    concatenates_S1024x4x1x64_S1024x4x1x64_S1024x4x2x64_d2) shapeCasts_S1024x4x2x64_S1024x512

/-- All the weights in lanes. -/
def lanes : FVec Ideal S1024x2560 .bf16 :=
  truncf .bf16 (concatenate S1024x2560 1 [⟨S1024x1024, extractStridedSlice S1024x1024 ![0, 0] x slices_S1024x1536_S1024x1024_0_0⟩,
    ⟨S1024x1024, keyLanes x⟩, ⟨S1024x512, valLanes x⟩] concatenates_S1024x1024_S1024x1024_S1024x512_S1024x2560_d1) bitsLt_bf16_f32

theorem keyLanes_at (k : Fin 1024) (j : Fin 1024) :
    keyLanes x (ix2 k j) = if (j : ℕ) % 256 < 64 ∨ 192 ≤ (j : ℕ) % 256 then x (ix2 k ⟨1024 + (j / 256 * 64 + j % 64), by omega⟩) else 0 := by
  unfold keyLanes part zeros keys
  pointwise
  split_ifs <;> first
    | (exfalso; omega)
    | rfl

theorem valLanes_at (k : Fin 1024) (j : Fin 512) :
    valLanes x (ix2 k j) = x (ix2 k ⟨1280 + (j / 128 * 64 + j % 64), by omega⟩) := by
  unfold valLanes part vals
  pointwise
  split_ifs <;> rfl

theorem lanes_at (k : Fin 1024) (j : Fin 2560) : lanes x (ix2 k j) = ext (fun k j => x (ix2 k j)) k j := by
  unfold lanes ext
  pointwise
  by_cases h1 : (j : ℕ) < 1024
  · rw [dif_pos h1, dif_pos h1]
  rw [dif_neg h1, dif_neg h1]
  by_cases h2 : (j : ℕ) < 2048
  · rw [dif_pos (by omega), dif_pos h2, keyLanes_at]
    have e : ((j : ℕ) - 1024) % 256 = j % 256 := by omega
    have e' : ((j : ℕ) - 1024) % 64 = j % 64 := by omega
    simp only [e, e']
  · rw [dif_neg (by omega), dif_neg h2, valLanes_at]
    exact congrArg (fun i => x (ix2 k i)) (Fin.ext (by dsimp only; omega))

/-- The weights in lanes are what the region reads. -/
theorem w_at (k : Fin 1024) (j : Fin 2560) :
    V m c main_v17 (ix2 k j) = ext (fun k j => m ((c.tc : Thread nD τ).loc main_arg3) (ix2 k j)) k j := by
  have e : V m c main_v17 = lanes (m ((c.tc : Thread nD τ).loc main_arg3)) := by
    simp only [V, hostOps0]
    after_results
    rfl
  rw [e]
  exact lanes_at _ k j

end Cert.Kernel5Ideal.SwHost

end
-- ==== Proof.SwRef.lean ====
/-  What the windowed attention's projection is in the reference, element by element. -/
module

public import proofs.«01_k».proof.Proof.Gen.Reference5Ideal.Read
public import proofs.«01_k».proof.Proof.SwMath
public import Idealize.ShloMosaic.Lib.Pipeline.ValueKit
public import Idealize.ShloMosaic.Lib.Pointwise

@[expose] public section

set_option maxRecDepth 16384

noncomputable section

namespace Cert.Reference5Ideal.SwRef

open Cert.Reference5Ideal Cert.Reference5Ideal.Gen Cert.Reference5Ideal.Read Cert.Pj Cert.Sw
open Idealize.ShloMosaic Idealize.ShloMosaic.TcCoe Idealize.SL.Sem

variable (x0 : FVec Ideal S4096x1024 .f32) (x1 x2 : FVec Ideal S1x1x1024 .f32) (x3 : FVec Ideal S1024x1536 .f32)

/-- The row `r`, scaled and shifted. -/
def row (r : Fin 4096) (k : Fin 1024) : EReal :=
  x0 (ix2 r k) * (Ideal.ofBits .f32 0x3F800000#32 + x1 (ix3 0 0 k)) + x2 (ix3 0 0 k)

/-- The weights' columns. -/
abbrev wt : Fin 1024 → Fin 1536 → EReal := fun k j => x3 (ix2 k j)

theorem row_at (b : Fin 16) (s : Fin 256) (k : Fin 1024) (r : Fin 4096) (h : (r : ℕ) = b * 256 + s) :
    val_main_v6 (F := Ideal) x0 x1 x2 (ix3 b s k) = row x0 x1 x2 r k := by
  have e : (⟨b * 256 + s, by omega⟩ : Fin 4096) = r := Fin.ext h.symm
  unfold row
  rw [← e]
  pointwise [val_main_v6, val_main_v5, val_main_v4, val_main_v3, val_main_v2, val_main_v1, val_main_v0, val_main_cst]

/-- The projection. -/
theorem z_at (b : Fin 16) (s : Fin 256) (j : Fin 1536) (r : Fin 4096) (h : (r : ℕ) = b * 256 + s) :
    val_main_v7 (F := Ideal) x0 x1 x2 x3 (ix3 b s j) = col (row x0 x1 x2 r) (wt x3) j := by
  unfold col
  simp only [← row_at x0 x1 x2 b s _ r h]
  unfold val_main_v7
  generalize val_main_v6 (F := Ideal) x0 x1 x2 = H
  pointwise

/-- The projection of the row `r`, as one entry of the batch's array. -/
theorem z_row (r : Fin 4096) (j : Fin 1536) :
    col (row x0 x1 x2 r) (wt x3) j = val_main_v7 (F := Ideal) x0 x1 x2 x3 (ix3 ⟨r / 256, by omega⟩ ⟨r % 256, by omega⟩ j) :=
  (z_at x0 x1 x2 x3 _ _ j r (by dsimp only; omega)).symm

/-- The queries. -/
theorem q_out (r : Fin 4096) (d : Fin 1024) :
    val_main_v17 (F := Ideal) x0 x1 x2 x3 (ix2 r d) = col (row x0 x1 x2 r) (ext (wt x3)) ⟨d, by omega⟩ := by
  rw [ext_q _ _ _ ⟨d, by omega⟩ (by exact d.isLt) rfl, z_row]
  unfold val_main_v17 val_main_v16 val_main_v8
  generalize val_main_v7 (F := Ideal) x0 x1 x2 x3 = Z
  pointwise

/-- The keys. -/
theorem kr_out (r : Fin 4096) (d : Fin 256) :
    val_main_v22 (F := Ideal) x0 x1 x2 x3 (ix2 r d) = col (row x0 x1 x2 r) (wt x3) ⟨1024 + d, by omega⟩ := by
  rw [z_row]
  unfold val_main_v22 val_main_v9
  generalize val_main_v7 (F := Ideal) x0 x1 x2 x3 = Z
  pointwise

/-- The values. -/
theorem vr_out (r : Fin 4096) (d : Fin 256) :
    val_main_v23 (F := Ideal) x0 x1 x2 x3 (ix2 r d) = col (row x0 x1 x2 r) (wt x3) ⟨1280 + d, by omega⟩ := by
  rw [z_row]
  unfold val_main_v23 val_main_v10
  generalize val_main_v7 (F := Ideal) x0 x1 x2 x3 = Z
  pointwise

/-- One entry of the keys by heads. -/
theorem k_head (r : Fin 4096) (g : Fin 4) (d : Fin 64) :
    val_main_v11 (F := Ideal) x0 x1 x2 x3 (ix3 r g d) = col (row x0 x1 x2 r) (wt x3) ⟨1024 + (g * 64 + d), by omega⟩ := by
  rw [z_row]
  unfold val_main_v11 val_main_v9
  generalize val_main_v7 (F := Ideal) x0 x1 x2 x3 = Z
  pointwise

/-- One entry of the values by heads. -/
theorem v_head (r : Fin 4096) (g : Fin 4) (d : Fin 64) :
    val_main_v12 (F := Ideal) x0 x1 x2 x3 (ix3 r g d) = col (row x0 x1 x2 r) (wt x3) ⟨1280 + (g * 64 + d), by omega⟩ := by
  rw [z_row]
  unfold val_main_v12 val_main_v10
  generalize val_main_v7 (F := Ideal) x0 x1 x2 x3 = Z
  pointwise

/-- The keys in lanes. -/
theorem k_out (r : Fin 4096) (d : Fin 1024) :
    val_main_v19 (F := Ideal) x0 x1 x2 x3 (ix2 r d) = col (row x0 x1 x2 r) (ext (wt x3)) ⟨1024 + d, by omega⟩ := by
  by_cases hl : (d : ℕ) % 256 < 64 ∨ 192 ≤ (d : ℕ) % 256
  · rw [ext_k _ _ _ ⟨1024 + (d / 256 * 64 + d % 64), by omega⟩ (by dsimp only; omega) (by dsimp only; omega) (by dsimp only; omega)
      (by dsimp only; omega)]
    have z := k_head x0 x1 x2 x3 r ⟨d / 256, by omega⟩ ⟨d % 64, by omega⟩
    rw [← z]
    unfold val_main_v19 val_main_v18 val_main_v14
    generalize val_main_v11 (F := Ideal) x0 x1 x2 x3 = K
    pointwise [val_main_v13, val_main_cst_0]
    split_ifs <;> first
      | (exfalso; omega)
      | rfl
      | exact congrArg (fun i => K (ix3 r _ i)) (Fin.ext (by dsimp only; omega))
  · rw [ext_zero _ _ _ (by dsimp only; omega) (by dsimp only; omega) (by dsimp only; omega)]
    unfold val_main_v19 val_main_v18 val_main_v14
    generalize val_main_v11 (F := Ideal) x0 x1 x2 x3 = K
    pointwise [val_main_v13, val_main_cst_0]
    split_ifs <;> first
      | (exfalso; omega)
      | rfl
      | exact congrArg (fun i => K (ix3 r _ i)) (Fin.ext (by dsimp only; omega))

/-- The values in lanes. -/
theorem v_out (r : Fin 4096) (d : Fin 512) :
    val_main_v21 (F := Ideal) x0 x1 x2 x3 (ix2 r d) = col (row x0 x1 x2 r) (ext (wt x3)) ⟨2048 + d, by omega⟩ := by
  rw [ext_v _ _ _ ⟨1280 + (d / 128 * 64 + d % 64), by omega⟩ (by dsimp only; omega) (by dsimp only; omega)]
  have z := v_head x0 x1 x2 x3 r ⟨d / 128, by omega⟩ ⟨d % 64, by omega⟩
  rw [← z]
  unfold val_main_v21 val_main_v20 val_main_v15
  generalize val_main_v12 (F := Ideal) x0 x1 x2 x3 = K
  pointwise
  split_ifs <;> first
    | (exfalso; omega)
    | rfl
    | exact congrArg (fun i => K (ix3 r _ i)) (Fin.ext (by dsimp only; omega))

end Cert.Reference5Ideal.SwRef

end
-- ==== Proof.SwFinal.lean ====
/-  The arrays of the windowed attention's projection: every block is a block of the reference. -/
module

public import proofs.«01_k».proof.Proof.SwHead
public import proofs.«01_k».proof.Proof.SwHost
public import proofs.«01_k».proof.Proof.SwRef
public import proofs.«01_k».proof.Proof.Gen.Kernel5Ideal.Value

@[expose] public section

set_option maxRecDepth 16384

noncomputable section

namespace Cert.Kernel5Ideal.SwFinal

open Idealize.ShloMosaic Idealize.SL.Sem Cert.Kernel5Ideal Cert.Kernel5Ideal.Gen Cert.Kernel5Ideal.SwHead Cert.Kernel5Ideal.SwHost Cert.Pj Cert.Sw
open Cert.Reference5Ideal.SwRef (row wt)

variable (m : (ℓ : Loc nD τ sig) → Buf (Elt Ideal) ℓ) (c : Dev nD)

/-- The kernel's arguments. -/
abbrev a0 : FVec Ideal S4096x1024 .f32 := m ((c.tc : Thread nD τ).loc main_arg0)
abbrev a1 : FVec Ideal S1x1x1024 .f32 := m ((c.tc : Thread nD τ).loc main_arg1)
abbrev a2 : FVec Ideal S1x1x1024 .f32 := m ((c.tc : Thread nD τ).loc main_arg2)
abbrev a3 : FVec Ideal S1024x1536 .f32 := m ((c.tc : Thread nD τ).loc main_arg3)

/-- The blocks of a grid point `t`: 512 rows. -/
theorem idx : ∀ t : Fin cfg0.N, win0_0.index t = ![t.val, 0] ∧ win0_1.index t = ![0, 0, 0] ∧ win0_2.index t = ![0, 0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- A block's row is a row of the array. -/
theorem rows_eq (t : Fin cfg0.N) (r : Fin 512) (q : Fin 4096) (h : (q : ℕ) = t.val * 512 + r) :
    rows (iblk m c 0 t) (iblk m c 1 t) (iblk m c 2 t) r = row (a0 m c) (a1 m c) (a2 m c) q := by
  funext k
  have e0 : iblk m c 0 t (ix2 r k) = V m c main_arg0 (ix2 q k) := by blk_point [iblk, idx t]
  have e1 : iblk m c 1 t (ix3 0 0 k) = V m c main_arg1 (ix3 0 0 k) := by blk_point [iblk, idx t]
  have e2 : iblk m c 2 t (ix3 0 0 k) = V m c main_arg2 (ix3 0 0 k) := by blk_point [iblk, idx t]
  unfold rows row
  rw [e0, e1, e2, V_main_arg0, V_main_arg1, V_main_arg2]

theorem w_eq (t : Fin cfg0.N) : (fun k j => iblk m c 3 t (ix2 k j)) = ext (wt (a3 m c)) := by
  funext k j
  exact Eq.trans (by blk_point [iblk, idx t]) (w_at m c k j)

/-- One element of one block of the queries, against the reference. -/
theorem point4 (t : Fin cfg0.N) (y : S512x1024.Idx) (j : S4096x1024.Idx) (hj0 : (j 0 : ℕ) = t.val * 512 + y 0) (hj1 : (j 1 : ℕ) = y 1) :
    out0_4 (iblk m c 0 t) (iblk m c 1 t) (iblk m c 2 t) (iblk m c 3 t) y
      = Cert.Reference5Ideal.Read.val_main_v17 (F := Ideal) (a0 m c) (a1 m c) (a2 m c) (a3 m c) j := by
  refine (congrArg _ (eq_ix2 y)).trans (Eq.trans ?_ ((congrArg _ (eq_ix2 j)).trans (Cert.Reference5Ideal.SwRef.q_out _ _ _ _ (j 0) (j 1))).symm)
  refine (out4 _ _ _ _ _ _).trans ?_
  rw [rows_eq m c t _ (j 0) hj0, w_eq]
  exact congrArg _ (Fin.ext hj1.symm)

/-- The queries are the reference's. -/
theorem final4 : (dats m 0 c).arrAt 4 cfg0.N
    = Cert.Reference5Ideal.Read.val_main_v17 (F := Ideal) (a0 m c) (a1 m c) (a2 m c) (a3 m c) := by
  refine (dats m 0 c).arrAt_eq_of_covers 4 _ (by decide +kernel) fun t _ y => ?_
  blk_simp
  rw [after0_4]
  refine point4 m c t y _ ?_ ?_ <;> (blk_simp [idx t] <;> try omega)

/-- One element of one block of the keys in lanes, against the reference. -/
theorem point5 (t : Fin cfg0.N) (y : S512x1024.Idx) (j : S4096x1024.Idx) (hj0 : (j 0 : ℕ) = t.val * 512 + y 0) (hj1 : (j 1 : ℕ) = y 1) :
    out0_5 (iblk m c 0 t) (iblk m c 1 t) (iblk m c 2 t) (iblk m c 3 t) y
      = Cert.Reference5Ideal.Read.val_main_v19 (F := Ideal) (a0 m c) (a1 m c) (a2 m c) (a3 m c) j := by
  refine (congrArg _ (eq_ix2 y)).trans (Eq.trans ?_ ((congrArg _ (eq_ix2 j)).trans (Cert.Reference5Ideal.SwRef.k_out _ _ _ _ (j 0) (j 1))).symm)
  refine (out5 _ _ _ _ _ _).trans ?_
  rw [rows_eq m c t _ (j 0) hj0, w_eq]
  exact congrArg _ (Fin.ext (congrArg (1024 + ·) hj1.symm))

/-- The keys in lanes are the reference's. -/
theorem final5 : (dats m 0 c).arrAt 5 cfg0.N
    = Cert.Reference5Ideal.Read.val_main_v19 (F := Ideal) (a0 m c) (a1 m c) (a2 m c) (a3 m c) := by
  refine (dats m 0 c).arrAt_eq_of_covers 5 _ (by decide +kernel) fun t _ y => ?_
  blk_simp
  rw [after0_5]
  refine point5 m c t y _ ?_ ?_ <;> (blk_simp [idx t] <;> try omega)

/-- One element of one block of the values in lanes, against the reference. -/
theorem point6 (t : Fin cfg0.N) (y : S512x512.Idx) (j : S4096x512.Idx) (hj0 : (j 0 : ℕ) = t.val * 512 + y 0) (hj1 : (j 1 : ℕ) = y 1) :
    out0_6 (iblk m c 0 t) (iblk m c 1 t) (iblk m c 2 t) (iblk m c 3 t) y
      = Cert.Reference5Ideal.Read.val_main_v21 (F := Ideal) (a0 m c) (a1 m c) (a2 m c) (a3 m c) j := by
  refine (congrArg _ (eq_ix2 y)).trans (Eq.trans ?_ ((congrArg _ (eq_ix2 j)).trans (Cert.Reference5Ideal.SwRef.v_out _ _ _ _ (j 0) (j 1))).symm)
  refine (out6 _ _ _ _ _ _).trans ?_
  rw [rows_eq m c t _ (j 0) hj0, w_eq]
  exact congrArg _ (Fin.ext (congrArg (2048 + ·) hj1.symm))

/-- The values in lanes are the reference's. -/
theorem final6 : (dats m 0 c).arrAt 6 cfg0.N
    = Cert.Reference5Ideal.Read.val_main_v21 (F := Ideal) (a0 m c) (a1 m c) (a2 m c) (a3 m c) := by
  refine (dats m 0 c).arrAt_eq_of_covers 6 _ (by decide +kernel) fun t _ y => ?_
  blk_simp
  rw [after0_6]
  refine point6 m c t y _ ?_ ?_ <;> (blk_simp [idx t] <;> try omega)

/-- One element of one block of the keys, against the reference. -/
theorem point7 (t : Fin cfg0.N) (y : S512x256.Idx) (j : S4096x256.Idx) (hj0 : (j 0 : ℕ) = t.val * 512 + y 0) (hj1 : (j 1 : ℕ) = y 1) :
    out0_7 (iblk m c 0 t) (iblk m c 1 t) (iblk m c 2 t) (iblk m c 3 t) y
      = Cert.Reference5Ideal.Read.val_main_v22 (F := Ideal) (a0 m c) (a1 m c) (a2 m c) (a3 m c) j := by
  have hy : (y 1 : ℕ) < 256 := (y 1).isLt
  refine Eq.trans ?_ ((congrArg _ (eq_ix2 j)).trans (Cert.Reference5Ideal.SwRef.kr_out _ _ _ _ (j 0) (j 1))).symm
  refine (out7 _ _ _ _ y (y 0) ⟨1024 + ((y 1 : ℕ) / 128 * 512 + (if (y 1 : ℕ) % 128 < 64 then 0 else 384) + (y 1 : ℕ) % 128), by
    split_ifs <;> omega⟩ rfl rfl).trans ?_
  rw [rows_eq m c t _ (j 0) hj0, w_eq]
  exact ext_k _ _ _ _ (by dsimp only; split_ifs <;> omega) (by dsimp only; split_ifs <;> omega) (by dsimp only; split_ifs <;> omega) (by dsimp only; split_ifs <;> omega)

/-- The keys are the reference's. -/
theorem final7 : (dats m 0 c).arrAt 7 cfg0.N
    = Cert.Reference5Ideal.Read.val_main_v22 (F := Ideal) (a0 m c) (a1 m c) (a2 m c) (a3 m c) := by
  refine (dats m 0 c).arrAt_eq_of_covers 7 _ (by decide +kernel) fun t _ y => ?_
  blk_simp
  rw [after0_7]
  refine point7 m c t y _ ?_ ?_ <;> (blk_simp [idx t] <;> try omega)

/-- One element of one block of the values, against the reference. -/
theorem point8 (t : Fin cfg0.N) (y : S512x256.Idx) (j : S4096x256.Idx) (hj0 : (j 0 : ℕ) = t.val * 512 + y 0) (hj1 : (j 1 : ℕ) = y 1) :
    out0_8 (iblk m c 0 t) (iblk m c 1 t) (iblk m c 2 t) (iblk m c 3 t) y
      = Cert.Reference5Ideal.Read.val_main_v23 (F := Ideal) (a0 m c) (a1 m c) (a2 m c) (a3 m c) j := by
  have hy : (y 1 : ℕ) < 256 := (y 1).isLt
  refine Eq.trans ?_ ((congrArg _ (eq_ix2 j)).trans (Cert.Reference5Ideal.SwRef.vr_out _ _ _ _ (j 0) (j 1))).symm
  refine (out8 _ _ _ _ y (y 0) ⟨2048 + ((y 1 : ℕ) / 128 * 256 + (if (y 1 : ℕ) % 128 < 64 then 0 else 128) + (y 1 : ℕ) % 128), by
    split_ifs <;> omega⟩ rfl rfl).trans ?_
  rw [rows_eq m c t _ (j 0) hj0, w_eq]
  exact ext_v _ _ _ _ (by dsimp only; split_ifs <;> omega) (by dsimp only; split_ifs <;> omega)

/-- The values are the reference's. -/
theorem final8 : (dats m 0 c).arrAt 8 cfg0.N
    = Cert.Reference5Ideal.Read.val_main_v23 (F := Ideal) (a0 m c) (a1 m c) (a2 m c) (a3 m c) := by
  refine (dats m 0 c).arrAt_eq_of_covers 8 _ (by decide +kernel) fun t _ y => ?_
  blk_simp
  rw [after0_8]
  refine point8 m c t y _ ?_ ?_ <;> (blk_simp [idx t] <;> try omega)

end Cert.Kernel5Ideal.SwFinal

end
-- ==== Proof.Sw.lean ====
/-  The claims about the windowed attention's projection. -/
module

public import proofs.«01_k».proof.Defs
public import proofs.«01_k».proof.Proof.SwFinal
public import proofs.«01_k».proof.Proof.Gen.Kernel5
public import proofs.«01_k».proof.Proof.Gen.Kernel5.Frame
public import Idealize.ShloMosaic.Lib.Claim

@[expose] public section

noncomputable section

namespace Cert.Proof.Sw

open Idealize.ShloMosaic Idealize.SL.Sem
open Cert.Kernel5Ideal.SwFinal Cert.Kernel5Ideal.Value Cert.Reference5Ideal.Read

/-- The kernel runs, whatever its floats are. -/
theorem frameP : Cert.quiescent_Kernel5 := fun m ρ _ => Cert.Kernel5.Gen.frame m ρ

/-- The ideal kernel runs. -/
theorem framePI : Cert.quiescent_Kernel5Ideal := fun m ρ _ => Cert.Kernel5Ideal.Gen.frame m ρ

/-- The ideal reference runs. -/
theorem frameRI : Cert.quiescent_Reference5Ideal := fun m g _ =>
  (θ_run Cert.Reference5Ideal.defs _ _).mono (fun r h => ⟨fun c => (h c).2.2.2.2.2, sem_eq_zero_of_no_sems (by decide) r.2⟩)
    (Cert.Reference5Ideal.Value.run (F := Ideal) m g)

/-- Over the extended reals the kernel and the reference compute the same projection. -/
theorem algebraic : Cert.algebraic_Kernel5Ideal_Reference5Ideal := by
  intro m g m' g' hpre hagree
  refine ⟨fun c => val_main_v17 (F := Ideal) (a0 m c) (a1 m c) (a2 m c) (a3 m c),
    fun c => val_main_v19 (F := Ideal) (a0 m c) (a1 m c) (a2 m c) (a3 m c),
    fun c => val_main_v21 (F := Ideal) (a0 m c) (a1 m c) (a2 m c) (a3 m c),
    fun c => val_main_v22 (F := Ideal) (a0 m c) (a1 m c) (a2 m c) (a3 m c),
    fun c => val_main_v23 (F := Ideal) (a0 m c) (a1 m c) (a2 m c) (a3 m c), ?_, ?_⟩
  · refine (θ_run _ _ _).mono (fun r h c => ?_) (Cert.Kernel5Ideal.Gen.run_main m g)
    exact ⟨(post4 m r h c).trans (final4 m c),
      (post5 m r h c).trans (final5 m c),
      (post6 m r h c).trans (final6 m c),
      (post7 m r h c).trans (final7 m c),
      (post8 m r h c).trans (final8 m c),
      kept_main_arg0 m r h c, kept_main_arg1 m r h c, kept_main_arg2 m r h c, kept_main_arg3 m r h c⟩
  · refine (θ_run _ _ _).mono (fun r h c => ?_) (Cert.Reference5Ideal.Value.run m' g')
    obtain ⟨h0, h1, h2, h3⟩ := hagree c
    obtain ⟨e0, e1, e2, e3, e4, e⟩ := h c
    refine ⟨?_, ?_, ?_, ?_, ?_, e⟩
    · refine e0.trans ((val_main_v17_eq _ _ _ _).trans ?_)
      rw [h0, h1, h2, h3]
    · refine e1.trans ((val_main_v19_eq _ _ _ _).trans ?_)
      rw [h0, h1, h2, h3]
    · refine e2.trans ((val_main_v21_eq _ _ _ _).trans ?_)
      rw [h0, h1, h2, h3]
    · refine e3.trans ((val_main_v22_eq _ _ _ _).trans ?_)
      rw [h0, h1, h2, h3]
    · refine e4.trans ((val_main_v23_eq _ _ _ _).trans ?_)
      rw [h0, h1, h2, h3]

end Cert.Proof.Sw

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.Gen.ReferenceIdeal.Run
public import proofs.«01_k».proof.Proof.Gen.ReferenceIdeal.Read
public import proofs.«01_k».proof.Proof.Lat
public import proofs.«01_k».proof.Proof.Ffn
public import proofs.«01_k».proof.Proof.Gm
public import proofs.«01_k».proof.Proof.Gen.Kernel2
public import proofs.«01_k».proof.Proof.Gen.Kernel2.Skeleton
public import proofs.«01_k».proof.Proof.Gen.Kernel2.Launch
public import proofs.«01_k».proof.Proof.Gen.Kernel2.Loops
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Loops
public import proofs.«01_k».proof.Proof.Gen.Reference2Ideal
public import proofs.«01_k».proof.Proof.Gen.Pre_idx_in_range
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Adequacy
public import Idealize.ShloMosaic.Init
public import proofs.«01_k».proof.Proof.Pj
public import proofs.«01_k».proof.Proof.Sw

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite_scores.Gen.facts, Cert.Pre_idx_in_range.Gen.facts,
    Lat.frameP, Lat.framePI, Lat.framePI', Lat.frameRI, Lat.frameRI', Ffn.frameP, Ffn.framePI, Ffn.frameRI,
    Gm.frameP, Gm.framePI, Gm.frameRI, Pj.frameP, Pj.framePI, Pj.frameRI, Sw.frameP, Sw.framePI, Sw.frameRI,
    trivial, Lat.algebraic, trivial, Ffn.algebraic, trivial, Gm.algebraic,
    trivial, Pj.algebraic, trivial, Sw.algebraic⟩

end Cert.Proof

end
